-- ==== Defs.lean ====
def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13)) (m ((c.tc : Thread Cert.Reference10Ideal.nD Cert.Reference10Ideal.τ).loc Cert.Reference10Ideal.main_arg14))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_logits_finite [hPre_logits_finite : Cert.Pre_logits_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_logits_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_logits_finite [hPre_logits_finite : Cert.Pre_logits_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_logits_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_logits_finite [hKernel11Ideal : Cert.Kernel11Ideal.Facts] [hPre_logits_finite : Cert.Pre_logits_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_logits_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_logits_finite [hReference11Ideal : Cert.Reference11Ideal.Facts] [hPre_logits_finite : Cert.Pre_logits_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_logits_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v82) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14))

def preserves_Kernel11_Kernel11Ideal : Prop :=
  True

def algebraic_Kernel11Ideal_Reference11Ideal_pre_logits_finite [hKernel11Ideal : Cert.Kernel11Ideal.Facts] [hReference11Ideal : Cert.Reference11Ideal.Facts] [hPre_logits_finite : Cert.Pre_logits_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_logits_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_in_range : Cert.Pre_in_range.Facts) (hPre_finite : Cert.Pre_finite.Facts) (hPre_logits_finite : Cert.Pre_logits_finite.Facts),
    quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ quiescent_Kernel11 (hKernel11 := hKernel11)
    ∧ quiescent_Kernel11Ideal (hKernel11Ideal := hKernel11Ideal)
    ∧ quiescent_Kernel11Ideal_pre_logits_finite (hKernel11Ideal := hKernel11Ideal) (hPre_logits_finite := hPre_logits_finite)
    ∧ quiescent_Reference11Ideal (hReference11Ideal := hReference11Ideal)
    ∧ quiescent_Reference11Ideal_pre_logits_finite (hReference11Ideal := hReference11Ideal) (hPre_logits_finite := hPre_logits_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
    ∧ preserves_Kernel11_Kernel11Ideal
    ∧ algebraic_Kernel11Ideal_Reference11Ideal_pre_logits_finite (hKernel11Ideal := hKernel11Ideal) (hReference11Ideal := hReference11Ideal) (hPre_logits_finite := hPre_logits_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4x4352x1024 : Shape := ⟨3, ![4, 4352, 1024]⟩
abbrev S4x4352x3072 : Shape := ⟨3, ![4, 4352, 3072]⟩
abbrev S4x4352x2048 : Shape := ⟨3, ![4, 4352, 2048]⟩
abbrev S4x2x8x1024 : Shape := ⟨4, ![4, 2, 8, 1024]⟩
abbrev S1024 : Shape := ⟨1, ![1024]⟩
abbrev S1024x1024 : Shape := ⟨2, ![1024, 1024]⟩
abbrev S_ : Shape := ⟨0, ![]⟩

class Facts : Prop where
  bcast_S_S4x4352x1024 : S_.BroadcastsInDim S4x4352x1024 (![] : Fin 0 → Fin S4x4352x1024.rank)
  reducesTo_S4x4352x1024_S_d0_1_2 : S4x4352x1024.ReducesTo [0, 1, 2] S_
  h_S_ : 0 < S_.numel

variable [Facts]

def fn {F : FTy → Type} [FloatOps F] (main_arg0 : FVec F S4x4352x1024 .f32) (main_arg1 : FVec F S4x4352x1024 .f32) (main_arg2 : FVec F S4x4352x3072 .f32) (main_arg3 : FVec F S4x4352x1024 .f32) (main_arg4 : FVec F S4x4352x1024 .f32) (main_arg5 : FVec F S4x4352x1024 .f32) (main_arg6 : FVec F S4x4352x2048 .f32) (main_arg7 : FVec F S4x4352x1024 .f32) (main_arg8 : FVec F S4x2x8x1024 .f32) (main_arg9 : FVec F S1024 .f32) (main_arg10 : FVec F S1024 .f32) (main_arg11 : FVec F S1024 .f32) (main_arg12 : FVec F S1024x1024 .f32) (main_arg13 : FVec F S1024x1024 .f32) (main_arg14 : FVec F S1024x1024 .f32) : IVec S_ 1 :=
  let main_v0 : FVec F S4x4352x1024 .f32 := addf main_arg0 main_arg1
  let main_v1 : FVec F S4x4352x1024 .f32 := Host.absf main_v0
  let main_cst : FVec F S_ .f32 := constant S_ .f32 0x7F800000#32
  let main_v2 : FVec F S4x4352x1024 .f32 := broadcastInDim S4x4352x1024 ![] bcast_S_S4x4352x1024 main_cst
  let main_v3 : IVec S4x4352x1024 1 := cmpf .olt main_v1 main_v2
  let main_c : IVec S_ 1 := constantI S_ 1 1#1
  let main_v4 : IVec S_ 1 := (fun x v => Host.reduce IntOp.andi x v reducesTo_S4x4352x1024_S_d0_1_2 h_S_) main_v3 main_c
  let main_v5 : FVec F S4x4352x1024 .f32 := Host.absf main_arg3
  let main_cst_0 : FVec F S_ .f32 := constant S_ .f32 0x7F800000#32
  let main_v6 : FVec F S4x4352x1024 .f32 := broadcastInDim S4x4352x1024 ![] bcast_S_S4x4352x1024 main_cst_0
  let main_v7 : IVec S4x4352x1024 1 := cmpf .olt main_v5 main_v6
  let main_c_1 : IVec S_ 1 := constantI S_ 1 1#1
  let main_v8 : IVec S_ 1 := (fun x v => Host.reduce IntOp.andi x v reducesTo_S4x4352x1024_S_d0_1_2 h_S_) main_v7 main_c_1
  let main_v9 : IVec S_ 1 := andi main_v4 main_v8
  main_v9
-- ==== Pre_in_range.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S1 32) (main_arg2 : FVec F S36864x1024 .f32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_logits_finite.lean ====
abbrev S4x4096x1024 : Shape := ⟨3, ![4, 4096, 1024]⟩
abbrev S1024 : Shape := ⟨1, ![1024]⟩
abbrev S4x2x8x1024 : Shape := ⟨4, ![4, 2, 8, 1024]⟩
abbrev S1024x8 : Shape := ⟨2, ![1024, 8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S16384x1024 : Shape := ⟨2, ![16384, 1024]⟩
abbrev S16384x8 : Shape := ⟨2, ![16384, 8]⟩

class Facts : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  slices_S4x2x8x1024_S4x1x1x1024_0_1_3_0 : S4x2x8x1024.Slices ![0, 1, 3, 0] S4x1x1x1024
  shapeCasts_S4x1x1x1024_S4x1024 : S4x1x1x1024.ShapeCasts S4x1024
  bcast_S4x1024_S4x1x1024_0_2 : S4x1024.BroadcastsInDim S4x1x1024 (![0, 2] : Fin 2 → Fin S4x1x1024.rank)
  slices_S4x2x8x1024_S4x1x1x1024_0_1_4_0 : S4x2x8x1024.Slices ![0, 1, 4, 0] S4x1x1x1024
  bcast_S_S4x1x1024 : S_.BroadcastsInDim S4x1x1024 (![] : Fin 0 → Fin S4x1x1024.rank)
  bcast_S4x1x1024_S4x4096x1024_0_1_2 : S4x1x1024.BroadcastsInDim S4x4096x1024 (![0, 1, 2] : Fin 3 → Fin S4x4096x1024.rank)
  shapeCasts_S4x4096x1024_S16384x1024 : S4x4096x1024.ShapeCasts S16384x1024
  bcast_S_S16384x8 : S_.BroadcastsInDim S16384x8 (![] : Fin 0 → Fin S16384x8.rank)
  reducesTo_S16384x8_S_d0_1 : S16384x8.ReducesTo [0, 1] S_
  dot_S16384x1024_S1024x8_S16384x8_1_0_0_1_n_n_wf : DotDims.WF S16384x1024 S1024x8 S16384x8 [1] [0] [0] [1] [] []

variable [Facts]

def dot_S16384x1024_S1024x8_S16384x8_1_0_0_1_n_n : DotDims S16384x1024 S1024x8 S16384x8 where
  lhsContracting := [1]
  rhsContracting := [0]
  lhsNonContracting := [0]
  rhsNonContracting := [1]
  lhsBatch := []
  rhsBatch := []
  wf := dot_S16384x1024_S1024x8_S16384x8_1_0_0_1_n_n_wf
def fn_part1 {F : FTy → Type} [FloatOps F] (main_arg3 : FVec F S1024x8 .f32) (main_v12 : FVec F S4x4096x1024 .f32) (main_v15 : FVec F S4x1x1024 .f32) (main_v18 : FVec F S4x1x1024 .f32) (main_v19 : FVec F S4x1x1024 .f32) : IVec S_ 1 :=
  let main_v20 : FVec F S4x1x1024 .f32 := addf main_v19 main_v18
  let main_v21 : FVec F S4x4096x1024 .f32 := broadcastInDim S4x4096x1024 ![0, 1, 2] bcast_S4x1x1024_S4x4096x1024_0_1_2 main_v20
  let main_v22 : FVec F S4x4096x1024 .f32 := mulf main_v12 main_v21
  let main_v23 : FVec F S4x4096x1024 .f32 := broadcastInDim S4x4096x1024 ![0, 1, 2] bcast_S4x1x1024_S4x4096x1024_0_1_2 main_v15
  let main_v24 : FVec F S4x4096x1024 .f32 := addf main_v22 main_v23
  let main_v25 : FVec F S16384x1024 .f32 := shapeCast S16384x1024 main_v24 shapeCasts_S4x4096x1024_S16384x1024
  let main_v26 : FVec F S16384x8 .f32 := (fun l r => Host.dotGeneral dot_S16384x1024_S1024x8_S16384x8_1_0_0_1_n_n none l r) main_v25 main_arg3
  let main_v27 : FVec F S16384x8 .f32 := Host.absf main_v26
  let main_cst_3 : FVec F S_ .f32 := constant S_ .f32 0x7F800000#32
  let main_v28 : FVec F S16384x8 .f32 := broadcastInDim S16384x8 ![] bcast_S_S16384x8 main_cst_3
  let main_v29 : IVec S16384x8 1 := cmpf .olt main_v27 main_v28
  let main_c : IVec S_ 1 := constantI S_ 1 1#1
  let main_v30 : IVec S_ 1 := (fun x v => Host.reduce IntOp.andi x v reducesTo_S16384x8_S_d0_1 h_S_) main_v29 main_c
  main_v30

def fn {F : FTy → Type} [FloatOps F] (main_arg0 : FVec F S4x4096x1024 .f32) (main_arg1 : FVec F S1024 .f32) (main_arg2 : FVec F S4x2x8x1024 .f32) (main_arg3 : FVec F S1024x8 .f32) : IVec S_ 1 :=
  let main_v0 : FVec F S4x4096x1024 .f32 := mulf main_arg0 main_arg0
  let main_cst : FVec F S_ .f32 := constant S_ .f32 0x00000000#32
  let main_v1 : FVec F S4x4096 .f32 := (fun x v => Host.reduceAdd x v reducesTo_S4x4096x1024_S4x4096_d2 h_S_) main_v0 main_cst
  let main_v2 : FVec F S4x4096x1 .f32 := broadcastInDim S4x4096x1 ![0, 1] bcast_S4x4096_S4x4096x1_0_1 main_v1
  let main_cst_0 : FVec F S_ .f32 := constant S_ .f32 0x44800000#32
  let main_v3 : FVec F S4x4096x1 .f32 := broadcastInDim S4x4096x1 ![] bcast_S_S4x4096x1 main_cst_0
  let main_v4 : FVec F S4x4096x1 .f32 := Host.divf main_v2 main_v3
  let main_cst_1 : FVec F S_ .f32 := constant S_ .f32 0x358637BD#32
  let main_v5 : FVec F S4x4096x1 .f32 := broadcastInDim S4x4096x1 ![] bcast_S_S4x4096x1 main_cst_1
  let main_v6 : FVec F S4x4096x1 .f32 := addf main_v4 main_v5
  let main_v7 : FVec F S4x4096x1 .f32 := Host.rsqrt main_v6
  let main_v8 : FVec F S4x4096x1024 .f32 := broadcastInDim S4x4096x1024 ![0, 1, 2] bcast_S4x4096x1_S4x4096x1024_0_1_2 main_v7
  let main_v9 : FVec F S4x4096x1024 .f32 := mulf main_arg0 main_v8
  let main_v10 : FVec F S1x1x1024 .f32 := broadcastInDim S1x1x1024 ![2] bcast_S1024_S1x1x1024_2 main_arg1
  let main_v11 : FVec F S4x4096x1024 .f32 := broadcastInDim S4x4096x1024 ![0, 1, 2] bcast_S1x1x1024_S4x4096x1024_0_1_2 main_v10
  let main_v12 : FVec F S4x4096x1024 .f32 := mulf main_v9 main_v11
  let main_v13 : FVec F S4x1x1x1024 .f32 := (extractStridedSlice S4x1x1x1024 ![0, 1, 3, 0] · slices_S4x2x8x1024_S4x1x1x1024_0_1_3_0) main_arg2
  let main_v14 : FVec F S4x1024 .f32 := shapeCast S4x1024 main_v13 shapeCasts_S4x1x1x1024_S4x1024
  let main_v15 : FVec F S4x1x1024 .f32 := broadcastInDim S4x1x1024 ![0, 2] bcast_S4x1024_S4x1x1024_0_2 main_v14
  let main_v16 : FVec F S4x1x1x1024 .f32 := (extractStridedSlice S4x1x1x1024 ![0, 1, 4, 0] · slices_S4x2x8x1024_S4x1x1x1024_0_1_4_0) main_arg2
  let main_v17 : FVec F S4x1024 .f32 := shapeCast S4x1024 main_v16 shapeCasts_S4x1x1x1024_S4x1024
  let main_v18 : FVec F S4x1x1024 .f32 := broadcastInDim S4x1x1024 ![0, 2] bcast_S4x1024_S4x1x1024_0_2 main_v17
  let main_cst_2 : FVec F S_ .f32 := constant S_ .f32 0x3F800000#32
  let main_v19 : FVec F S4x1x1024 .f32 := broadcastInDim S4x1x1024 ![] bcast_S_S4x1x1024 main_cst_2
  fn_part1 (F := F) main_arg3 main_v12 main_v15 main_v18 main_v19
-- ==== Kernel2.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v2 : BitVec 1 := Scalar.cmpi .eq arg1 c1_i32
  let v9 : BitVec 1 := Scalar.andi v1 v2
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c1_i32 : BitVec 32 := 1#32
  let v2 : BitVec 1 := Scalar.cmpi .eq arg1 c1_i32
  let v13 : BitVec 1 := Scalar.andi v12 v2
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S_ : Shape := ⟨0, ![]⟩
abbrev S72x512x8 : Shape := ⟨3, ![72, 512, 8]⟩
abbrev S36864x8 : Shape := ⟨2, ![36864, 8]⟩
abbrev S36864x1 : Shape := ⟨2, ![36864, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 211
  | .vmem => 0
  | .smem => 0
  | _ => 0

abbrev hbmTy0_0 (i : Nat) : BufTy := match i % 128 with
  | 0 => ⟨S72, .i32⟩
  | 1 => ⟨S1, .i32⟩
  | 2 => ⟨S36864x1024, .f32⟩
  | 3 => ⟨S8x1024x3584, .bf16⟩
  | 4 => ⟨S8x1024x3584, .bf16⟩
  | 5 => ⟨S8x3584x1024, .bf16⟩
  | 6 => ⟨S72, .i32⟩
  | 7 => ⟨S72x1, .i32⟩
  | 8 => ⟨S8, .i32⟩
  | 9 => ⟨S1x8, .i32⟩
  | 10 => ⟨S72x8, .i32⟩
  | 11 => ⟨S72x8, .i32⟩
  | 12 => ⟨S72x8, .i1⟩
  | 13 => ⟨S_, .i32⟩
  | 14 => ⟨S72, .i32⟩
  | 15 => ⟨S72, .i1⟩
  | 16 => ⟨S72x1, .i1⟩
  | 17 => ⟨S72x8, .i1⟩
  | 18 => ⟨S72x8, .i1⟩
  | 19 => ⟨S72x8, .f32⟩
  | 20 => ⟨S72x512x8, .f32⟩
  | 21 => ⟨S36864x8, .f32⟩
  | 22 => ⟨S8x1024x3584, .f32⟩
  | 23 => ⟨S8x1024x3584, .f32⟩
  | 24 => ⟨S8x3584x1024, .f32⟩
  | 25 => ⟨S_, .f32⟩
  | 26 => ⟨S36864x1024, .f32⟩
  | 27 => ⟨S36864x1, .f32⟩
  | 28 => ⟨S1x1024x3584, .f32⟩
  | 29 => ⟨S1024x3584, .f32⟩
  | 30 => ⟨S1x1024x3584, .f32⟩
  | 31 => ⟨S1024x3584, .f32⟩
  | 32 => ⟨S1x3584x1024, .f32⟩
  | 33 => ⟨S3584x1024, .f32⟩
  | 34 => ⟨S36864x3584, .f32⟩
  | 35 => ⟨S36864x3584, .f32⟩
  | 36 => ⟨S36864x3584, .f32⟩
  | 37 => ⟨S_, .f32⟩
  | 38 => ⟨S36864x3584, .f32⟩
  | 39 => ⟨S36864x3584, .f32⟩
  | 40 => ⟨S_, .f32⟩
  | 41 => ⟨S36864x3584, .f32⟩
  | 42 => ⟨S36864x3584, .f32⟩
  | 43 => ⟨S36864x3584, .f32⟩
  | 44 => ⟨S36864x3584, .f32⟩
  | 45 => ⟨S36864x3584, .f32⟩
  | 46 => ⟨S36864x1024, .f32⟩
  | 47 => ⟨S36864x1024, .f32⟩
  | 48 => ⟨S36864x1024, .f32⟩
  | 49 => ⟨S36864x1024, .f32⟩
  | 50 => ⟨S36864x1, .f32⟩
  | 51 => ⟨S1x1024x3584, .f32⟩
  | 52 => ⟨S1024x3584, .f32⟩
  | 53 => ⟨S1x1024x3584, .f32⟩
  | 54 => ⟨S1024x3584, .f32⟩
  | 55 => ⟨S1x3584x1024, .f32⟩
  | 56 => ⟨S3584x1024, .f32⟩
  | 57 => ⟨S36864x3584, .f32⟩
  | 58 => ⟨S36864x3584, .f32⟩
  | 59 => ⟨S36864x3584, .f32⟩
  | 60 => ⟨S_, .f32⟩
  | 61 => ⟨S36864x3584, .f32⟩
  | 62 => ⟨S36864x3584, .f32⟩
  | 63 => ⟨S_, .f32⟩
  | 64 => ⟨S36864x3584, .f32⟩
  | 65 => ⟨S36864x3584, .f32⟩
  | 66 => ⟨S36864x3584, .f32⟩
  | 67 => ⟨S36864x3584, .f32⟩
  | 68 => ⟨S36864x3584, .f32⟩
  | 69 => ⟨S36864x1024, .f32⟩
  | 70 => ⟨S36864x1024, .f32⟩
  | 71 => ⟨S36864x1024, .f32⟩
  | 72 => ⟨S36864x1024, .f32⟩
  | 73 => ⟨S36864x1, .f32⟩
  | 74 => ⟨S1x1024x3584, .f32⟩
  | 75 => ⟨S1024x3584, .f32⟩
  | 76 => ⟨S1x1024x3584, .f32⟩
  | 77 => ⟨S1024x3584, .f32⟩
  | 78 => ⟨S1x3584x1024, .f32⟩
  | 79 => ⟨S3584x1024, .f32⟩
  | 80 => ⟨S36864x3584, .f32⟩
  | 81 => ⟨S36864x3584, .f32⟩
  | 82 => ⟨S36864x3584, .f32⟩
  | 83 => ⟨S_, .f32⟩
  | 84 => ⟨S36864x3584, .f32⟩
  | 85 => ⟨S36864x3584, .f32⟩
  | 86 => ⟨S_, .f32⟩
  | 87 => ⟨S36864x3584, .f32⟩
  | 88 => ⟨S36864x3584, .f32⟩
  | 89 => ⟨S36864x3584, .f32⟩
  | 90 => ⟨S36864x3584, .f32⟩
  | 91 => ⟨S36864x3584, .f32⟩
  | 92 => ⟨S36864x1024, .f32⟩
  | 93 => ⟨S36864x1024, .f32⟩
  | 94 => ⟨S36864x1024, .f32⟩
  | 95 => ⟨S36864x1024, .f32⟩
  | 96 => ⟨S36864x1, .f32⟩
  | 97 => ⟨S1x1024x3584, .f32⟩
  | 98 => ⟨S1024x3584, .f32⟩
  | 99 => ⟨S1x1024x3584, .f32⟩
  | 100 => ⟨S1024x3584, .f32⟩
  | 101 => ⟨S1x3584x1024, .f32⟩
  | 102 => ⟨S3584x1024, .f32⟩
  | 103 => ⟨S36864x3584, .f32⟩
  | 104 => ⟨S36864x3584, .f32⟩
  | 105 => ⟨S36864x3584, .f32⟩
  | 106 => ⟨S_, .f32⟩
  | 107 => ⟨S36864x3584, .f32⟩
  | 108 => ⟨S36864x3584, .f32⟩
  | 109 => ⟨S_, .f32⟩
  | 110 => ⟨S36864x3584, .f32⟩
  | 111 => ⟨S36864x3584, .f32⟩
  | 112 => ⟨S36864x3584, .f32⟩
  | 113 => ⟨S36864x3584, .f32⟩
  | 114 => ⟨S36864x3584, .f32⟩
  | 115 => ⟨S36864x1024, .f32⟩
  | 116 => ⟨S36864x1024, .f32⟩
  | 117 => ⟨S36864x1024, .f32⟩
  | 118 => ⟨S36864x1024, .f32⟩
  | 119 => ⟨S36864x1, .f32⟩
  | 120 => ⟨S1x1024x3584, .f32⟩
  | 121 => ⟨S1024x3584, .f32⟩
  | 122 => ⟨S1x1024x3584, .f32⟩
  | 123 => ⟨S1024x3584, .f32⟩
  | 124 => ⟨S1x3584x1024, .f32⟩
  | 125 => ⟨S3584x1024, .f32⟩
  | 126 => ⟨S36864x3584, .f32⟩
  | 127 => ⟨S36864x3584, .f32⟩
  | _ => ⟨S72, .i32⟩

abbrev hbmTy0_1 (i : Nat) : BufTy := match i % 128 with
  | 0 => ⟨S36864x3584, .f32⟩
  | 1 => ⟨S_, .f32⟩
  | 2 => ⟨S36864x3584, .f32⟩
  | 3 => ⟨S36864x3584, .f32⟩
  | 4 => ⟨S_, .f32⟩
  | 5 => ⟨S36864x3584, .f32⟩
  | 6 => ⟨S36864x3584, .f32⟩
  | 7 => ⟨S36864x3584, .f32⟩
  | 8 => ⟨S36864x3584, .f32⟩
  | 9 => ⟨S36864x3584, .f32⟩
  | 10 => ⟨S36864x1024, .f32⟩
  | 11 => ⟨S36864x1024, .f32⟩
  | 12 => ⟨S36864x1024, .f32⟩
  | 13 => ⟨S36864x1024, .f32⟩
  | 14 => ⟨S36864x1, .f32⟩
  | 15 => ⟨S1x1024x3584, .f32⟩
  | 16 => ⟨S1024x3584, .f32⟩
  | 17 => ⟨S1x1024x3584, .f32⟩
  | 18 => ⟨S1024x3584, .f32⟩
  | 19 => ⟨S1x3584x1024, .f32⟩
  | 20 => ⟨S3584x1024, .f32⟩
  | 21 => ⟨S36864x3584, .f32⟩
  | 22 => ⟨S36864x3584, .f32⟩
  | 23 => ⟨S36864x3584, .f32⟩
  | 24 => ⟨S_, .f32⟩
  | 25 => ⟨S36864x3584, .f32⟩
  | 26 => ⟨S36864x3584, .f32⟩
  | 27 => ⟨S_, .f32⟩
  | 28 => ⟨S36864x3584, .f32⟩
  | 29 => ⟨S36864x3584, .f32⟩
  | 30 => ⟨S36864x3584, .f32⟩
  | 31 => ⟨S36864x3584, .f32⟩
  | 32 => ⟨S36864x3584, .f32⟩
  | 33 => ⟨S36864x1024, .f32⟩
  | 34 => ⟨S36864x1024, .f32⟩
  | 35 => ⟨S36864x1024, .f32⟩
  | 36 => ⟨S36864x1024, .f32⟩
  | 37 => ⟨S36864x1, .f32⟩
  | 38 => ⟨S1x1024x3584, .f32⟩
  | 39 => ⟨S1024x3584, .f32⟩
  | 40 => ⟨S1x1024x3584, .f32⟩
  | 41 => ⟨S1024x3584, .f32⟩
  | 42 => ⟨S1x3584x1024, .f32⟩
  | 43 => ⟨S3584x1024, .f32⟩
  | 44 => ⟨S36864x3584, .f32⟩
  | 45 => ⟨S36864x3584, .f32⟩
  | 46 => ⟨S36864x3584, .f32⟩
  | 47 => ⟨S_, .f32⟩
  | 48 => ⟨S36864x3584, .f32⟩
  | 49 => ⟨S36864x3584, .f32⟩
  | 50 => ⟨S_, .f32⟩
  | 51 => ⟨S36864x3584, .f32⟩
  | 52 => ⟨S36864x3584, .f32⟩
  | 53 => ⟨S36864x3584, .f32⟩
  | 54 => ⟨S36864x3584, .f32⟩
  | 55 => ⟨S36864x3584, .f32⟩
  | 56 => ⟨S36864x1024, .f32⟩
  | 57 => ⟨S36864x1024, .f32⟩
  | 58 => ⟨S36864x1024, .f32⟩
  | 59 => ⟨S36864x1024, .f32⟩
  | 60 => ⟨S36864x1, .f32⟩
  | 61 => ⟨S1x1024x3584, .f32⟩
  | 62 => ⟨S1024x3584, .f32⟩
  | 63 => ⟨S1x1024x3584, .f32⟩
  | 64 => ⟨S1024x3584, .f32⟩
  | 65 => ⟨S1x3584x1024, .f32⟩
  | 66 => ⟨S3584x1024, .f32⟩
  | 67 => ⟨S36864x3584, .f32⟩
  | 68 => ⟨S36864x3584, .f32⟩
  | 69 => ⟨S36864x3584, .f32⟩
  | 70 => ⟨S_, .f32⟩
  | 71 => ⟨S36864x3584, .f32⟩
  | 72 => ⟨S36864x3584, .f32⟩
  | 73 => ⟨S_, .f32⟩
  | 74 => ⟨S36864x3584, .f32⟩
  | 75 => ⟨S36864x3584, .f32⟩
  | 76 => ⟨S36864x3584, .f32⟩
  | 77 => ⟨S36864x3584, .f32⟩
  | 78 => ⟨S36864x3584, .f32⟩
  | 79 => ⟨S36864x1024, .f32⟩
  | 80 => ⟨S36864x1024, .f32⟩
  | 81 => ⟨S36864x1024, .f32⟩
  | 82 => ⟨S36864x1024, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_call6_v0 : Ref sig .tc := ⟨.hbm, 173, rfl⟩
abbrev main_call6_v1 : Ref sig .tc := ⟨.hbm, 174, rfl⟩
abbrev main_call6_cst : Ref sig .tc := ⟨.hbm, 175, rfl⟩
abbrev main_call6_v2 : Ref sig .tc := ⟨.hbm, 176, rfl⟩
abbrev main_call6_v3 : Ref sig .tc := ⟨.hbm, 177, rfl⟩
abbrev main_call6_cst_0 : Ref sig .tc := ⟨.hbm, 178, rfl⟩
abbrev main_call6_v4 : Ref sig .tc := ⟨.hbm, 179, rfl⟩
abbrev main_call6_v5 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_call7_v0 : Ref sig .tc := ⟨.hbm, 196, rfl⟩
abbrev main_call7_v1 : Ref sig .tc := ⟨.hbm, 197, rfl⟩
abbrev main_call7_cst : Ref sig .tc := ⟨.hbm, 198, rfl⟩
abbrev main_call7_v2 : Ref sig .tc := ⟨.hbm, 199, rfl⟩
abbrev main_call7_v3 : Ref sig .tc := ⟨.hbm, 200, rfl⟩
abbrev main_call7_cst_0 : Ref sig .tc := ⟨.hbm, 201, rfl⟩
abbrev main_call7_v4 : Ref sig .tc := ⟨.hbm, 202, rfl⟩
abbrev main_call7_v5 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩

abbrev nD : Nat := 1
abbrev τ : Topo := Topo.v7x

variable {F : FTy → Type} [FloatOps F]
-- ==== Kernel3.lean ====
abbrev S4x4352x1024 : Shape := ⟨3, ![4, 4352, 1024]⟩
abbrev S1024 : Shape := ⟨1, ![1024]⟩
abbrev S4x2x8x1024 : Shape := ⟨4, ![4, 2, 8, 1024]⟩
abbrev S1024x2816 : Shape := ⟨2, ![1024, 2816]⟩
abbrev S2816x1024 : Shape := ⟨2, ![2816, 1024]⟩
abbrev S1x1024 : Shape := ⟨2, ![1, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S256x2816 : Shape := ⟨2, ![256, 2816]⟩
abbrev S1x1x1x1024 : Shape := ⟨4, ![1, 1, 1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S4x2x8x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x256x1024, .f32⟩
  | .local _ .vmem, ⟨9, _⟩ => ⟨S1x256x1024, .f32⟩
  | .local _ .vmem, ⟨10, _⟩ => ⟨S256x1024, .bf16⟩
  | .local _ .vmem, ⟨11, _⟩ => ⟨S256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨3, ![4, 17, 1], ![false, false, false]⟩

def k0_cond2 (i : grid0.Coords) : BitVec 1 :=
  let arg2 : BitVec 32 := BitVec.ofNat 32 (i 2).val
  let c0_i32_17 : BitVec 32 := 0#32
  let v25 : BitVec 1 := Scalar.cmpi .eq arg2 c0_i32_17
  let v26 : BitVec 32 := Scalar.extui v25
  let c0_i32_18 : BitVec 32 := 0#32
  let v27 : BitVec 1 := Scalar.cmpi .ne v26 c0_i32_18
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .eq arg1 c16_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference3Ideal.lean ====
abbrev S4x4352x1024 : Shape := ⟨3, ![4, 4352, 1024]⟩
abbrev S1024 : Shape := ⟨1, ![1024]⟩
abbrev S4x2x8x1024 : Shape := ⟨4, ![4, 2, 8, 1024]⟩
abbrev S1024x2816 : Shape := ⟨2, ![1024, 2816]⟩
abbrev S2816x1024 : Shape := ⟨2, ![2816, 1024]⟩
abbrev S4x4096x1024 : Shape := ⟨3, ![4, 4096, 1024]⟩
abbrev S4x256x1024 : Shape := ⟨3, ![4, 256, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x256 : Shape := ⟨2, ![4, 256]⟩
abbrev S4x256x1 : Shape := ⟨3, ![4, 256, 1]⟩
abbrev S4x256x2816 : Shape := ⟨3, ![4, 256, 2816]⟩

abbrev nBuf : Space → Nat
  | .hbm => 108
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S4x2x8x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S4x4096x1024, .f32⟩
  | .hbm, ⟨7, _⟩ => ⟨S4x256x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S4x1x1x1024, .f32⟩
  | .hbm, ⟨12, _⟩ => ⟨S4x1024, .f32⟩
  | .hbm, ⟨13, _⟩ => ⟨S4x1x1024, .f32⟩
  | .hbm, ⟨14, _⟩ => ⟨S4x1x1x1024, .f32⟩
  | .hbm, ⟨15, _⟩ => ⟨S4x1024, .f32⟩
  | .hbm, ⟨16, _⟩ => ⟨S4x1x1024, .f32⟩
  | .hbm, ⟨17, _⟩ => ⟨S4x1x1x1024, .f32⟩
  | .hbm, ⟨18, _⟩ => ⟨S4x1024, .f32⟩
  | .hbm, ⟨19, _⟩ => ⟨S4x1x1024, .f32⟩
  | .hbm, ⟨20, _⟩ => ⟨S4x1x1x1024, .f32⟩
  | .hbm, ⟨21, _⟩ => ⟨S4x1024, .f32⟩
  | .hbm, ⟨22, _⟩ => ⟨S4x1x1024, .f32⟩
  | .hbm, ⟨23, _⟩ => ⟨S4x1x1x1024, .f32⟩
  | .hbm, ⟨24, _⟩ => ⟨S4x1024, .f32⟩
  | .hbm, ⟨25, _⟩ => ⟨S4x1x1024, .f32⟩
  | .hbm, ⟨26, _⟩ => ⟨S4x1x1x1024, .f32⟩
  | .hbm, ⟨27, _⟩ => ⟨S4x1024, .f32⟩
  | .hbm, ⟨28, _⟩ => ⟨S4x1x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x256x1024, .f32⟩
  | .hbm, ⟨69, _⟩ => ⟨S_, .f32⟩
  | .hbm, ⟨70, _⟩ => ⟨S4x256, .f32⟩
  | .hbm, ⟨71, _⟩ => ⟨S4x256x1, .f32⟩
  | .hbm, ⟨72, _⟩ => ⟨S_, .f32⟩
  | .hbm, ⟨73, _⟩ => ⟨S4x256x1, .f32⟩
  | .hbm, ⟨74, _⟩ => ⟨S4x256x1, .f32⟩
  | .hbm, ⟨75, _⟩ => ⟨S_, .f32⟩
  | .hbm, ⟨76, _⟩ => ⟨S4x256x1, .f32⟩
  | .hbm, ⟨77, _⟩ => ⟨S4x256x1, .f32⟩
  | .hbm, ⟨78, _⟩ => ⟨S4x256x1, .f32⟩
  | .hbm, ⟨79, _⟩ => ⟨S4x256x1024, .f32⟩
  | .hbm, ⟨80, _⟩ => ⟨S4x256x1024, .f32⟩
  | .hbm, ⟨81, _⟩ => ⟨S1x1x1024, .f32⟩
  | .hbm, ⟨82, _⟩ => ⟨S4x256x1024, .f32⟩
  | .hbm, ⟨83, _⟩ => ⟨S4x256x1024, .f32⟩
  | .hbm, ⟨84, _⟩ => ⟨S_, .f32⟩
  | .hbm, ⟨85, _⟩ => ⟨S4x1x1024, .f32⟩
  | .hbm, ⟨86, _⟩ => ⟨S4x1x1024, .f32⟩
  | .hbm, ⟨87, _⟩ => ⟨S4x256x1024, .f32⟩
  | .hbm, ⟨88, _⟩ => ⟨S4x256x1024, .f32⟩
  | .hbm, ⟨89, _⟩ => ⟨S4x256x1024, .f32⟩
  | .hbm, ⟨90, _⟩ => ⟨S4x256x1024, .f32⟩
  | .hbm, ⟨91, _⟩ => ⟨S4x256x2816, .f32⟩
  | .hbm, ⟨92, _⟩ => ⟨S4x256x2816, .f32⟩
  | .hbm, ⟨93, _⟩ => ⟨S4x256x2816, .f32⟩
  | .hbm, ⟨94, _⟩ => ⟨S_, .f32⟩
  | .hbm, ⟨95, _⟩ => ⟨S4x256x2816, .f32⟩
  | .hbm, ⟨96, _⟩ => ⟨S4x256x2816, .f32⟩
  | .hbm, ⟨97, _⟩ => ⟨S_, .f32⟩
  | .hbm, ⟨98, _⟩ => ⟨S4x256x2816, .f32⟩
  | .hbm, ⟨99, _⟩ => ⟨S4x256x2816, .f32⟩
  | .hbm, ⟨100, _⟩ => ⟨S4x256x2816, .f32⟩
  | .hbm, ⟨101, _⟩ => ⟨S4x256x2816, .f32⟩
  | .hbm, ⟨102, _⟩ => ⟨S4x256x2816, .f32⟩
  | .hbm, ⟨103, _⟩ => ⟨S4x256x1024, .f32⟩
  | .hbm, ⟨104, _⟩ => ⟨S4x256x1024, .f32⟩
  | .hbm, ⟨105, _⟩ => ⟨S4x256x1024, .f32⟩
  | .hbm, ⟨106, _⟩ => ⟨S4x256x1024, .f32⟩
  | .hbm, ⟨107, _⟩ => ⟨S4x4352x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Kernel4.lean ====
abbrev S17408x1024 : Shape := ⟨2, ![17408, 1024]⟩
abbrev S1024x8608 : Shape := ⟨2, ![1024, 8608]⟩
abbrev S1024x3072 : Shape := ⟨2, ![1024, 3072]⟩
abbrev S17408x3072 : Shape := ⟨2, ![17408, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S1024x3072, .f32⟩
  | .hbm, ⟨3, _⟩ => ⟨S1024x3072, .bf16⟩
  | .hbm, ⟨4, _⟩ => ⟨S17408x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S17408x1024 : Shape := ⟨2, ![17408, 1024]⟩
abbrev S1024x8608 : Shape := ⟨2, ![1024, 8608]⟩
abbrev S17408x8608 : Shape := ⟨2, ![17408, 8608]⟩
abbrev S17408x3072 : Shape := ⟨2, ![17408, 3072]⟩
abbrev S17408x32 : Shape := ⟨2, ![17408, 32]⟩
abbrev S17408x3456 : Shape := ⟨2, ![17408, 3456]⟩
abbrev S17408x2048 : Shape := ⟨2, ![17408, 2048]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S17408x1024, .f32⟩
  | .hbm, ⟨3, _⟩ => ⟨S17408x8608, .f32⟩
  | .hbm, ⟨4, _⟩ => ⟨S17408x3072, .f32⟩
  | .hbm, ⟨5, _⟩ => ⟨S17408x32, .f32⟩
  | .hbm, ⟨6, _⟩ => ⟨S17408x3456, .f32⟩
  | .hbm, ⟨7, _⟩ => ⟨S17408x2048, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S17408x1024 : Shape := ⟨2, ![17408, 1024]⟩
abbrev S1024x8608 : Shape := ⟨2, ![1024, 8608]⟩
abbrev S1024x3456 : Shape := ⟨2, ![1024, 3456]⟩
abbrev S17408x3456 : Shape := ⟨2, ![17408, 3456]⟩
abbrev S1024x1024 : Shape := ⟨2, ![1024, 1024]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S1024x3456, .f32⟩
  | .hbm, ⟨3, _⟩ => ⟨S1024x3456, .bf16⟩
  | .hbm, ⟨4, _⟩ => ⟨S17408x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S17408x1024 : Shape := ⟨2, ![17408, 1024]⟩
abbrev S1024x8608 : Shape := ⟨2, ![1024, 8608]⟩
abbrev S17408x8608 : Shape := ⟨2, ![17408, 8608]⟩
abbrev S17408x3072 : Shape := ⟨2, ![17408, 3072]⟩
abbrev S17408x32 : Shape := ⟨2, ![17408, 32]⟩
abbrev S17408x3456 : Shape := ⟨2, ![17408, 3456]⟩
abbrev S17408x2048 : Shape := ⟨2, ![17408, 2048]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S17408x1024, .f32⟩
  | .hbm, ⟨3, _⟩ => ⟨S17408x8608, .f32⟩
  | .hbm, ⟨4, _⟩ => ⟨S17408x3072, .f32⟩
  | .hbm, ⟨5, _⟩ => ⟨S17408x32, .f32⟩
  | .hbm, ⟨6, _⟩ => ⟨S17408x3456, .f32⟩
  | .hbm, ⟨7, _⟩ => ⟨S17408x2048, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S17408x1024 : Shape := ⟨2, ![17408, 1024]⟩
abbrev S1024x8608 : Shape := ⟨2, ![1024, 8608]⟩
abbrev S1024x2048 : Shape := ⟨2, ![1024, 2048]⟩
abbrev S17408x2048 : Shape := ⟨2, ![17408, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S1024x2048, .f32⟩
  | .hbm, ⟨3, _⟩ => ⟨S1024x2048, .bf16⟩
  | .hbm, ⟨4, _⟩ => ⟨S17408x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S17408x1024 : Shape := ⟨2, ![17408, 1024]⟩
abbrev S1024x8608 : Shape := ⟨2, ![1024, 8608]⟩
abbrev S17408x8608 : Shape := ⟨2, ![17408, 8608]⟩
abbrev S17408x3072 : Shape := ⟨2, ![17408, 3072]⟩
abbrev S17408x32 : Shape := ⟨2, ![17408, 32]⟩
abbrev S17408x3456 : Shape := ⟨2, ![17408, 3456]⟩
abbrev S17408x2048 : Shape := ⟨2, ![17408, 2048]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S1024x8608, .f32⟩
  | .hbm, ⟨2, _⟩ => ⟨S17408x1024, .f32⟩
  | .hbm, ⟨3, _⟩ => ⟨S17408x8608, .f32⟩
  | .hbm, ⟨4, _⟩ => ⟨S17408x3072, .f32⟩
  | .hbm, ⟨5, _⟩ => ⟨S17408x32, .f32⟩
  | .hbm, ⟨6, _⟩ => ⟨S17408x3456, .f32⟩
  | .hbm, ⟨7, _⟩ => ⟨S17408x2048, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S17408x1024 : Shape := ⟨2, ![17408, 1024]⟩
abbrev S1024x8608 : Shape := ⟨2, ![1024, 8608]⟩
abbrev S1024x32 : Shape := ⟨2, ![1024, 32]⟩
abbrev S1024x4x8 : Shape := ⟨3, ![1024, 4, 8]⟩
abbrev S_ : Shape := ⟨0, ![]⟩
abbrev S1024x112 : Shape := ⟨2, ![1024, 112]⟩
abbrev S1024x1x8 : Shape := ⟨3, ![1024, 1, 8]⟩
abbrev S1024x8 : Shape := ⟨2, ![1024, 8]⟩
abbrev S1024x256 : Shape := ⟨2, ![1024, 256]⟩
abbrev S17408x256 : Shape := ⟨2, ![17408, 256]⟩
abbrev S512x1024 : Shape := ⟨2, ![512, 1024]⟩
abbrev S512x256 : Shape := ⟨2, ![512, 256]⟩

abbrev nBuf : Space → Nat
  | .hbm => 16
  | .vmem => 5
  | .smem => 0
  | _ => 0

abbrev bufTy : (tb : Table) → Fin (tcTables nBuf tb) → BufTy
  | .hbm, ⟨0, _⟩ => ⟨S17408x1024, .f32⟩
  | .hbm, ⟨1, _⟩ => ⟨S1024x8608, .f32⟩
  | .hbm, ⟨2, _⟩ => ⟨S1024x32, .f32⟩
  | .hbm, ⟨3, _⟩ => ⟨S1024x4x8, .f32⟩
  | .hbm, ⟨4, _⟩ => ⟨S_, .f32⟩
  | .hbm, ⟨5, _⟩ => ⟨S1024x112, .f32⟩
  | .hbm, ⟨6, _⟩ => ⟨S1024x1x8, .f32⟩
  | .hbm, ⟨7, _⟩ => ⟨S1024x8, .f32⟩
  | .hbm, ⟨8, _⟩ => ⟨S1024x1x8, .f32⟩
  | .hbm, ⟨9, _⟩ => ⟨S1024x8, .f32⟩
  | .hbm, ⟨10, _⟩ => ⟨S1024x1x8, .f32⟩
  | .hbm, ⟨11, _⟩ => ⟨S1024x8, .f32⟩
  | .hbm, ⟨12, _⟩ => ⟨S1024x1x8, .f32⟩
  | .hbm, ⟨13, _⟩ => ⟨S1024x8, .f32⟩
  | .hbm, ⟨14, _⟩ => ⟨S1024x256, .f32⟩
  | .hbm, ⟨15, _⟩ => ⟨S17408x256, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S512x256, .f32⟩
  | .local _ .vmem, ⟨4, _⟩ => ⟨S512x256, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S17408x1024 : Shape := ⟨2, ![17408, 1024]⟩
abbrev S1024x8608 : Shape := ⟨2, ![1024, 8608]⟩
abbrev S17408x8608 : Shape := ⟨2, ![17408, 8608]⟩
abbrev S17408x3072 : Shape := ⟨2, ![17408, 3072]⟩
abbrev S17408x32 : Shape := ⟨2, ![17408, 32]⟩
abbrev S17408x3456 : Shape := ⟨2, ![17408, 3456]⟩
abbrev S17408x2048 : Shape := ⟨2, ![17408, 2048]⟩
abbrev S17408x4x8 : Shape := ⟨3, ![17408, 4, 8]⟩
abbrev S_ : Shape := ⟨0, ![]⟩
abbrev S17408x112 : Shape := ⟨2, ![17408, 112]⟩
abbrev S17408x1x8 : Shape := ⟨3, ![17408, 1, 8]⟩
abbrev S17408x8 : Shape := ⟨2, ![17408, 8]⟩
abbrev S17408x256 : Shape := ⟨2, ![17408, 256]⟩

abbrev nBuf : Space → Nat
  | .hbm => 19
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024x8608, .f32⟩
  | .hbm, ⟨2, _⟩ => ⟨S17408x8608, .f32⟩
  | .hbm, ⟨3, _⟩ => ⟨S17408x3072, .f32⟩
  | .hbm, ⟨4, _⟩ => ⟨S17408x32, .f32⟩
  | .hbm, ⟨5, _⟩ => ⟨S17408x3456, .f32⟩
  | .hbm, ⟨6, _⟩ => ⟨S17408x2048, .f32⟩
  | .hbm, ⟨7, _⟩ => ⟨S17408x4x8, .f32⟩
  | .hbm, ⟨8, _⟩ => ⟨S_, .f32⟩
  | .hbm, ⟨9, _⟩ => ⟨S17408x112, .f32⟩
  | .hbm, ⟨10, _⟩ => ⟨S17408x1x8, .f32⟩
  | .hbm, ⟨11, _⟩ => ⟨S17408x8, .f32⟩
  | .hbm, ⟨12, _⟩ => ⟨S17408x1x8, .f32⟩
  | .hbm, ⟨13, _⟩ => ⟨S17408x8, .f32⟩
  | .hbm, ⟨14, _⟩ => ⟨S17408x1x8, .f32⟩
  | .hbm, ⟨15, _⟩ => ⟨S17408x8, .f32⟩
  | .hbm, ⟨16, _⟩ => ⟨S17408x1x8, .f32⟩
  | .hbm, ⟨17, _⟩ => ⟨S17408x8, .f32⟩
  | .hbm, ⟨18, _⟩ => ⟨S17408x256, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel8.lean ====
abbrev S4x4352x1024 : Shape := ⟨3, ![4, 4352, 1024]⟩
abbrev S1024 : Shape := ⟨1, ![1024]⟩
abbrev S4x2x8x1024 : Shape := ⟨4, ![4, 2, 8, 1024]⟩
abbrev S1x1024 : Shape := ⟨2, ![1, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S4x2x8x1024, .f32⟩
  | .hbm, ⟨3, _⟩ => ⟨S1x1024, .f32⟩
  | .hbm, ⟨4, _⟩ => ⟨S4x4352x1024, .bf16⟩
  | .hbm, ⟨5, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .f32⟩
  | .local _ .vmem, ⟨8, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x4352x1024 : Shape := ⟨3, ![4, 4352, 1024]⟩
abbrev S1024 : Shape := ⟨1, ![1024]⟩
abbrev S4x2x8x1024 : Shape := ⟨4, ![4, 2, 8, 1024]⟩
abbrev S4x4096x1024 : Shape := ⟨3, ![4, 4096, 1024]⟩
abbrev S4x256x1024 : Shape := ⟨3, ![4, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256 : Shape := ⟨2, ![4, 256]⟩
abbrev S4x256x1 : Shape := ⟨3, ![4, 256, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S4x2x8x1024, .f32⟩
  | .hbm, ⟨3, _⟩ => ⟨S4x4096x1024, .f32⟩
  | .hbm, ⟨4, _⟩ => ⟨S4x256x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1x1024, .f32⟩
  | .hbm, ⟨22, _⟩ => ⟨S4x1024, .f32⟩
  | .hbm, ⟨23, _⟩ => ⟨S4x1x1024, .f32⟩
  | .hbm, ⟨24, _⟩ => ⟨S4x1x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x256x1024, .f32⟩
  | .hbm, ⟨35, _⟩ => ⟨S_, .f32⟩
  | .hbm, ⟨36, _⟩ => ⟨S4x256, .f32⟩
  | .hbm, ⟨37, _⟩ => ⟨S4x256x1, .f32⟩
  | .hbm, ⟨38, _⟩ => ⟨S_, .f32⟩
  | .hbm, ⟨39, _⟩ => ⟨S4x256x1, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S4x256x1, .f32⟩
  | .hbm, ⟨45, _⟩ => ⟨S4x256x1024, .f32⟩
  | .hbm, ⟨46, _⟩ => ⟨S4x256x1024, .f32⟩
  | .hbm, ⟨47, _⟩ => ⟨S1x1x1024, .f32⟩
  | .hbm, ⟨48, _⟩ => ⟨S4x256x1024, .f32⟩
  | .hbm, ⟨49, _⟩ => ⟨S4x256x1024, .f32⟩
  | .hbm, ⟨50, _⟩ => ⟨S4x1x1x1024, .f32⟩
  | .hbm, ⟨51, _⟩ => ⟨S4x1024, .f32⟩
  | .hbm, ⟨52, _⟩ => ⟨S4x1x1024, .f32⟩
  | .hbm, ⟨53, _⟩ => ⟨S4x1x1x1024, .f32⟩
  | .hbm, ⟨54, _⟩ => ⟨S4x1024, .f32⟩
  | .hbm, ⟨55, _⟩ => ⟨S4x1x1024, .f32⟩
  | .hbm, ⟨56, _⟩ => ⟨S_, .f32⟩
  | .hbm, ⟨57, _⟩ => ⟨S4x1x1024, .f32⟩
  | .hbm, ⟨58, _⟩ => ⟨S4x1x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x4352x1024, .f32⟩
  | .hbm, ⟨64, _⟩ => ⟨S4x4352x1024, .bf16⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel9.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S3x6144 : Shape := ⟨2, ![3, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 63
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S4x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4x6144, .f32⟩
  | .hbm, ⟨29, _⟩ => ⟨S4x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S1x6144, .f32⟩
  | .hbm, ⟨38, _⟩ => ⟨S6144, .f32⟩
  | .hbm, ⟨39, _⟩ => ⟨S3x6144, .f32⟩
  | .hbm, ⟨40, _⟩ => ⟨S8x6144, .f32⟩
  | .hbm, ⟨41, _⟩ => ⟨S1x1024x6144, .f32⟩
  | .hbm, ⟨42, _⟩ => ⟨S1024x6144, .f32⟩
  | .hbm, ⟨43, _⟩ => ⟨S4x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S4x6144, .f32⟩
  | .hbm, ⟨48, _⟩ => ⟨S4x6144, .f32⟩
  | .hbm, ⟨49, _⟩ => ⟨S1x1024x6144, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S1x6144, .f32⟩
  | .hbm, ⟨57, _⟩ => ⟨S6144, .f32⟩
  | .hbm, ⟨58, _⟩ => ⟨S3x6144, .f32⟩
  | .hbm, ⟨59, _⟩ => ⟨S8x6144, .f32⟩
  | .hbm, ⟨60, _⟩ => ⟨S1x8x6144, .f32⟩
  | .hbm, ⟨61, _⟩ => ⟨S1x8x6144, .f32⟩
  | .hbm, ⟨62, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel10.lean ====
abbrev S4x4352x1024 : Shape := ⟨3, ![4, 4352, 1024]⟩
abbrev S4x4352x3072 : Shape := ⟨3, ![4, 4352, 3072]⟩
abbrev S4x4352x2048 : Shape := ⟨3, ![4, 4352, 2048]⟩
abbrev S4x2x8x1024 : Shape := ⟨4, ![4, 2, 8, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S1x256x2048 : Shape := ⟨3, ![1, 256, 2048]⟩
abbrev S1x1x8x1024 : Shape := ⟨4, ![1, 1, 8, 1024]⟩
abbrev S256x1024 : Shape := ⟨2, ![256, 1024]⟩
abbrev S256x256 : Shape := ⟨2, ![256, 256]⟩
abbrev S256x2048 : Shape := ⟨2, ![256, 2048]⟩
abbrev S1x1x1x1024 : Shape := ⟨4, ![1, 1, 1, 1024]⟩

abbrev nBuf : Space → Nat
  | .hbm => 22
  | .vmem => 26
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x3072, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S4x4352x2048, .f32⟩
  | .hbm, ⟨7, _⟩ => ⟨S4x4352x1024, .f32⟩
  | .hbm, ⟨8, _⟩ => ⟨S4x2x8x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x2048, .f32⟩
  | .local _ .vmem, ⟨13, _⟩ => ⟨S1x256x2048, .f32⟩
  | .local _ .vmem, ⟨14, _⟩ => ⟨S1x256x1024, .f32⟩
  | .local _ .vmem, ⟨15, _⟩ => ⟨S1x256x1024, .f32⟩
  | .local _ .vmem, ⟨16, _⟩ => ⟨S1x1x8x1024, .f32⟩
  | .local _ .vmem, ⟨17, _⟩ => ⟨S1x1x8x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference10Ideal.lean ====
abbrev S4x4352x1024 : Shape := ⟨3, ![4, 4352, 1024]⟩
abbrev S4x4352x3072 : Shape := ⟨3, ![4, 4352, 3072]⟩
abbrev S4x4352x2048 : Shape := ⟨3, ![4, 4352, 2048]⟩
abbrev S4x2x8x1024 : Shape := ⟨4, ![4, 2, 8, 1024]⟩
abbrev S1024 : Shape := ⟨1, ![1024]⟩
abbrev S1024x1024 : Shape := ⟨2, ![1024, 1024]⟩
abbrev S4x4352x8x128 : Shape := ⟨4, ![4, 4352, 8, 128]⟩
abbrev S_ : Shape := ⟨0, ![]⟩
abbrev S4x4352x8 : Shape := ⟨3, ![4, 4352, 8]⟩
abbrev S4x4352x8x1 : Shape := ⟨4, ![4, 4352, 8, 1]⟩
abbrev S1x1x1024 : Shape := ⟨3, ![1, 1, 1024]⟩
abbrev S4x4352x16x64 : Shape := ⟨4, ![4, 4352, 16, 64]⟩
abbrev S4x4352x16 : Shape := ⟨3, ![4, 4352, 16]⟩
abbrev S4x4352x16x1 : Shape := ⟨4, ![4, 4352, 16, 1]⟩
abbrev S4x4096x1024 : Shape := ⟨3, ![4, 4096, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x256x1024 : Shape := ⟨3, ![4, 256, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .f32⟩
  | .hbm, ⟨2, _⟩ => ⟨S4x4352x3072, .f32⟩
  | .hbm, ⟨3, _⟩ => ⟨S4x4352x1024, .f32⟩
  | .hbm, ⟨4, _⟩ => ⟨S4x4352x1024, .f32⟩
  | .hbm, ⟨5, _⟩ => ⟨S4x4352x1024, .f32⟩
  | .hbm, ⟨6, _⟩ => ⟨S4x4352x2048, .f32⟩
  | .hbm, ⟨7, _⟩ => ⟨S4x4352x1024, .f32⟩
  | .hbm, ⟨8, _⟩ => ⟨S4x2x8x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4x4352x1024, .f32⟩
  | .hbm, ⟨16, _⟩ => ⟨S4x4352x8x128, .f32⟩
  | .hbm, ⟨17, _⟩ => ⟨S4x4352x8x128, .f32⟩
  | .hbm, ⟨18, _⟩ => ⟨S_, .f32⟩
  | .hbm, ⟨19, _⟩ => ⟨S4x4352x8, .f32⟩
  | .hbm, ⟨20, _⟩ => ⟨S4x4352x8x1, .f32⟩
  | .hbm, ⟨21, _⟩ => ⟨S_, .f32⟩
  | .hbm, ⟨22, _⟩ => ⟨S4x4352x8x1, .f32⟩
  | .hbm, ⟨23, _⟩ => ⟨S4x4352x8x1, .f32⟩
  | .hbm, ⟨24, _⟩ => ⟨S_, .f32⟩
  | .hbm, ⟨25, _⟩ => ⟨S4x4352x8x1, .f32⟩
  | .hbm, ⟨26, _⟩ => ⟨S4x4352x8x1, .f32⟩
  | .hbm, ⟨27, _⟩ => ⟨S4x4352x8x1, .f32⟩
  | .hbm, ⟨28, _⟩ => ⟨S4x4352x8x128, .f32⟩
  | .hbm, ⟨29, _⟩ => ⟨S4x4352x8x128, .f32⟩
  | .hbm, ⟨30, _⟩ => ⟨S4x4352x1024, .f32⟩
  | .hbm, ⟨31, _⟩ => ⟨S1x1x1024, .f32⟩
  | .hbm, ⟨32, _⟩ => ⟨S4x4352x1024, .f32⟩
  | .hbm, ⟨33, _⟩ => ⟨S4x4352x1024, .f32⟩
  | .hbm, ⟨34, _⟩ => ⟨S4x4352x1024, .f32⟩
  | .hbm, ⟨35, _⟩ => ⟨S4x4352x1024, .f32⟩
  | .hbm, ⟨36, _⟩ => ⟨S4x4352x1024, .f32⟩
  | .hbm, ⟨37, _⟩ => ⟨S_, .f32⟩
  | .hbm, ⟨38, _⟩ => ⟨S4x4352x1024, .f32⟩
  | .hbm, ⟨39, _⟩ => ⟨S4x4352x1024, .f32⟩
  | .hbm, ⟨40, _⟩ => ⟨S_, .f32⟩
  | .hbm, ⟨41, _⟩ => ⟨S4x4352x1024, .f32⟩
  | .hbm, ⟨42, _⟩ => ⟨S4x4352x1024, .f32⟩
  | .hbm, ⟨43, _⟩ => ⟨S4x4352x1024, .f32⟩
  | .hbm, ⟨44, _⟩ => ⟨S4x4352x1024, .f32⟩
  | .hbm, ⟨45, _⟩ => ⟨S4x4352x16x64, .f32⟩
  | .hbm, ⟨46, _⟩ => ⟨S_, .f32⟩
  | .hbm, ⟨47, _⟩ => ⟨S4x4352x16, .f32⟩
  | .hbm, ⟨48, _⟩ => ⟨S4x4352x16x1, .f32⟩
  | .hbm, ⟨49, _⟩ => ⟨S_, .f32⟩
  | .hbm, ⟨50, _⟩ => ⟨S4x4352x16x1, .f32⟩
  | .hbm, ⟨51, _⟩ => ⟨S4x4352x16x1, .f32⟩
  | .hbm, ⟨52, _⟩ => ⟨S4x4352x16x64, .f32⟩
  | .hbm, ⟨53, _⟩ => ⟨S4x4352x16x64, .f32⟩
  | .hbm, ⟨54, _⟩ => ⟨S4x4352x16x64, .f32⟩
  | .hbm, ⟨55, _⟩ => ⟨S_, .f32⟩
  | .hbm, ⟨56, _⟩ => ⟨S4x4352x16, .f32⟩
  | .hbm, ⟨57, _⟩ => ⟨S4x4352x16x1, .f32⟩
  | .hbm, ⟨58, _⟩ => ⟨S_, .f32⟩
  | .hbm, ⟨59, _⟩ => ⟨S4x4352x16x1, .f32⟩
  | .hbm, ⟨60, _⟩ => ⟨S4x4352x16x1, .f32⟩
  | .hbm, ⟨61, _⟩ => ⟨S4x4352x16x64, .f32⟩
  | .hbm, ⟨62, _⟩ => ⟨S4x4352x16x64, .f32⟩
  | .hbm, ⟨63, _⟩ => ⟨S_, .f32⟩
  | .hbm, ⟨64, _⟩ => ⟨S4x4352x16x1, .f32⟩
  | .hbm, ⟨65, _⟩ => ⟨S4x4352x16x1, .f32⟩
  | .hbm, ⟨66, _⟩ => ⟨S4x4352x16x1, .f32⟩
  | .hbm, ⟨67, _⟩ => ⟨S4x4352x16x64, .f32⟩
  | .hbm, ⟨68, _⟩ => ⟨S4x4352x16x64, .f32⟩
  | .hbm, ⟨69, _⟩ => ⟨S4x4352x1024, .f32⟩
  | .hbm, ⟨70, _⟩ => ⟨S1x1x1024, .f32⟩
  | .hbm, ⟨71, _⟩ => ⟨S4x4352x1024, .f32⟩
  | .hbm, ⟨72, _⟩ => ⟨S4x4352x1024, .f32⟩
  | .hbm, ⟨73, _⟩ => ⟨S1x1x1024, .f32⟩
  | .hbm, ⟨74, _⟩ => ⟨S4x4352x1024, .f32⟩
  | .hbm, ⟨75, _⟩ => ⟨S4x4352x1024, .f32⟩
  | .hbm, ⟨76, _⟩ => ⟨S4x4352x1024, .f32⟩
  | .hbm, ⟨77, _⟩ => ⟨S4x4352x1024, .f32⟩
  | .hbm, ⟨78, _⟩ => ⟨S4x4352x1024, .f32⟩
  | .hbm, ⟨79, _⟩ => ⟨S4x4352x2048, .f32⟩
  | .hbm, ⟨80, _⟩ => ⟨S4x4352x2048, .f32⟩
  | .hbm, ⟨81, _⟩ => ⟨S_, .f32⟩
  | .hbm, ⟨82, _⟩ => ⟨S4x4352x2048, .f32⟩
  | .hbm, ⟨83, _⟩ => ⟨S4x4352x2048, .f32⟩
  | .hbm, ⟨84, _⟩ => ⟨S_, .f32⟩
  | .hbm, ⟨85, _⟩ => ⟨S4x4352x2048, .f32⟩
  | .hbm, ⟨86, _⟩ => ⟨S4x4352x2048, .f32⟩
  | .hbm, ⟨87, _⟩ => ⟨S4x4352x1024, .f32⟩
  | .hbm, ⟨88, _⟩ => ⟨S4x4352x1024, .f32⟩
  | .hbm, ⟨89, _⟩ => ⟨S4x4352x1024, .f32⟩
  | .hbm, ⟨90, _⟩ => ⟨S4x4352x1024, .f32⟩
  | .hbm, ⟨91, _⟩ => ⟨S4x4352x1024, .f32⟩
  | .hbm, ⟨92, _⟩ => ⟨S4x4352x1024, .f32⟩
  | .hbm, ⟨93, _⟩ => ⟨S4x4096x1024, .f32⟩
  | .hbm, ⟨94, _⟩ => ⟨S4x1x1x1024, .f32⟩
  | .hbm, ⟨95, _⟩ => ⟨S4x1024, .f32⟩
  | .hbm, ⟨96, _⟩ => ⟨S4x1x1024, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S4x256x1024, .f32⟩
  | .hbm, ⟨102, _⟩ => ⟨S4x1x1x1024, .f32⟩
  | .hbm, ⟨103, _⟩ => ⟨S4x1024, .f32⟩
  | .hbm, ⟨104, _⟩ => ⟨S4x1x1024, .f32⟩
  | .hbm, ⟨105, _⟩ => ⟨S4x256x1024, .f32⟩
  | .hbm, ⟨106, _⟩ => ⟨S4x256x1024, .f32⟩
  | .hbm, ⟨107, _⟩ => ⟨S4x256x1024, .f32⟩
  | .hbm, ⟨108, _⟩ => ⟨S4x256x1024, .f32⟩
  | .hbm, ⟨109, _⟩ => ⟨S4x4352x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Kernel11.lean ====
abbrev S4x4096x1024 : Shape := ⟨3, ![4, 4096, 1024]⟩
abbrev S1024 : Shape := ⟨1, ![1024]⟩
abbrev S4x2x8x1024 : Shape := ⟨4, ![4, 2, 8, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S16384x1024 : Shape := ⟨2, ![16384, 1024]⟩
abbrev S16384x128 : Shape := ⟨2, ![16384, 128]⟩
abbrev S1x512x1024 : Shape := ⟨3, ![1, 512, 1024]⟩
abbrev S1x1x8x1024 : Shape := ⟨4, ![1, 1, 8, 1024]⟩
abbrev S512x1024 : Shape := ⟨2, ![512, 1024]⟩
abbrev S512x128 : Shape := ⟨2, ![512, 128]⟩
abbrev S8x1024 : Shape := ⟨2, ![8, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x2x8x1024, .f32⟩
  | .hbm, ⟨3, _⟩ => ⟨S1024x8, .f32⟩
  | .hbm, ⟨4, _⟩ => ⟨S_, .f32⟩
  | .hbm, ⟨5, _⟩ => ⟨S1024x120, .f32⟩
  | .hbm, ⟨6, _⟩ => ⟨S1024x128, .f32⟩
  | .hbm, ⟨7, _⟩ => ⟨S1x1024, .f32⟩
  | .hbm, ⟨8, _⟩ => ⟨S16384x1024, .f32⟩
  | .hbm, ⟨9, _⟩ => ⟨S16384x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1024x128, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4x4096x1024 : Shape := ⟨3, ![4, 4096, 1024]⟩
abbrev S1024 : Shape := ⟨1, ![1024]⟩
abbrev S4x2x8x1024 : Shape := ⟨4, ![4, 2, 8, 1024]⟩
abbrev S1024x8 : Shape := ⟨2, ![1024, 8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1x1024 : Shape := ⟨4, ![4, 1, 1, 1024]⟩
abbrev S4x1024 : Shape := ⟨2, ![4, 1024]⟩
abbrev S4x1x1024 : Shape := ⟨3, ![4, 1, 1024]⟩
abbrev S16384x1024 : Shape := ⟨2, ![16384, 1024]⟩
abbrev S16384x8 : Shape := ⟨2, ![16384, 8]⟩
abbrev S16384x2 : Shape := ⟨2, ![16384, 2]⟩
abbrev S16384 : Shape := ⟨1, ![16384]⟩
abbrev S16384x1 : Shape := ⟨2, ![16384, 1]⟩
abbrev S16384x124 : Shape := ⟨2, ![16384, 124]⟩
abbrev S16384x128 : Shape := ⟨2, ![16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x2x8x1024, .f32⟩
  | .hbm, ⟨3, _⟩ => ⟨S1024x8, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x1x1x1024, .f32⟩
  | .hbm, ⟨21, _⟩ => ⟨S4x1024, .f32⟩
  | .hbm, ⟨22, _⟩ => ⟨S4x1x1024, .f32⟩
  | .hbm, ⟨23, _⟩ => ⟨S4x1x1x1024, .f32⟩
  | .hbm, ⟨24, _⟩ => ⟨S4x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S16384x1024, .f32⟩
  | .hbm, ⟨34, _⟩ => ⟨S16384x8, .f32⟩
  | .hbm, ⟨35, _⟩ => ⟨S16384x2, .f32⟩
  | .hbm, ⟨36, _⟩ => ⟨S16384x2, .i32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x2, .f32⟩
  | .hbm, ⟨44, _⟩ => ⟨S16384x2, .f32⟩
  | .hbm, ⟨45, _⟩ => ⟨S16384x2, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x2, .f32⟩
  | .hbm, ⟨50, _⟩ => ⟨S16384x2, .f32⟩
  | .hbm, ⟨51, _⟩ => ⟨S16384x2, .f32⟩
  | .hbm, ⟨52, _⟩ => ⟨S_, .f32⟩
  | .hbm, ⟨53, _⟩ => ⟨S16384x124, .f32⟩
  | .hbm, ⟨54, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_values : Ref sig .tc := ⟨.hbm, 35, rfl⟩
abbrev main_indices : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel12.lean ====
abbrev S8x4x1024x4352 : Shape := ⟨4, ![8, 4, 1024, 4352]⟩
abbrev S8x4096x4352 : Shape := ⟨3, ![8, 4096, 4352]⟩
abbrev S8x64x4352x128 : Shape := ⟨4, ![8, 64, 4352, 128]⟩
abbrev S1x4096x128 : Shape := ⟨3, ![1, 4096, 128]⟩
abbrev S1x64x128x128 : Shape := ⟨4, ![1, 64, 128, 128]⟩
abbrev S1x64x128 : Shape := ⟨3, ![1, 64, 128]⟩
abbrev S64x128 : Shape := ⟨2, ![64, 128]⟩
abbrev S128x128 : Shape := ⟨2, ![128, 128]⟩
abbrev S1x1x128x128 : Shape := ⟨4, ![1, 1, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x4x1024x4352, .f32⟩
  | .hbm, ⟨1, _⟩ => ⟨S8x4096x4352, .f32⟩
  | .hbm, ⟨2, _⟩ => ⟨S8x64x4352x128, .f32⟩
  | .local _ .vmem, ⟨0, _⟩ => ⟨S1x4096x128, .f32⟩
  | .local _ .vmem, ⟨1, _⟩ => ⟨S1x4096x128, .f32⟩
  | .local _ .vmem, ⟨2, _⟩ => ⟨S1x64x128x128, .f32⟩
  | .local _ .vmem, ⟨3, _⟩ => ⟨S1x64x128x128, .f32⟩
  | _, _ => ⟨S8x4x1024x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 34], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference12Ideal.lean ====
abbrev S8x4x1024x4352 : Shape := ⟨4, ![8, 4, 1024, 4352]⟩
abbrev S8x4x16x64x4352 : Shape := ⟨5, ![8, 4, 16, 64, 4352]⟩
abbrev S8x64x4352x4x16 : Shape := ⟨5, ![8, 64, 4352, 4, 16]⟩
abbrev S8x64x4352x64 : Shape := ⟨4, ![8, 64, 4352, 64]⟩
abbrev S8x64x4352x128 : Shape := ⟨4, ![8, 64, 4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S8x4x1024x4352, .f32⟩
  | .hbm, ⟨1, _⟩ => ⟨S8x4x16x64x4352, .f32⟩
  | .hbm, ⟨2, _⟩ => ⟨S8x64x4352x4x16, .f32⟩
  | .hbm, ⟨3, _⟩ => ⟨S8x64x4352x64, .f32⟩
  | .hbm, ⟨4, _⟩ => ⟨S8x64x4352x128, .f32⟩
  | _, _ => ⟨S8x4x1024x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Kernel13.lean ====
abbrev S4x1024x4352 : Shape := ⟨3, ![4, 1024, 4352]⟩
abbrev S4096x4352 : Shape := ⟨2, ![4096, 4352]⟩
abbrev S4352x32x128 : Shape := ⟨3, ![4352, 32, 128]⟩
abbrev S4096x128 : Shape := ⟨2, ![4096, 128]⟩
abbrev S128x32x128 : Shape := ⟨3, ![128, 32, 128]⟩
abbrev S64x128 : Shape := ⟨2, ![64, 128]⟩
abbrev S128x128 : Shape := ⟨2, ![128, 128]⟩
abbrev S128x1x128 : Shape := ⟨3, ![128, 1, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x4352, .f32⟩
  | .hbm, ⟨1, _⟩ => ⟨S4096x4352, .f32⟩
  | .hbm, ⟨2, _⟩ => ⟨S4352x32x128, .f32⟩
  | .local _ .vmem, ⟨0, _⟩ => ⟨S4096x128, .f32⟩
  | .local _ .vmem, ⟨1, _⟩ => ⟨S4096x128, .f32⟩
  | .local _ .vmem, ⟨2, _⟩ => ⟨S128x32x128, .f32⟩
  | .local _ .vmem, ⟨3, _⟩ => ⟨S128x32x128, .f32⟩
  | _, _ => ⟨S4x1024x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S4x1024x4352 : Shape := ⟨3, ![4, 1024, 4352]⟩
abbrev S4x16x64x4352 : Shape := ⟨4, ![4, 16, 64, 4352]⟩
abbrev S4352x64x4x16 : Shape := ⟨4, ![4352, 64, 4, 16]⟩
abbrev S4352x64x64 : Shape := ⟨3, ![4352, 64, 64]⟩
abbrev S4352x32x64 : Shape := ⟨3, ![4352, 32, 64]⟩
abbrev S4352x32x128 : Shape := ⟨3, ![4352, 32, 128]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x4352, .f32⟩
  | .hbm, ⟨1, _⟩ => ⟨S4x16x64x4352, .f32⟩
  | .hbm, ⟨2, _⟩ => ⟨S4352x64x4x16, .f32⟩
  | .hbm, ⟨3, _⟩ => ⟨S4352x64x64, .f32⟩
  | .hbm, ⟨4, _⟩ => ⟨S4352x32x64, .f32⟩
  | .hbm, ⟨5, _⟩ => ⟨S4352x32x64, .f32⟩
  | .hbm, ⟨6, _⟩ => ⟨S4352x32x128, .f32⟩
  | _, _ => ⟨S4x1024x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel14.lean ====
abbrev S4352x32x128 : Shape := ⟨3, ![4352, 32, 128]⟩
abbrev S4x4352x1024 : Shape := ⟨3, ![4, 4352, 1024]⟩
abbrev S128x32x128 : Shape := ⟨3, ![128, 32, 128]⟩
abbrev S4x128x1024 : Shape := ⟨3, ![4, 128, 1024]⟩
abbrev S4096x128 : Shape := ⟨2, ![4096, 128]⟩
abbrev S128x1x128 : Shape := ⟨3, ![128, 1, 128]⟩
abbrev S128x128 : Shape := ⟨2, ![128, 128]⟩
abbrev S64x128 : Shape := ⟨2, ![64, 128]⟩
abbrev S1x128x128 : Shape := ⟨3, ![1, 128, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x32x128, .f32⟩
  | .hbm, ⟨1, _⟩ => ⟨S4352x32x128, .f32⟩
  | .hbm, ⟨2, _⟩ => ⟨S4x4352x1024, .f32⟩
  | .local _ .vmem, ⟨0, _⟩ => ⟨S128x32x128, .f32⟩
  | .local _ .vmem, ⟨1, _⟩ => ⟨S128x32x128, .f32⟩
  | .local _ .vmem, ⟨2, _⟩ => ⟨S128x32x128, .f32⟩
  | .local _ .vmem, ⟨3, _⟩ => ⟨S128x32x128, .f32⟩
  | .local _ .vmem, ⟨4, _⟩ => ⟨S4x128x1024, .f32⟩
  | .local _ .vmem, ⟨5, _⟩ => ⟨S4x128x1024, .f32⟩
  | .local _ .vmem, ⟨6, _⟩ => ⟨S4096x128, .f32⟩
  | _, _ => ⟨S4352x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4352x32x128 : Shape := ⟨3, ![4352, 32, 128]⟩
abbrev S4352x32x64 : Shape := ⟨3, ![4352, 32, 64]⟩
abbrev S4352x64x64 : Shape := ⟨3, ![4352, 64, 64]⟩
abbrev S4352x64x4x16 : Shape := ⟨4, ![4352, 64, 4, 16]⟩
abbrev S4x4352x16x64 : Shape := ⟨4, ![4, 4352, 16, 64]⟩
abbrev S4x4352x1024 : Shape := ⟨3, ![4, 4352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x32x128, .f32⟩
  | .hbm, ⟨1, _⟩ => ⟨S4352x32x128, .f32⟩
  | .hbm, ⟨2, _⟩ => ⟨S4352x32x128, .f32⟩
  | .hbm, ⟨3, _⟩ => ⟨S4352x32x64, .f32⟩
  | .hbm, ⟨4, _⟩ => ⟨S4352x32x64, .f32⟩
  | .hbm, ⟨5, _⟩ => ⟨S4352x64x64, .f32⟩
  | .hbm, ⟨6, _⟩ => ⟨S4352x64x4x16, .f32⟩
  | .hbm, ⟨7, _⟩ => ⟨S4x4352x16x64, .f32⟩
  | .hbm, ⟨8, _⟩ => ⟨S4x4352x1024, .f32⟩
  | _, _ => ⟨S4352x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.MoeIdealFrame.lean ====
/- The frame of the experts' call for every expert table with entries in range and every number of used tiles:
   the pipeline at the tables the launch memory holds, the body by its four control paths (the tile used or not, the
   first or the second half of the feed-forward axis), the launch. -/
module

public import proofs.«01_k».proof.Proof.Gen.Kernel2Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Affine

@[expose] public section

set_option maxRecDepth 16384
set_option Elab.async false

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra's embedding for the staging cells. -/
abbrev EP : Emb (UR sig nD τ) 𝕄 := emb₁

/-! ## The tables -/

/-- What the launch memory's two tables may hold: any expert numbers below 8, any count. -/
structure Tabs where
  te : S72.Idx → BitVec 32
  nu : S1.Idx → BitVec 32
  lt : ∀ x, (te x).toNat < 8

variable (ch : Tabs)

abbrev pinT_0 : S72.Idx → BitVec 32 := ch.te
abbrev pinT_1 : S1.Idx → BitVec 32 := ch.nu

set_option backward.proofsInPublic true in
def pfN : pre0.Contents (Elt Ideal) := fun | ⟨0, _⟩ => pinT_0 ch | ⟨1, _⟩ => pinT_1 ch | ⟨_ + 2, h⟩ => absurd h (by simp)

/-- The launch memory's tables are these. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

theorem crd_lt0 : ∀ i : grid0.Coords, (i 0).val < 72 := fun i => (i 0).isLt
theorem crd_lt1 : ∀ i : grid0.Coords, (i 1).val < 2 := fun i => (i 1).isLt

theorem ok_pfN : ok0 (F := Ideal) (pfN ch) := by
  refine ⟨fun i => ⟨fun a => ?_, .inr (Affine.block_words_dvd (s := S8x1024x3584) (p := EltTy.packing .bf16) (by decide) (by decide))⟩,
    fun i => ⟨fun a => ?_, .inr (Affine.block_words_dvd (s := S8x1024x3584) (p := EltTy.packing .bf16) (by decide) (by decide))⟩,
    fun i => ⟨fun a => ?_, .inr (Affine.block_words_dvd (s := S8x3584x1024) (p := EltTy.packing .bf16) (by decide) (by decide))⟩⟩
  all_goals
    have h1 := crd_lt1 i
    have h2 : (BitVec.ofNat 32 (i 1).val).toNat = (i 1).val := by rw [BitVec.toNat_ofNat]; omega
    fin_cases a
  · show (BitVec.toNat (ch.te _) + 1) * 1 ≤ 8
    have := ch.lt; rw [Nat.mul_one]; exact this _
  · show (0 + 1) * 1024 ≤ 1024; decide
  · show ((BitVec.ofNat 32 (i 1).val).toNat + 1) * 1792 ≤ 3584
    omega
  · show (BitVec.toNat (ch.te _) + 1) * 1 ≤ 8
    have := ch.lt; rw [Nat.mul_one]; exact this _
  · show (0 + 1) * 1024 ≤ 1024; decide
  · show ((BitVec.ofNat 32 (i 1).val).toNat + 1) * 1792 ≤ 3584
    omega
  · show (BitVec.toNat (ch.te _) + 1) * 1 ≤ 8
    have := ch.lt; rw [Nat.mul_one]; exact this _
  · show ((BitVec.ofNat 32 (i 1).val).toNat + 1) * 1792 ≤ 3584
    omega
  · show (0 + 1) * 1024 ≤ 1024; decide

/-- The admissible contents, the pipeline at them (`cfgA ch`: member `ch`'s grid, 144 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point -/

/-- The number of used tiles as the body reads it, and whether tile `i` is used. -/
abbrev nW : BitVec 32 := View.readAt (Elt Ideal) (tbM0_1).view (Rect.unit (s := S1) ![0] S1.size inb_S1_S1_0).toLoadRect (pinT_1 ch) (Shape.Idx.first (numel1_S1.symm ▸ Nat.one_pos))
abbrev bit (i : ℕ) : BitVec 1 := Scalar.cmpi .slt (BitVec.ofNat 32 i) (nW ch)

abbrev P0_0 (t : Fin (cfgA ch).N) : Prop := (Scalar.cmpi .ne (Scalar.extui (Scalar.andi (bit ch (crd ch t 0).val) (Scalar.cmpi .eq (BitVec.ofNat 32 (crd ch t 1).val) 0#32))) 0#32) = 1#1
abbrev P0_1 (t : Fin (cfgA ch).N) : Prop := (Scalar.cmpi .ne (Scalar.extui (bit ch (crd ch t 0).val)) 0#32) = 1#1
abbrev P0_2 (t : Fin (cfgA ch).N) : Prop := k0_cond4 (crd ch t) (nW ch) = 1#1
abbrev P0_3 (t : Fin (cfgA ch).N) : Prop := k0_cond3 (crd ch t) (nW ch) = 1#1

theorem grid_crd : ∀ t : Fin grid0.N, ((grid0.coords t) 0).val = t.val / 2 ∧ ((grid0.coords t) 1).val = t.val % 2 := by decide +kernel

theorem crd0 (t : Fin (cfgA ch).N) : (crd ch t 0).val = t.val / 2 := (grid_crd t).1
theorem crd1 (t : Fin (cfgA ch).N) : (crd ch t 1).val = t.val % 2 := (grid_crd t).2

/-- The four conditions, over the bit `used` and the half `j`. -/
theorem conds (b : BitVec 1) (j : ℕ) (hj : j < 2) :
    ((Scalar.cmpi .ne (Scalar.extui (Scalar.andi b (Scalar.cmpi .eq (BitVec.ofNat 32 j) 0#32)) : BitVec 32) 0#32) = 1#1 ↔ b = 1#1 ∧ j = 0)
    ∧ ((Scalar.cmpi .ne (Scalar.extui b : BitVec 32) 0#32) = 1#1 ↔ b = 1#1)
    ∧ ((Scalar.cmpi .ne (Scalar.extui (Scalar.andi b (Scalar.cmpi .eq (BitVec.ofNat 32 j) 1#32)) : BitVec 32) 0#32) = 1#1 ↔ b = 1#1 ∧ j = 1)
    ∧ ((Scalar.cmpi .ne (Scalar.extui (Scalar.andi (Scalar.xori b 1#1) (Scalar.cmpi .eq (BitVec.ofNat 32 j) 1#32)) : BitVec 32) 0#32) = 1#1 ↔ b ≠ 1#1 ∧ j = 1) := by
  rcases (by omega : j = 0 ∨ j = 1) with rfl | rfl <;> revert b <;> decide

theorem P0_iff (t : Fin (cfgA ch).N) : P0_0 ch t ↔ bit ch (t.val / 2) = 1#1 ∧ t.val % 2 = 0 := by
  have h := (conds (bit ch (crd ch t 0).val) (crd ch t 1).val (crd_lt1 _)).1
  rw [← crd0 ch t, ← crd1 ch t]; exact h
theorem P1_iff (t : Fin (cfgA ch).N) : P0_1 ch t ↔ bit ch (t.val / 2) = 1#1 := by
  have h := (conds (bit ch (crd ch t 0).val) (crd ch t 1).val (crd_lt1 _)).2.1
  rw [← crd0 ch t]; exact h
theorem P3_iff (t : Fin (cfgA ch).N) : P0_3 ch t ↔ bit ch (t.val / 2) = 1#1 ∧ t.val % 2 = 1 := by
  have h := (conds (bit ch (crd ch t 0).val) (crd ch t 1).val (crd_lt1 _)).2.2.1
  rw [← crd0 ch t, ← crd1 ch t]; exact h
theorem P2_iff (t : Fin (cfgA ch).N) : P0_2 ch t ↔ bit ch (t.val / 2) ≠ 1#1 ∧ t.val % 2 = 1 := by
  have h := (conds (bit ch (crd ch t 0).val) (crd ch t 1).val (crd_lt1 _)).2.2.2
  rw [← crd0 ch t, ← crd1 ch t]; exact h

/-- The output's block changes after every second point, whatever the tables hold. -/
theorem flush4 (t : Fin (cfgA ch).N) : ((cfgA ch).win (4 : Fin 5)).flush t = decide (t.val % 2 = 1) := by
  have h : ∀ t : Fin (cfgA ⟨fun _ => 0#32, fun _ => 0#32, fun _ => by decide⟩).N,
      ((cfgA ⟨fun _ => 0#32, fun _ => 0#32, fun _ => by decide⟩).win (4 : Fin 5)).flush t = decide (t.val % 2 = 1) := by decide +kernel
  exact h t

theorem idle4 (t : Fin (cfgA ch).N) : (cfgA ch).idle (4 : Fin 5) ((cfgA ch).grid.coords t) = decide (t.val % 2 = 0) := by
  have e : (cfgA ch).idle (4 : Fin 5) ((cfgA ch).grid.coords t) = (!(k0_cond3 (crd ch t) (nW ch) == 1#1) && !(k0_cond4 (crd ch t) (nW ch) == 1#1)) := rfl
  rw [e]
  have h3 := P3_iff ch t
  have h4 := P2_iff ch t
  unfold P0_3 at h3; unfold P0_2 at h4
  by_cases hb : bit ch (t.val / 2) = 1#1 <;> by_cases hj : t.val % 2 = 1
  · have : k0_cond3 (crd ch t) (nW ch) = 1#1 := h3.2 ⟨hb, hj⟩
    rw [this]; simp [hj]
  · have a3 : k0_cond3 (crd ch t) (nW ch) ≠ 1#1 := fun h => hj (h3.1 h).2
    have a4 : k0_cond4 (crd ch t) (nW ch) ≠ 1#1 := fun h => hj (h4.1 h).2
    rw [beq_eq_false_iff_ne.2 a3, beq_eq_false_iff_ne.2 a4]; simp; omega
  · have : k0_cond4 (crd ch t) (nW ch) = 1#1 := h4.2 ⟨hb, hj⟩
    rw [this]; simp [hj]
  · have a3 : k0_cond3 (crd ch t) (nW ch) ≠ 1#1 := fun h => hj (h3.1 h).2
    have a4 : k0_cond4 (crd ch t) (nW ch) ≠ 1#1 := fun h => hj (h4.1 h).2
    rw [beq_eq_false_iff_ne.2 a3, beq_eq_false_iff_ne.2 a4]; simp; omega

/-- Nothing is ever carried in the output's buffer: a point that does not store leaves it for one that does. -/
theorem fresh4 (t : Fin (cfgA ch).N) : (cfgA ch).fresh (4 : Fin 5) t.val = true :=
  Pipeline.Cfg.fresh_tab (cfgA ch) (4 : Fin 5) (fun _ => true) rfl (fun t => by
    rw [flush4, idle4]; rcases Nat.mod_two_eq_zero_or_one t.val with h | h <;> simp [h]) t.val (Nat.le_of_lt t.isLt)

/-- Whether the scratches may hold anything before position `n`: unless `n` is a used tile's second half. -/
def sfr (n : ℕ) : Bool := !(decide (n % 2 = 1) && (bit ch (n / 2) == 1#1))

theorem sfr_even {n : ℕ} (h : n % 2 = 0) : sfr ch n = true := by unfold sfr; simp [h]
theorem sfr_unused {n : ℕ} (h : bit ch (n / 2) ≠ 1#1) : sfr ch n = true := by
  unfold sfr; rw [beq_eq_false_iff_ne.2 h]; simp
theorem sfr_used {n : ℕ} (h : bit ch (n / 2) = 1#1) (hn : n % 2 = 1) : sfr ch n = false := by
  unfold sfr; rw [h, hn]; decide

theorem hypsR0_A (t : Fin (cfgA ch).N) (q0 : P0_0 ch t) :
    ((Scalar.cmpi .ne (Scalar.extui (Scalar.andi (Scalar.cmpi .slt (BitVec.ofNat 32 ((crd ch t) 0).val) (nW ch)) (Scalar.cmpi .eq (BitVec.ofNat 32 ((crd ch t) 1).val) 0#32))) 0#32) = 1#1) ∧ (((Scalar.cmpi .ne (Scalar.extui (Scalar.cmpi .slt (BitVec.ofNat 32 ((crd ch t) 0).val) (nW ch))) 0#32) = 1#1) ∧ ((¬(k0_cond3 (crd ch t) (nW ch) = 1#1)) ∧ ((¬(k0_cond4 (crd ch t) (nW ch) = 1#1)) ∧ (True)))) := by
  obtain ⟨hb, hj⟩ := (P0_iff ch t).1 q0
  exact ⟨q0, (P1_iff ch t).2 hb, fun h => by have := ((P3_iff ch t).1 h).2; omega, fun h => ((P2_iff ch t).1 h).1 hb, trivial⟩

theorem sched0_A (t : Fin (cfgA ch).N) (q0 : P0_0 ch t) :
    (cfgA ch).idle (4 : Fin 5) ((cfgA ch).grid.coords t) = true ∧ ((cfgA ch).win (4 : Fin 5)).flush t = false ∧ (cfgA ch).fresh (4 : Fin 5) t.val = true := by
  obtain ⟨hb, hj⟩ := (P0_iff ch t).1 q0
  rw [idle4, flush4, fresh4]; simp [hj]

theorem odd_B (t : Fin (cfgA ch).N) (q0 : ¬P0_0 ch t) (q1 : P0_1 ch t) : bit ch (t.val / 2) = 1#1 ∧ t.val % 2 = 1 := by
  have hb := (P1_iff ch t).1 q1
  refine ⟨hb, ?_⟩
  rcases Nat.mod_two_eq_zero_or_one t.val with h | h
  · exact absurd ((P0_iff ch t).2 ⟨hb, h⟩) q0
  · exact h

theorem hypsR0_B (t : Fin (cfgA ch).N) (q0 : ¬P0_0 ch t) (q1 : P0_1 ch t) :
    (¬((Scalar.cmpi .ne (Scalar.extui (Scalar.andi (Scalar.cmpi .slt (BitVec.ofNat 32 ((crd ch t) 0).val) (nW ch)) (Scalar.cmpi .eq (BitVec.ofNat 32 ((crd ch t) 1).val) 0#32))) 0#32) = 1#1)) ∧ (((Scalar.cmpi .ne (Scalar.extui (Scalar.cmpi .slt (BitVec.ofNat 32 ((crd ch t) 0).val) (nW ch))) 0#32) = 1#1) ∧ ((k0_cond3 (crd ch t) (nW ch) = 1#1) ∧ ((¬(k0_cond4 (crd ch t) (nW ch) = 1#1)) ∧ (True)))) := by
  obtain ⟨hb, hj⟩ := odd_B ch t q0 q1
  exact ⟨q0, q1, (P3_iff ch t).2 ⟨hb, hj⟩, fun h => ((P2_iff ch t).1 h).1 hb, trivial⟩

theorem sched0_B (t : Fin (cfgA ch).N) (q0 : ¬P0_0 ch t) (q1 : P0_1 ch t) :
    (cfgA ch).idle (4 : Fin 5) ((cfgA ch).grid.coords t) = false ∧ ((cfgA ch).win (4 : Fin 5)).flush t = true ∧ (cfgA ch).fresh (4 : Fin 5) t.val = true ∧ sfr ch t.val = false := by
  obtain ⟨hb, hj⟩ := odd_B ch t q0 q1
  rw [idle4, flush4, fresh4, sfr_used ch hb hj]; simp [hj]

theorem hypsR0_C (t : Fin (cfgA ch).N) (q0 : ¬P0_0 ch t) (q1 : ¬P0_1 ch t) (q2 : ¬P0_2 ch t) :
    (¬((Scalar.cmpi .ne (Scalar.extui (Scalar.andi (Scalar.cmpi .slt (BitVec.ofNat 32 ((crd ch t) 0).val) (nW ch)) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (nW ch))) 0#32) = 1#1)) ∧ ((¬(k0_cond3 (crd ch t) (nW ch) = 1#1)) ∧ ((¬(k0_cond4 (crd ch t) (nW ch) = 1#1)) ∧ (True)))) :=
  ⟨q0, q1, fun h => q1 ((P1_iff ch t).2 ((P3_iff ch t).1 h).1), q2, trivial⟩

theorem sched0_C (t : Fin (cfgA ch).N) (q0 : ¬P0_0 ch t) (q1 : ¬P0_1 ch t) (q2 : ¬P0_2 ch t) :
    (cfgA ch).idle (4 : Fin 5) ((cfgA ch).grid.coords t) = true ∧ ((cfgA ch).win (4 : Fin 5)).flush t = false ∧ (cfgA ch).fresh (4 : Fin 5) t.val = true ∧ sfr ch (t.val + 1) = true := by
  have hb : bit ch (t.val / 2) ≠ 1#1 := fun h => q1 ((P1_iff ch t).2 h)
  have hj : t.val % 2 = 0 := by
    rcases Nat.mod_two_eq_zero_or_one t.val with h | h
    · exact h
    · exact absurd ((P2_iff ch t).2 ⟨hb, h⟩) q2
  rw [idle4, flush4, fresh4, sfr_unused ch (n := t.val + 1) (by rw [show (t.val + 1) / 2 = t.val / 2 by omega]; exact hb)]; simp [hj]

theorem hypsR0_D (t : Fin (cfgA ch).N) (q0 : ¬P0_0 ch t) (q1 : ¬P0_1 ch t) (q2 : P0_2 ch t) :
    (¬((Scalar.cmpi .ne (Scalar.extui (Scalar.andi (Scalar.cmpi .slt (BitVec.ofNat 32 ((crd ch t) 0).val) (nW ch)) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (nW ch))) 0#32) = 1#1)) ∧ ((¬(k0_cond3 (crd ch t) (nW ch) = 1#1)) ∧ ((k0_cond4 (crd ch t) (nW ch) = 1#1) ∧ (True)))) :=
  ⟨q0, q1, fun h => q1 ((P1_iff ch t).2 ((P3_iff ch t).1 h).1), q2, trivial⟩

theorem sched0_D (t : Fin (cfgA ch).N) (q0 : ¬P0_0 ch t) (q1 : ¬P0_1 ch t) (q2 : P0_2 ch t) :
    (cfgA ch).idle (4 : Fin 5) ((cfgA ch).grid.coords t) = false ∧ ((cfgA ch).win (4 : Fin 5)).flush t = true ∧ (cfgA ch).fresh (4 : Fin 5) t.val = true ∧ sfr ch (t.val + 1) = true := by
  obtain ⟨hb, hj⟩ := (P2_iff ch t).1 q2
  rw [idle4, flush4, fresh4, sfr_even ch (n := t.val + 1) (by omega)]; simp [hj]

/-- An unused tile's block does not depend on the scratches. -/
theorem outD_any (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (T0 : (S72.Idx → Elt Ideal .i32)) (T1 : (S1.Idx → Elt Ideal .i32))
     (x0 : (S512x1024.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0)) (xb0 : Buf (Elt Ideal) ((c : Thread nD τ).loc cc0_scratch0)) (xb1 : Buf (Elt Ideal) ((c : Thread nD τ).loc cc0_scratch1)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : ¬((Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1)) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : k0_cond4 i (View.readAt (Elt Ideal) (tbM0_1).view (Rect.unit (s := S1) ![0] S1.size inb_S1_S1_0).toLoadRect T1 (Shape.Idx.first (numel1_S1.symm ▸ Nat.one_pos))) = 1#1) :
    out0_D_4 c i arg4 harg4 arg5 harg5 arg6 harg6 arg7 harg7 arg8 harg8 T0 T1 x0 x1 x2 x3 xa0 xa1 hc0 hc1 k0_h3 k0_h4 = out0_D_4 c i arg4 harg4 arg5 harg5 arg6 harg6 arg7 harg7 arg8 harg8 T0 T1 x0 x1 x2 x3 xb0 xb1 hc0 hc1 k0_h3 k0_h4 := rfl

/-! ## What the outputs and scratches hold after each point -/

/-- ONE STEP of the trajectory: what the outputs' current buffers and the scratches hold after the body at point `t`
    (output 4, scratch 0, scratch 1), from what they held before (`prev`): the path the decisions select at `t`, its
    run's contents; an output the path leaves idle keeps what it held (junk — `default`, named by nothing — where fresh). -/
def step0 (c : Dev nD) (t : Fin (cfgA ch).N) (prev : (S512x1024.Idx → Elt Ideal .f32) × Buf (Elt Ideal) ((c : Thread nD τ).loc cc0_scratch0) × Buf (Elt Ideal) ((c : Thread nD τ).loc cc0_scratch1)) : (S512x1024.Idx → Elt Ideal .f32) × Buf (Elt Ideal) ((c : Thread nD τ).loc cc0_scratch0) × Buf (Elt Ideal) ((c : Thread nD τ).loc cc0_scratch1) :=
  if q0 : P0_0 ch t then
    ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1).2.2.1)
    else
      if q2 : P0_2 ch t then
        (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1)
      else
        ((if (cfgA ch).fresh (4 : Fin 5) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1)

/-- THE TRAJECTORY: after position `n`. -/
def traj0 (c : Dev nD) : (n : ℕ) → n < (cfgA ch).N → (S512x1024.Idx → Elt Ideal .f32) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : P0_0 ch t) :
    step0 ch m ρ c t prev = ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1) := by
  unfold step0; simp only [dif_pos q0]

/-- `step0` at a point of path B. -/
theorem step0_B (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1).1 (hypsR0_B ch t q0 q1).2.1 (hypsR0_B ch t q0 q1).2.2.1 (hypsR0_B ch t q0 q1).2.2.2.1).2.2.1) := by
  unfold step0; simp only [dif_neg q0, dif_pos q1]

/-- `step0` at a point of path C. -/
theorem step0_C (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : ¬P0_2 ch t) :
    step0 ch m ρ c t prev = ((if (cfgA ch).fresh (4 : Fin 5) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1) := by
  unfold step0; simp only [dif_neg q0, dif_neg q1, dif_neg q2]

/-- `step0` at a point of path D. -/
theorem step0_D (c : Dev nD) (t : Fin (cfgA ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : P0_2 ch t) :
    step0 ch m ρ c t prev = (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1) := by
  unfold step0; simp only [dif_neg q0, dif_neg q1, dif_pos q2]

/-! ## The pipeline's proof data -/

/-- What the tracked buffers held before position `t` of `Fin (N+1)` (the invariant's index). -/
def prev0T (c : Dev nD) (t : Fin ((cfgA ch).N + 1)) : (S512x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfr ch t.val = false → a = (prev0T ch m ρ c t).2.1⌝ ∗ (scM0_0.view.loc (c : Thread nD τ) ↦{fullShare} a)) ∗ (∃ a, ⌜sfr ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · rw [step0_A ch m ρ c t _ q0]
    simp only [hf, Bool.false_eq_true, ↓reduceIte]
    unfold prev0; rw [dif_neg ht]
  · by_cases q1 : P0_1 ch t
    · obtain ⟨i4, -, -, -⟩ := sched0_B ch t q0 q1
      rw [i4] at hi; exact absurd hi (by decide)
    · by_cases q2 : P0_2 ch t
      · obtain ⟨i4, -, -, -⟩ := sched0_D ch t q0 q1 q2
        rw [i4] at hi; exact absurd hi (by decide)
      · rw [step0_C ch m ρ c t _ q0 q1 q2]
        simp only [hf, Bool.false_eq_true, ↓reduceIte]
        unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4⟩ := sched0_A ch t q0
    have F0 := hypsR0_A ch t q0
    have hc0 := F0.1; have F1 := F0.2
    have hc1 := F1.1; have F2 := F1.2
    have k0_h3 := F2.1; have F3 := F2.2
    have k0_h4 := F3.1; have F4 := F3.2
    clear F0 F1 F2 F3 F4
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3 k0_h4).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro _; rfl
      isplitl [HS1]
      · iexists _; isplitr; swap
        · iexact HS1
        · ipureintro; intro _; rfl
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · obtain ⟨i4, f4, fr4, sf0⟩ := sched0_B ch t q0 q1
      have F0 := hypsR0_B ch t q0 q1
      have hc0 := F0.1; have F1 := F0.2
      have hc1 := F1.1; have F2 := F1.2
      have k0_h3 := F2.1; have F3 := F2.2
      have k0_h4 := F3.1; have F4 := F3.2
      clear F0 F1 F2 F3 F4
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro _; rfl
        isplitl [HS1]
        · iexists _; isplitr; swap
          · iexact HS1
          · ipureintro; intro _; rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
    · by_cases q2 : P0_2 ch t
      · obtain ⟨i4, f4, fr4, sfn0⟩ := sched0_D ch t q0 q1 q2
        have F0 := hypsR0_D ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; rw [sfn0] at hn; cases hn
          isplitl [HS1]
          · iexists _; isplitr; swap
            · iexact HS1
            · ipureintro; intro hn; rw [sfn0] at hn; cases hn
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; refine Eq.trans (View.read_writes_of_cover _ _ _ _ _ (cover0_D_4 c _ _ _ _ _ _ _ _ _ _ _ _ _ _ _ _ _ _ _ _ _ _ _)) rfl
      · obtain ⟨i4, f4, fr4, sfn0⟩ := sched0_C ch t q0 q1 q2
        have F0 := hypsR0_C ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; rw [sfn0] at hn; cases hn
          isplitl [HS1]
          · iexists _; isplitr; swap
            · iexact HS1
            · ipureintro; intro hn; rw [sfn0] at hn; cases hn
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfr ch 0 = true from rfl)) Bool.false_ne_true
  isplitl [HS1]
  · iexists a1; isplitr; swap
    · iexact HS1
    · ipureintro; intro h; exact absurd (h.symm.trans (show sfr ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Kernel2Ideal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel2Ideal.Moe

end
-- ==== Proof.MoeBlocks.lean ====
/- What each control path of the experts' body leaves in the buffers it stores, as the body's own arithmetic on the
   blocks it reads. -/
module

public import proofs.«01_k».proof.Proof.MoeIdealFrame
public import Idealize.ShloMosaic.Lib.Pipeline.ValueKit
public import Idealize.ShloMosaic.Lib.Pipeline.ReadBack

@[expose] public section

set_option maxRecDepth 16384
set_option Elab.async false

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.Sem
open Idealize.ShloMosaic.Pipeline (Dat Cfg Window)

theorem whole_writes0 (L : List (View.Piece (Elt Ideal) S512x1024 .bf16)) :
    (View.whole cc0_scratch0).writes (Elt Ideal) (View.whole cc0_scratch0).junk L = View.canon L :=
  View.read_writes_junk_eq_canon (View.whole cc0_scratch0) L

theorem whole_writes1 (L : List (View.Piece (Elt Ideal) S512x1024 .f32)) :
    (View.whole cc0_scratch1).writes (Elt Ideal) (View.whole cc0_scratch1).junk L = View.canon L :=
  View.read_writes_junk_eq_canon (View.whole cc0_scratch1) L

/-- After path A the first scratch holds the tile's rows. -/
theorem runA_x (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (T0 : (S72.Idx → Elt Ideal .i32)) (T1 : (S1.Idx → Elt Ideal .i32))
     (x0 : (S512x1024.Idx → Elt Ideal .f32)) (x1 : (S1x1024x1792.Idx → Elt Ideal .bf16)) (x2 : (S1x1024x1792.Idx → Elt Ideal .bf16)) (x3 : (S1x1792x1024.Idx → Elt Ideal .bf16)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 T0 T1 x0 x1 x2 x3 hc0 hc1 k0_h3 k0_h4).1 = k0_pay1 x0 := by
  unfold kernelRun0_A
  frame_out
  simp only [View.read_rep, read_unread_whole]
  rw [whole_writes0]
  exact View.canon_cons_unit_lit (Val := Elt Ideal) (S := S512x1024) (off := ![0, 0]) inb_S512x1024_S512x1024_0_0 _ _ (by decide)

/-- After path A the second scratch holds the first half's product, added to zero. -/
theorem runA_acc (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (T0 : (S72.Idx → Elt Ideal .i32)) (T1 : (S1.Idx → Elt Ideal .i32))
     (x0 : (S512x1024.Idx → Elt Ideal .f32)) (x1 : (S1x1024x1792.Idx → Elt Ideal .bf16)) (x2 : (S1x1024x1792.Idx → Elt Ideal .bf16)) (x3 : (S1x1792x1024.Idx → Elt Ideal .bf16)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 T0 T1 x0 x1 x2 x3 hc0 hc1 k0_h3 k0_h4).2.1 = k0_pay3 (k0_pay1 x0) x1 x2 (k0_pay2 (F := Ideal)) x3 := by
  unfold kernelRun0_A
  frame_out
  simp only [View.read_rep, read_unread_whole]
  rw [whole_writes1]
  exact View.canon_cons_unit_lit (Val := Elt Ideal) (S := S512x1024) (off := ![0, 0]) inb_S512x1024_S512x1024_0_0 _ _ (by decide)

/-- Path B writes the sum with the second half's product. -/
theorem outB (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (T0 : (S72.Idx → Elt Ideal .i32)) (T1 : (S1.Idx → Elt Ideal .i32))
     (x0 : (S512x1024.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : k0_cond3 i (View.readAt (Elt Ideal) (tbM0_1).view (Rect.unit (s := S1) ![0] S1.size inb_S1_S1_0).toLoadRect T1 (Shape.Idx.first (numel1_S1.symm ▸ Nat.one_pos))) = 1#1) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    out0_B_4 c i arg4 harg4 arg5 harg5 arg6 harg6 arg7 harg7 arg8 harg8 T0 T1 x0 x1 x2 x3 xa0 xa1 hc0 hc1 k0_h3 k0_h4 = k0_pay3 xa0 x1 x2 xa1 x3 := by
  frame_out
  simp only [View.read_rep, read_unread_whole]
  rfl

/-- Path D writes zeros. -/
theorem outD (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (T0 : (S72.Idx → Elt Ideal .i32)) (T1 : (S1.Idx → Elt Ideal .i32))
     (x0 : (S512x1024.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : ¬((Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1)) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : k0_cond4 i (View.readAt (Elt Ideal) (tbM0_1).view (Rect.unit (s := S1) ![0] S1.size inb_S1_S1_0).toLoadRect T1 (Shape.Idx.first (numel1_S1.symm ▸ Nat.one_pos))) = 1#1) :
    out0_D_4 c i arg4 harg4 arg5 harg5 arg6 harg6 arg7 harg7 arg8 harg8 T0 T1 x0 x1 x2 x3 xa0 xa1 hc0 hc1 k0_h3 k0_h4 = k0_pay4 (F := Ideal) := by
  frame_out

end Cert.Kernel2Ideal.Moe

end
-- ==== Proof.MoeSpec.lean ====
/- The experts' product as plain sums of extended reals: one row's hidden unit under one expert, one entry of the
   row's product with that expert, and the gate of a tile for an expert. -/
module

public import Idealize.ShloMosaic.Lib.Pipeline.ValueKit
public import Idealize.ShloMosaic.PureOps.Ideal.Laws

@[expose] public section

noncomputable section

namespace Cert.Moe

open Idealize.ShloMosaic

/-- The logistic function. -/
def sgm (a : EReal) : EReal :=
  FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) a)))

/-- Row `r` of the operand by column `f` of expert `e`'s matrix. -/
def proj (x : (⟨2, ![36864, 1024]⟩ : Shape).Idx → EReal) (w : (⟨3, ![8, 1024, 3584]⟩ : Shape).Idx → EReal)
    (e : Fin 8) (r : Fin 36864) (f : Fin 3584) : EReal :=
  ∑ k : Fin 1024, x (ix2 r k) * w (ix3 e k f)

/-- Hidden unit `f` of row `r` under expert `e`. -/
def hid (x : (⟨2, ![36864, 1024]⟩ : Shape).Idx → EReal) (wg wu : (⟨3, ![8, 1024, 3584]⟩ : Shape).Idx → EReal)
    (e : Fin 8) (r : Fin 36864) (f : Fin 3584) : EReal :=
  proj x wg e r f * sgm (proj x wg e r f) * proj x wu e r f

/-- Entry `o` of row `r`'s product with expert `e`. -/
def down (x : (⟨2, ![36864, 1024]⟩ : Shape).Idx → EReal) (wg wu : (⟨3, ![8, 1024, 3584]⟩ : Shape).Idx → EReal)
    (wd : (⟨3, ![8, 3584, 1024]⟩ : Shape).Idx → EReal) (e : Fin 8) (r : Fin 36864) (o : Fin 1024) : EReal :=
  ∑ f : Fin 3584, hid x wg wu e r f * wd (ix3 e f o)

/-- Whether tile `i` is used and its expert is `e`, as a bit. -/
def hit (te : (⟨1, ![72]⟩ : Shape).Idx → BitVec 32) (nu : (⟨1, ![1]⟩ : Shape).Idx → BitVec 32) (e : ℕ) (i : Fin 72) : BitVec 1 :=
  IntOp.andi (IntOp.cmpi .eq (te (ix1 i)) (BitVec.ofNat 32 e)) (IntOp.cmpi .slt (BitVec.ofNat 32 i.val) (nu (ix1 0)))

/-- The tile of row `r`. -/
abbrev tile (r : Fin 36864) : Fin 72 := ⟨r.val / 512, by omega⟩

/-- The gate of row `r` for expert `e`: one or zero. -/
def gate (te : (⟨1, ![72]⟩ : Shape).Idx → BitVec 32) (nu : (⟨1, ![1]⟩ : Shape).Idx → BitVec 32) (e : ℕ) (r : Fin 36864) : EReal :=
  FloatOps.uitofp (F := Ideal) .f32 (hit te nu e (tile r))

/-- The experts' combined row, the eight terms added in order to zero. -/
def combo (g : ℕ → EReal) (d : Fin 8 → EReal) : EReal :=
  0 + g 0 * d 0 + g 1 * d 1 + g 2 * d 2 + g 3 * d 3 + g 4 * d 4 + g 5 * d 5 + g 6 * d 6 + g 7 * d 7

theorem uitofp_one : FloatOps.uitofp (F := Ideal) .f32 (1#1) = (1 : EReal) := by
  show ((((1#1 : BitVec 1).toNat : ℕ) : ℝ) : EReal) = 1
  simp

theorem uitofp_zero : FloatOps.uitofp (F := Ideal) .f32 (0#1) = (0 : EReal) := by
  show ((((0#1 : BitVec 1).toNat : ℕ) : ℝ) : EReal) = 0
  simp

/-- The gates' words are zero where the tile is not used. -/
theorem hit_unused (te : (⟨1, ![72]⟩ : Shape).Idx → BitVec 32) (nu : (⟨1, ![1]⟩ : Shape).Idx → BitVec 32) (e : ℕ) (i : Fin 72)
    (h : IntOp.cmpi .slt (BitVec.ofNat 32 i.val) (nu (ix1 0)) ≠ 1#1) : hit te nu e i = 0#1 := by
  unfold hit
  have h0 : IntOp.cmpi .slt (BitVec.ofNat 32 i.val) (nu (ix1 0)) = 0#1 := by
    revert h; generalize IntOp.cmpi .slt (BitVec.ofNat 32 i.val) (nu (ix1 0)) = b; revert b; decide
  rw [h0]
  generalize IntOp.cmpi .eq (te (ix1 i)) (BitVec.ofNat 32 e) = b
  revert b; decide

/-- At a used tile the word for expert `e` says whether the tile's expert is `e`. -/
theorem hit_used (te : (⟨1, ![72]⟩ : Shape).Idx → BitVec 32) (nu : (⟨1, ![1]⟩ : Shape).Idx → BitVec 32) (e : ℕ) (he : e < 8) (i : Fin 72)
    (h : IntOp.cmpi .slt (BitVec.ofNat 32 i.val) (nu (ix1 0)) = 1#1) :
    hit te nu e i = if (te (ix1 i)).toNat = e then 1#1 else 0#1 := by
  unfold hit
  rw [h]
  have h1 : IntOp.cmpi .eq (te (ix1 i)) (BitVec.ofNat 32 e) = if (te (ix1 i)).toNat = e then 1#1 else 0#1 := by
    show (BitVec.ofBool (te (ix1 i) == BitVec.ofNat 32 e)) = _
    by_cases hc : (te (ix1 i)).toNat = e
    · rw [if_pos hc]
      have : te (ix1 i) = BitVec.ofNat 32 e := by apply BitVec.eq_of_toNat_eq; rw [hc, BitVec.toNat_ofNat]; omega
      rw [this, beq_self_eq_true]; rfl
    · rw [if_neg hc]
      have : te (ix1 i) ≠ BitVec.ofNat 32 e := by
        intro hh; apply hc; rw [hh, BitVec.toNat_ofNat]; omega
      rw [beq_eq_false_iff_ne.2 this]; rfl
  rw [h1]
  split <;> rfl

/-- Where no gate is set the sum is zero. -/
theorem combo_none (g : ℕ → EReal) (d : Fin 8 → EReal) (h : ∀ e, e < 8 → g e = 0) : combo g d = 0 := by
  unfold combo
  rw [h 0 (by omega), h 1 (by omega), h 2 (by omega), h 3 (by omega), h 4 (by omega), h 5 (by omega), h 6 (by omega), h 7 (by omega)]
  simp

/-- Where one gate is set the sum is that expert's term. -/
theorem combo_one (g : ℕ → EReal) (d : Fin 8 → EReal) (k : Fin 8) (h : ∀ e, e < 8 → g e = if k.val = e then 1 else 0) :
    combo g d = d k := by
  unfold combo
  rw [h 0 (by omega), h 1 (by omega), h 2 (by omega), h 3 (by omega), h 4 (by omega), h 5 (by omega), h 6 (by omega), h 7 (by omega)]
  fin_cases k <;> simp

/-- A sum over the feed-forward axis in its two halves. -/
theorem sum_halves (g : Fin 3584 → EReal) :
    ∑ f : Fin 3584, g f = (∑ f : Fin 1792, g ⟨f.val, by omega⟩) + ∑ f : Fin 1792, g ⟨1792 + f.val, by omega⟩ := by
  exact Fin.sum_univ_add (a := 1792) (b := 1792) (f := (g : Fin (1792 + 1792) → EReal))

end Cert.Moe

end
-- ==== Proof.MoePay.lean ====
/- The experts' body as sums of extended reals. -/
module

public import proofs.«01_k».proof.Proof.Gen.Kernel2Ideal.Skeleton
public import proofs.«01_k».proof.Proof.MoeSpec
public import Idealize.ShloMosaic.Lib.Pipeline.ValueKit

@[expose] public section

set_option maxRecDepth 16384
set_option Elab.async false

noncomputable section

namespace Cert.Kernel2Ideal.Moe

open Cert.Kernel2Ideal Cert.Kernel2Ideal.Gen Cert.Moe
open Idealize.ShloMosaic Idealize.ShloMosaic.TcCoe Idealize.ShloMosaic.Tactic

theorem sgm_eq (a : EReal) : Ideal.div 1 (1 + Ideal.exp (0 - a)) = sgm a := by
  unfold sgm
  rw [zero_sub]
  show _ = Ideal.div (Ideal.ofBits .f32 0x3F800000#32) (Ideal.ofBits .f32 0x3F800000#32 + Ideal.exp (-a))
  rw [Ideal.ofBits_one_f32]

/-- One half's product, added to what the scratch held. -/
theorem pay3_apply (x : Vec Ideal S512x1024 .bf16) (w1 w2 : Vec Ideal S1x1024x1792 .bf16) (acc : Vec Ideal S512x1024 .f32) (w3 : Vec Ideal S1x1792x1024 .bf16)
    (r : Fin 512) (o : Fin 1024) :
    k0_pay3 (F := Ideal) x w1 w2 acc w3 (ix2 r o) = (acc (ix2 r o) : EReal) + ∑ f : Fin 1792,
      ((∑ k : Fin 1024, x (ix2 r k) * w1 (ix3 0 k f)) * sgm (∑ k : Fin 1024, x (ix2 r k) * w1 (ix3 0 k f)) * ∑ k : Fin 1024, x (ix2 r k) * w2 (ix3 0 k f))
        * w3 (ix3 0 f o) := by
  unfold k0_pay3
  pointwise
  simp only [sgm_eq]

theorem pay1_apply (x : Vec Ideal S512x1024 .f32)
    (r : Fin 512) (o : Fin 1024) :
    k0_pay1 (F := Ideal) x (ix2 r o) = x (ix2 r o) := by
  unfold k0_pay1
  pointwise

theorem pay2_apply
    (r : Fin 512) (o : Fin 1024) :
    k0_pay2 (F := Ideal) (ix2 r o) = (0 : EReal) := by
  unfold k0_pay2
  pointwise

theorem pay4_apply
    (r : Fin 512) (o : Fin 1024) :
    k0_pay4 (F := Ideal) (ix2 r o) = (0 : EReal) := by
  unfold k0_pay4
  pointwise

end Cert.Kernel2Ideal.Moe

end
-- ==== Proof.MoeValue.lean ====
/- The array the experts' call leaves, element by element: at a used tile's rows the tile's expert's product, elsewhere
   zeros. -/
module

public import proofs.«01_k».proof.Proof.MoeBlocks
public import proofs.«01_k».proof.Proof.MoePay

@[expose] public section

set_option maxRecDepth 16384
set_option Elab.async false

noncomputable section

namespace Cert.Kernel2Ideal.Moe

open Cert.Kernel2Ideal Cert.Kernel2Ideal.Gen Cert.Moe
open Idealize.ShloMosaic Idealize.ShloMosaic.TcCoe Idealize.ShloMosaic.Tactic
open Idealize.SL Idealize.SL.RA Idealize.SL.Sem
open Idealize.ShloMosaic.Pipeline (Dat Cfg Window)

variable (ch : Tabs) (m : (ℓ : Loc nD τ sig) → Buf (Elt Ideal) ℓ) (ρ : Dev nD → PrngReg)

theorem pt_lt (t : Fin (cfgA ch).N) : t.val < 144 := t.isLt

/-- The tile of point `t`, and its expert. -/
abbrev tl (t : Fin (cfgA ch).N) : Fin 72 := ⟨t.val / 2, by have := pt_lt ch t; omega⟩
abbrev ex (i : Fin 72) : Fin 8 := ⟨(ch.te (ix1 i)).toNat, ch.lt _⟩

/-- The table's word under a grid coordinate. -/
theorem te_word (i : grid0.Coords) (n : Fin 72) (h : (i 0).val = n.val) :
    (pfN ch).at 0 (Rect.unit (s := S72) ![(Scalar.indexCast (BitVec.ofNat 32 (i 0).val)).toNat] S1.size (k0_off1_inb i)) numel1_S1 = ch.te (ix1 n) := by
  refine congrArg ch.te (funext fun a => Fin.ext ?_)
  fin_cases a
  have h0 := crd_lt0 i
  have h1 : (Shape.Idx.first (numel1_S1.symm ▸ Nat.one_pos : 0 < S1.numel) 0).val < 1 := Fin.isLt _
  show (Scalar.indexCast (BitVec.ofNat 32 (i 0).val)).toNat + 1 * (Shape.Idx.first (numel1_S1.symm ▸ Nat.one_pos : 0 < S1.numel) 0).val = n.val
  have h2 : (Scalar.indexCast (BitVec.ofNat 32 (i 0).val)).toNat = (i 0).val := by
    show (BitVec.ofNat 32 (i 0).val).toNat = (i 0).val
    rw [BitVec.toNat_ofNat]; omega
  omega

theorem idx_0 (t : Fin (cfgA ch).N) : ((cfgA ch).win (0 : Fin 5)).index t = ![t.val / 2, 0] := by
  have h : ∀ t : Fin grid0.N, cc0_transform_0 (grid0.coords t) = ![t.val / 2, 0] := by decide +kernel
  exact h t

theorem idx_4 (t : Fin (cfgA ch).N) : ((cfgA ch).win (4 : Fin 5)).index t = ![t.val / 2, 0] := by
  have h : ∀ t : Fin grid0.N, cc0_transform_4 (grid0.coords t) = ![t.val / 2, 0] := by decide +kernel
  exact h t

theorem half (t : Fin (cfgA ch).N) : (BitVec.ofNat 32 (crd ch t 1).val).toNat = t.val % 2 := by
  rw [BitVec.toNat_ofNat, crd1]; omega

theorem idx_1 (t : Fin (cfgA ch).N) : ((cfgA ch).win (1 : Fin 5)).index t = ![(ex ch (tl ch t)).val, 0, t.val % 2] := by
  show cc0_transform_1 k0_off1_inb numel1_S1 (pfN ch) (crd ch t) = _
  unfold cc0_transform_1
  simp only []
  rw [te_word ch (crd ch t) (tl ch t) (crd0 ch t), half]
  rfl

theorem idx_2 (t : Fin (cfgA ch).N) : ((cfgA ch).win (2 : Fin 5)).index t = ![(ex ch (tl ch t)).val, 0, t.val % 2] := by
  show cc0_transform_2 k0_off1_inb numel1_S1 (pfN ch) (crd ch t) = _
  unfold cc0_transform_2
  simp only []
  rw [te_word ch (crd ch t) (tl ch t) (crd0 ch t), half]
  rfl

theorem idx_3 (t : Fin (cfgA ch).N) : ((cfgA ch).win (3 : Fin 5)).index t = ![(ex ch (tl ch t)).val, t.val % 2, 0] := by
  show cc0_transform_3 k0_off1_inb numel1_S1 (pfN ch) (crd ch t) = _
  unfold cc0_transform_3
  simp only []
  rw [te_word ch (crd ch t) (tl ch t) (crd0 ch t), half]
  rfl

/-- The operands. -/
abbrev X (c : Dev nD) : (⟨2, ![36864, 1024]⟩ : Shape).Idx → EReal := m ((c : Thread nD τ).loc main_arg2)
abbrev Wg (c : Dev nD) : (⟨3, ![8, 1024, 3584]⟩ : Shape).Idx → EReal := m ((c : Thread nD τ).loc main_arg3)
abbrev Wu (c : Dev nD) : (⟨3, ![8, 1024, 3584]⟩ : Shape).Idx → EReal := m ((c : Thread nD τ).loc main_arg4)
abbrev Wd (c : Dev nD) : (⟨3, ![8, 3584, 1024]⟩ : Shape).Idx → EReal := m ((c : Thread nD τ).loc main_arg5)

/-- The row of the array that row `r` of tile `i` is, and the unit that unit `f` of half `j` is. -/
abbrev rowOf (i : Fin 72) (r : Fin 512) : Fin 36864 := ⟨i.val * 512 + r.val, by omega⟩
abbrev unitOf (j : ℕ) (hj : j < 2) (f : Fin 1792) : Fin 3584 := ⟨j * 1792 + f.val, by omega⟩

theorem x_blk (c : Dev nD) (t : Fin (cfgA ch).N) (r : Fin 512) (k : Fin 1024) :
    iblk ch m ρ c (0 : Fin 5) t (ix2 r k) = X m c (ix2 (rowOf (tl ch t) r) k) := by
  refine congrArg (X m c) (funext fun a => Fin.ext ?_)
  have e := Pipeline.Window.rect_emb_val ((cfgA ch).win (0 : Fin 5)) t (ix2 r k) a rfl
  refine e.trans ?_
  rw [idx_0]
  fin_cases a
  · rfl
  · show 0 * 1024 + k.val = k.val; omega

theorem wg_blk (c : Dev nD) (t : Fin (cfgA ch).N) (k : Fin 1024) (f : Fin 1792) :
    iblk ch m ρ c (1 : Fin 5) t (ix3 0 k f) = Wg m c (ix3 (ex ch (tl ch t)) k (unitOf (t.val % 2) (by omega) f)) := by
  refine congrArg (Wg m c) (funext fun a => Fin.ext ?_)
  have e := Pipeline.Window.rect_emb_val ((cfgA ch).win (1 : Fin 5)) t (ix3 0 k f) a rfl
  refine e.trans ?_
  rw [idx_1]
  fin_cases a
  · show (ex ch (tl ch t)).val * 1 + 0 = _; rw [Nat.mul_one]; rfl
  · show 0 * 1024 + k.val = k.val; omega
  · rfl

theorem wu_blk (c : Dev nD) (t : Fin (cfgA ch).N) (k : Fin 1024) (f : Fin 1792) :
    iblk ch m ρ c (2 : Fin 5) t (ix3 0 k f) = Wu m c (ix3 (ex ch (tl ch t)) k (unitOf (t.val % 2) (by omega) f)) := by
  refine congrArg (Wu m c) (funext fun a => Fin.ext ?_)
  have e := Pipeline.Window.rect_emb_val ((cfgA ch).win (2 : Fin 5)) t (ix3 0 k f) a rfl
  refine e.trans ?_
  rw [idx_2]
  fin_cases a
  · show (ex ch (tl ch t)).val * 1 + 0 = _; rw [Nat.mul_one]; rfl
  · show 0 * 1024 + k.val = k.val; omega
  · rfl

theorem wd_blk (c : Dev nD) (t : Fin (cfgA ch).N) (f : Fin 1792) (o : Fin 1024) :
    iblk ch m ρ c (3 : Fin 5) t (ix3 0 f o) = Wd m c (ix3 (ex ch (tl ch t)) (unitOf (t.val % 2) (by omega) f) o) := by
  refine congrArg (Wd m c) (funext fun a => Fin.ext ?_)
  have e := Pipeline.Window.rect_emb_val ((cfgA ch).win (3 : Fin 5)) t (ix3 0 f o) a rfl
  refine e.trans ?_
  rw [idx_3]
  fin_cases a
  · show (ex ch (tl ch t)).val * 1 + 0 = _; rw [Nat.mul_one]; rfl
  · rfl
  · show 0 * 1024 + o.val = o.val; omega

/-- What the scratches hold after the first half of a used tile. -/
theorem scratch_used (c : Dev nD) (s : Fin (cfgA ch).N) (hs : s.val % 2 = 0) (hb : bit ch (s.val / 2) = 1#1) :
    (traj0 ch m ρ c s.val s.isLt).2.1 = k0_pay1 (F := Ideal) (iblk ch m ρ c (0 : Fin 5) s)
      ∧ (traj0 ch m ρ c s.val s.isLt).2.2 = k0_pay3 (F := Ideal) (k0_pay1 (F := Ideal) (iblk ch m ρ c (0 : Fin 5) s)) (iblk ch m ρ c (1 : Fin 5) s) (iblk ch m ρ c (2 : Fin 5) s)
          (k0_pay2 (F := Ideal)) (iblk ch m ρ c (3 : Fin 5) s) := by
  have p0 : P0_0 ch s := (P0_iff ch s).2 ⟨hb, hs⟩
  rw [traj0_eq, step0_A ch m ρ c s _ p0]
  dsimp only
  have h1 := runA_x c (crd ch s) (ms0_0 ch s) (hs0_0 ch s) (ms0_1 ch s) (hs0_1 ch s) (ms0_2 ch s) (hs0_2 ch s) (ms0_3 ch s) (hs0_3 ch s) (ms0_4 ch s) (hs0_4 ch s) (pinT_0 ch) (pinT_1 ch) (iblk ch m ρ c (0 : Fin 5) s) (iblk ch m ρ c (1 : Fin 5) s) (iblk ch m ρ c (2 : Fin 5) s) (iblk ch m ρ c (3 : Fin 5) s) (hypsR0_A ch s p0).1 (hypsR0_A ch s p0).2.1 (hypsR0_A ch s p0).2.2.1 (hypsR0_A ch s p0).2.2.2.1
  have h2 := runA_acc c (crd ch s) (ms0_0 ch s) (hs0_0 ch s) (ms0_1 ch s) (hs0_1 ch s) (ms0_2 ch s) (hs0_2 ch s) (ms0_3 ch s) (hs0_3 ch s) (ms0_4 ch s) (hs0_4 ch s) (pinT_0 ch) (pinT_1 ch) (iblk ch m ρ c (0 : Fin 5) s) (iblk ch m ρ c (1 : Fin 5) s) (iblk ch m ρ c (2 : Fin 5) s) (iblk ch m ρ c (3 : Fin 5) s) (hypsR0_A ch s p0).1 (hypsR0_A ch s p0).2.1 (hypsR0_A ch s p0).2.2.1 (hypsR0_A ch s p0).2.2.2.1
  exact ⟨h1, h2⟩

/-- What an odd point of a used tile writes: its own half's product over the half before it. -/
theorem after_used (c : Dev nD) (t s : Fin (cfgA ch).N) (hs : t.val = s.val + 1) (ht : t.val % 2 = 1) (hb : bit ch (t.val / 2) = 1#1) :
    (dats ch m ρ 0 c).after (4 : Fin 5) t
      = k0_pay3 (F := Ideal) (k0_pay1 (F := Ideal) (iblk ch m ρ c (0 : Fin 5) s)) (iblk ch m ρ c (1 : Fin 5) t) (iblk ch m ρ c (2 : Fin 5) t)
          (k0_pay3 (F := Ideal) (k0_pay1 (F := Ideal) (iblk ch m ρ c (0 : Fin 5) s)) (iblk ch m ρ c (1 : Fin 5) s) (iblk ch m ρ c (2 : Fin 5) s) (k0_pay2 (F := Ideal))
            (iblk ch m ρ c (3 : Fin 5) s))
          (iblk ch m ρ c (3 : Fin 5) t) := by
  have hsb : bit ch (s.val / 2) = 1#1 := by rw [show s.val / 2 = t.val / 2 by omega]; exact hb
  have q0 : ¬P0_0 ch t := fun h => by have := ((P0_iff ch t).1 h).2; omega
  have q1 : P0_1 ch t := (P1_iff ch t).2 hb
  obtain ⟨e1, e2⟩ := scratch_used ch m ρ c s (by omega) hsb
  have hprev : prev0 ch m ρ c t = traj0 ch m ρ c s.val s.isLt := by
    unfold prev0
    rw [dif_neg (by omega)]
    congr 1
    omega
  rw [after0_4, traj0_eq, step0_B ch m ρ c t _ q0 q1]
  dsimp only
  rw [outB, hprev, e1, e2]

theorem after_unused (c : Dev nD) (t : Fin (cfgA ch).N) (ht : t.val % 2 = 1) (hb : bit ch (t.val / 2) ≠ 1#1) :
    (dats ch m ρ 0 c).after (4 : Fin 5) t = k0_pay4 (F := Ideal) := by
  have q0 : ¬P0_0 ch t := fun h => by have := ((P0_iff ch t).1 h).2; omega
  have q1 : ¬P0_1 ch t := fun h => hb ((P1_iff ch t).1 h)
  have q2 : P0_2 ch t := (P2_iff ch t).2 ⟨hb, ht⟩
  rw [after0_4, traj0_eq, step0_D ch m ρ c t _ q0 q1 q2]
  dsimp only
  rw [outD]

/-- The array's contents: at row `r` its tile's expert's product where the tile is used, else zero. -/
def G (c : Dev nD) : (⟨2, ![36864, 1024]⟩ : Shape).Idx → EReal := fun i =>
  if bit ch (tile (i 0)).val = 1#1 then down (X m c) (Wg m c) (Wu m c) (Wd m c) (ex ch (tile (i 0))) (i 0) (i 1) else 0

theorem tile_row (i : Fin 72) (r : Fin 512) : tile (rowOf i r) = i := Fin.ext (by show (i.val * 512 + r.val) / 512 = i.val; omega)

/-- One half of a row's product. -/
theorem half_sum (c : Dev nD) (t : Fin (cfgA ch).N) (i : Fin 72) (hi : tl ch t = i) (j : ℕ) (hj : j < 2) (ht : t.val % 2 = j)
    (x : Vec Ideal S512x1024 .bf16) (r : Fin 512) (hx : ∀ k : Fin 1024, x (ix2 r k) = X m c (ix2 (rowOf i r) k)) (acc : Vec Ideal S512x1024 .f32) (o : Fin 1024) :
    k0_pay3 (F := Ideal) x (iblk ch m ρ c (1 : Fin 5) t) (iblk ch m ρ c (2 : Fin 5) t) acc (iblk ch m ρ c (3 : Fin 5) t) (ix2 r o)
      = (acc (ix2 r o) : EReal) + ∑ f : Fin 1792, hid (X m c) (Wg m c) (Wu m c) (ex ch i) (rowOf i r) (unitOf j hj f) * Wd m c (ix3 (ex ch i) (unitOf j hj f) o) := by
  subst hi ht
  rw [pay3_apply]
  refine congrArg (_ + ·) (Finset.sum_congr rfl fun f _ => ?_)
  unfold hid proj
  refine congrArg₂ (· * ·) ?_ (wd_blk ch m ρ c t f o)
  have e1 : ∀ f, ∑ k : Fin 1024, x (ix2 r k) * iblk ch m ρ c (1 : Fin 5) t (ix3 0 k f) = ∑ k : Fin 1024, X m c (ix2 (rowOf (tl ch t) r) k) * Wg m c (ix3 (ex ch (tl ch t)) k (unitOf (t.val % 2) hj f)) :=
    fun f => Finset.sum_congr rfl fun k _ => congrArg₂ (· * ·) (hx k) (wg_blk ch m ρ c t k f)
  have e2 : ∀ f, ∑ k : Fin 1024, x (ix2 r k) * iblk ch m ρ c (2 : Fin 5) t (ix3 0 k f) = ∑ k : Fin 1024, X m c (ix2 (rowOf (tl ch t) r) k) * Wu m c (ix3 (ex ch (tl ch t)) k (unitOf (t.val % 2) hj f)) :=
    fun f => Finset.sum_congr rfl fun k _ => congrArg₂ (· * ·) (hx k) (wu_blk ch m ρ c t k f)
  exact congrArg₂ (· * ·) (congrArg₂ (· * ·) (e1 f) (congrArg sgm (e1 f))) (e2 f)

theorem covers4 : ((cfgA ch).win (4 : Fin 5)).Covers := by
  have h : ((cfgA ⟨fun _ => 0#32, fun _ => 0#32, fun _ => by decide⟩).win (4 : Fin 5)).Covers := by decide +kernel
  exact h

/-- What a point that writes back writes, at row `r`, column `o` of its block. -/
theorem after_apply (c : Dev nD) (t : Fin (cfgA ch).N) (ht : t.val % 2 = 1) (r : Fin 512) (o : Fin 1024) :
    (dats ch m ρ 0 c).after (4 : Fin 5) t (ix2 r o) = G ch m c (ix2 (rowOf (tl ch t) r) o) := by
  unfold G
  show _ = if bit ch (tile (rowOf (tl ch t) r)).val = 1#1 then down (X m c) (Wg m c) (Wu m c) (Wd m c) (ex ch (tile (rowOf (tl ch t) r))) (rowOf (tl ch t) r) o else 0
  rw [tile_row]
  by_cases hb : bit ch (t.val / 2) = 1#1
  · rw [if_pos hb]
    have hlt := pt_lt ch t
    obtain ⟨s, hs⟩ : ∃ s : Fin (cfgA ch).N, t.val = s.val + 1 := ⟨⟨t.val - 1, by omega⟩, by show t.val = t.val - 1 + 1; omega⟩
    have hts : tl ch s = tl ch t := Fin.ext (by show s.val / 2 = t.val / 2; omega)
    rw [after_used ch m ρ c t s hs ht hb]
    have hx : ∀ k : Fin 1024, k0_pay1 (F := Ideal) (iblk ch m ρ c (0 : Fin 5) s) (ix2 r k) = X m c (ix2 (rowOf (tl ch t) r) k) := fun k => by
      rw [← hts]; exact (pay1_apply _ r k).trans (x_blk ch m ρ c s r k)
    rw [half_sum ch m ρ c t _ rfl 1 (by omega) ht _ r hx _ o, half_sum ch m ρ c s _ hts 0 (by omega) (by omega) _ r hx _ o, pay2_apply, zero_add]
    unfold down
    rw [sum_halves]
    refine congrArg₂ (· + ·) (Finset.sum_congr rfl fun f _ => ?_) (Finset.sum_congr rfl fun f _ => ?_)
    · rw [show unitOf 0 (by omega) f = ⟨f.val, by omega⟩ from Fin.ext (by show 0 * 1792 + f.val = f.val; omega)]
    · rfl
  · rw [if_neg hb, after_unused ch m ρ c t ht hb]
    exact pay4_apply r o

/-- The array after the run. -/
theorem arr_eq (c : Dev nD) : (dats ch m ρ 0 c).arrAt (4 : Fin 5) (cfgA ch).N = G ch m c := by
  refine (dats ch m ρ 0 c).arrAt_eq_of_covers (4 : Fin 5) _ (covers4 ch) fun t hf y => ?_
  have ht : t.val % 2 = 1 := by have := (flush4 ch t).symm.trans hf; exact of_decide_eq_true this
  obtain ⟨r, o, rfl⟩ : ∃ (r : Fin 512) (o : Fin 1024), y = ix2 r o := ⟨y 0, y 1, eq_ix2 y⟩
  refine Eq.trans ?_ ((after_apply ch m ρ c t ht r o).trans (congrArg (G ch m c) (funext fun a => Fin.ext ?_)))
  · rfl
  · have e := Pipeline.Window.rect_emb_val ((cfgA ch).win (4 : Fin 5)) t (ix2 r o) a rfl
    refine Eq.trans ?_ e.symm
    rw [idx_4]
    fin_cases a
    · rfl
    · show o.val = 0 * 1024 + o.val; omega

end Cert.Kernel2Ideal.Moe

end
-- ==== Proof.MoeRef.lean ====
/- The reference's result at an index: the gated sum over the eight experts of each row's product. -/
module

public import proofs.«01_k».proof.Proof.Gen.Reference2Ideal.Read
public import proofs.«01_k».proof.Proof.MoeSpec
public import Idealize.ShloMosaic.Lib.ValueLayout

@[expose] public section

set_option maxRecDepth 16384
set_option Elab.async false

noncomputable section

namespace Cert.Moe.Ref

open Cert.Reference2Ideal Cert.Reference2Ideal.Gen Cert.Reference2Ideal.Read
open Idealize.ShloMosaic Idealize.ShloMosaic.TcCoe Idealize.ShloMosaic.Tactic

variable (x0 : (⟨S72, .i32⟩ : BufTy).Contents (Elt Ideal)) (x1 : (⟨S1, .i32⟩ : BufTy).Contents (Elt Ideal)) (x2 : (⟨S36864x1024, .f32⟩ : BufTy).Contents (Elt Ideal))
  (x3 x4 : (⟨S8x1024x3584, .bf16⟩ : BufTy).Contents (Elt Ideal)) (x5 : (⟨S8x3584x1024, .bf16⟩ : BufTy).Contents (Elt Ideal))

/-- The number of used tiles, as the reference reads it. -/
theorem nu_apply (j : S_.Idx) : val_main_v7 (F := Ideal) x1 j = x1 (ix1 0) := by
  unfold val_main_v7
  refine congrArg x1 (funext fun a => Fin.ext ?_)
  fin_cases a
  exact Nat.lt_one_iff.mp (Fin.isLt _)

/-- The gates' array at row `r`, expert `e`. -/
theorem gate_apply (i : S36864x8.Idx) : val_main_v15 (F := Ideal) x0 x1 i = gate x0 x1 (i 1).val (i 0) := by
  rw [val_main_v15_apply, val_main_v14_apply, val_main_v13_apply, val_main_v12_apply, val_main_v6_apply, val_main_v11_apply, val_main_v10_apply,
    val_main_v9_apply, val_main_v8_apply, nu_apply, val_main_v4_apply, val_main_v5_apply, val_main_v3_apply, val_main_v2_apply,
    val_main_v1_apply, val_main_v0_apply]
  have h1 : (i 1).val < 8 := (i 1).isLt
  have h0 : (i 0).val < 36864 := (i 0).isLt
  have ht : ((i 0).val * 8 + (i 1).val) / 4096 = (i 0).val / 512 := by omega
  have he : ((i 0).val * 8 + (i 1).val) % 8 = (i 1).val := by omega
  unfold gate hit
  refine congrArg (FloatOps.uitofp (F := Ideal) .f32) (congrArg₂ IntOp.andi (congrArg₂ (IntOp.cmpi .eq) (congrArg x0 ?_) ?_) (congrArg₂ (IntOp.cmpi .slt) ?_ (congrArg x1 ?_)))
  · funext a; apply Fin.ext; fin_cases a; exact ht
  · exact congrArg (BitVec.ofNat 32) he
  · exact congrArg (BitVec.ofNat 32) ht
  · funext a; apply Fin.ext; fin_cases a; rfl

theorem zero_apply (i : S36864x1024.Idx) : val_main_v19 (F := Ideal) i = (0 : EReal) := by
  rw [val_main_v19_apply, val_main_cst_apply]
  exact Ideal.ofBits_zero_f32

/-- Expert `e`'s matrix in a stack of eight, whatever its sizes: the stack cast, cut at `e`, and one axis fewer. -/
theorem slab {M N : ℕ} (e : Fin 8) (w : (⟨3, ![8, M, N]⟩ : Shape).Idx → Ideal .bf16) (h : Shape.Slices ⟨3, ![8, M, N]⟩ ![e.val, 0, 0] ⟨3, ![1, M, N]⟩)
    (h' : Shape.ShapeCasts ⟨3, ![1, M, N]⟩ ⟨2, ![M, N]⟩) (k : Fin M) (f : Fin N) :
    shapeCast ⟨2, ![M, N]⟩ (extractStridedSlice ⟨3, ![1, M, N]⟩ ![e.val, 0, 0] (extf .f32 w bitsLt_bf16_f32) h) h' (ix2 k f) = w (ix3 e k f) := by
  refine congrArg w ?_
  refine funext fun a => Fin.ext ?_
  show ![e.val, 0, 0] a + ((Shape.reshapeEquiv h') (ix2 k f) a).val = _
  rw [show Shape.reshapeEquiv h' (ix2 k f) = ix3 0 k f from ValueIdx.reshapeEquiv_ix2_1ab h' k f]
  fin_cases a
  · rfl
  · exact Nat.zero_add _
  · exact Nat.zero_add _

/-- Column `e` of the gates. -/
theorem column (e : Fin 8) (h : S36864x8.Slices ![0, e.val] S36864x1) (r : Fin 36864) :
    extractStridedSlice S36864x1 ![0, e.val] (val_main_v15 (F := Ideal) x0 x1) h (ix2 r 0) = gate x0 x1 e.val r := by
  refine Eq.trans (congrArg (val_main_v15 (F := Ideal) x0 x1) ?_) (gate_apply x0 x1 (ix2 r e))
  refine funext fun a => Fin.ext ?_
  fin_cases a
  · exact Nat.zero_add _
  · rfl

/-- The rows' product by one expert's matrices. -/
def swiglu (x : FVec Ideal S36864x1024 .f32) (wg wu : FVec Ideal S1024x3584 .f32) (wd : FVec Ideal S3584x1024 .f32) :
    FVec Ideal S36864x1024 .f32 :=
  Host.dotGeneral dot_S36864x3584_S3584x1024_S36864x1024_1_0_0_1_n_n none
    (mulf
      (mulf (Host.dotGeneral dot_S36864x1024_S1024x3584_S36864x3584_1_0_0_1_n_n none x wg)
        (Host.divf (val_main_call0_v4 (F := Ideal))
          (addf (val_main_call0_v2 (F := Ideal)) (Host.exp (Host.negf (Host.dotGeneral dot_S36864x1024_S1024x3584_S36864x3584_1_0_0_1_n_n none x wg))))))
      (Host.dotGeneral dot_S36864x1024_S1024x3584_S36864x3584_1_0_0_1_n_n none x wu))
    wd

/-- An expert's step: its gate by its product, added to the sum so far. -/
def step (acc : FVec Ideal S36864x1024 .f32) (gc : FVec Ideal S36864x1 .f32) (x : FVec Ideal S36864x1024 .f32)
    (wg wu : FVec Ideal S1024x3584 .f32) (wd : FVec Ideal S3584x1024 .f32) : FVec Ideal S36864x1024 .f32 :=
  addf acc (mulf (broadcastInDim S36864x1024 ![0, 1] bcast_S36864x1_S36864x1024_0_1 gc) (swiglu x wg wu wd))

/-- A step at an index, of any expert. -/
theorem step_apply (e : Fin 8) {acc : FVec Ideal S36864x1024 .f32} {gc : FVec Ideal S36864x1 .f32}
    {wg wu : FVec Ideal S1024x3584 .f32} {wd : FVec Ideal S3584x1024 .f32} {a : EReal}
    (r : Fin 36864) (o : Fin 1024) (ha : acc (ix2 r o) = a) (hg : gc (ix2 r 0) = gate x0 x1 e.val r)
    (h1 : ∀ k f, wg (ix2 k f) = x3 (ix3 e k f)) (h2 : ∀ k f, wu (ix2 k f) = x4 (ix3 e k f)) (h3 : ∀ f o, wd (ix2 f o) = x5 (ix3 e f o)) :
    step acc gc x2 wg wu wd (ix2 r o) = a + gate x0 x1 e.val r * down x2 x3 x4 x5 e r o := by
  have w4 : ∀ i, val_main_call0_v4 (F := Ideal) i = FloatOps.ofBits (F := Ideal) .f32 0x3F800000#32 := fun _ => rfl
  have w2 : ∀ i, val_main_call0_v2 (F := Ideal) i = FloatOps.ofBits (F := Ideal) .f32 0x3F800000#32 := fun _ => rfl
  unfold step swiglu
  generalize val_main_call0_v4 (F := Ideal) = one, val_main_call0_v2 (F := Ideal) = one' at *
  pointwise
  simp only [ha, hg, h1, h2, h3, w4, w2]
  rfl

/-- The reference's result at an index: eight steps. -/
theorem ref_apply (i : S36864x1024.Idx) :
    val_main_v139 (F := Ideal) x0 x1 x2 x3 x4 x5 i = combo (fun e => gate x0 x1 e (i 0)) (fun e => down x2 x3 x4 x5 e (i 0) (i 1)) := by
  obtain ⟨r, o, rfl⟩ : ∃ (r : Fin 36864) (o : Fin 1024), i = ix2 r o := ⟨i 0, i 1, eq_ix2 i⟩
  have next := fun (e : Fin 8) h h1 h1' h2 h2' (acc : FVec Ideal S36864x1024 .f32) (a : EReal) (ha : acc (ix2 r o) = a) =>
    step_apply x0 x1 x2 x3 x4 x5 e r o ha (column x0 x1 e h r) (slab e x3 h1 h1') (slab e x4 h1 h1') (slab e x5 h2 h2')
  have s0 : val_main_v34 (F := Ideal) x0 x1 x2 x3 x4 x5 (ix2 r o) = _ := next 0 _ _ _ _ _ _ _ (zero_apply _)
  have s1 : val_main_v49 (F := Ideal) x0 x1 x2 x3 x4 x5 (ix2 r o) = _ := next 1 _ _ _ _ _ _ _ s0
  have s2 : val_main_v64 (F := Ideal) x0 x1 x2 x3 x4 x5 (ix2 r o) = _ := next 2 _ _ _ _ _ _ _ s1
  have s3 : val_main_v79 (F := Ideal) x0 x1 x2 x3 x4 x5 (ix2 r o) = _ := next 3 _ _ _ _ _ _ _ s2
  have s4 : val_main_v94 (F := Ideal) x0 x1 x2 x3 x4 x5 (ix2 r o) = _ := next 4 _ _ _ _ _ _ _ s3
  have s5 : val_main_v109 (F := Ideal) x0 x1 x2 x3 x4 x5 (ix2 r o) = _ := next 5 _ _ _ _ _ _ _ s4
  have s6 : val_main_v124 (F := Ideal) x0 x1 x2 x3 x4 x5 (ix2 r o) = _ := next 6 _ _ _ _ _ _ _ s5
  exact next 7 _ _ _ _ _ _ _ s6

end Cert.Moe.Ref

end
-- ==== Proof.MoeClaim.lean ====
/- The experts' call: its claims. The tables the precondition allows name experts below eight; the array the call leaves is
   the reference's. -/
module

public import proofs.«01_k».proof.Defs
public import proofs.«01_k».proof.Proof.MoeFrame
public import proofs.«01_k».proof.Proof.MoeValue
public import proofs.«01_k».proof.Proof.MoeRef
public import proofs.«01_k».proof.Proof.Gen.Pre_in_range
public import proofs.«01_k».proof.Proof.Gen.Reference2Ideal.Run
public import proofs.«01_k».proof.Proof.Gen.Reference2Ideal.Read
public import Idealize.ShloMosaic.Lib.ReduceAll

@[expose] public section

set_option maxRecDepth 16384
set_option Elab.async false

noncomputable section

namespace Cert.Moe

open Idealize.ShloMosaic Idealize.ShloMosaic.TcCoe Idealize.SL.Sem

instance : Subsingleton Cert.Pre_in_range.S_.Idx := ⟨fun a b => funext fun d => d.elim0⟩

/-- The precondition, at one tile: its expert's number is below eight. -/
theorem lt_of_fn {F : FTy → Type} [FloatOps F] (x0 : Cert.Pre_in_range.S72.Idx → BitVec 32) (x1 : Cert.Pre_in_range.S1.Idx → BitVec 32) (x2 x3 x4 x5)
    (h : Cert.Pre_in_range.fn (F := F) x0 x1 x2 x3 x4 x5 = fun _ => 1#1) (y : Cert.Pre_in_range.S72.Idx) : (x0 y).toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e0 := congrFun h (fun d => d.elim0)
  dsimp only [Cert.Pre_in_range.fn] at e0
  have e := Host.reduce_andi_all _ _ _ _ _ e0 y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- There is one device. -/
theorem dev_eq (c d : Fin 1) : c = d := Subsingleton.elim c d

/-- The kernel's tables, out of a memory the precondition allows. -/
def tabs (m : (ℓ : Loc Cert.Kernel2.nD Cert.Kernel2.τ Cert.Kernel2.sig) → Buf (Elt Bits) ℓ) (h : Cert.Pre_Kernel2 m) : Cert.Kernel2.Moe.Tabs where
  te := m (((0 : Dev Cert.Kernel2.nD) : Thread Cert.Kernel2.nD Cert.Kernel2.τ).loc Cert.Kernel2.main_arg0)
  nu := m (((0 : Dev Cert.Kernel2.nD) : Thread Cert.Kernel2.nD Cert.Kernel2.τ).loc Cert.Kernel2.main_arg1)
  lt := fun x => lt_of_fn _ _ _ _ _ _ (h 0) x

theorem tabs_pinned (m : (ℓ : Loc Cert.Kernel2.nD Cert.Kernel2.τ Cert.Kernel2.sig) → Buf (Elt Bits) ℓ) (h : Cert.Pre_Kernel2 m) :
    Cert.Kernel2.Moe.Pinned (tabs m h) m :=
  ⟨fun c => by obtain rfl := dev_eq c 0; rfl, fun c => by obtain rfl := dev_eq c 0; rfl⟩

def tabsI (m : (ℓ : Loc Cert.Kernel2Ideal.nD Cert.Kernel2Ideal.τ Cert.Kernel2Ideal.sig) → Buf (Elt Ideal) ℓ) (h : Cert.Pre_Kernel2Ideal m) : Cert.Kernel2Ideal.Moe.Tabs where
  te := m (((0 : Dev Cert.Kernel2Ideal.nD) : Thread Cert.Kernel2Ideal.nD Cert.Kernel2Ideal.τ).loc Cert.Kernel2Ideal.main_arg0)
  nu := m (((0 : Dev Cert.Kernel2Ideal.nD) : Thread Cert.Kernel2Ideal.nD Cert.Kernel2Ideal.τ).loc Cert.Kernel2Ideal.main_arg1)
  lt := fun x => lt_of_fn _ _ _ _ _ _ (h 0) x

theorem tabsI_pinned (m : (ℓ : Loc Cert.Kernel2Ideal.nD Cert.Kernel2Ideal.τ Cert.Kernel2Ideal.sig) → Buf (Elt Ideal) ℓ) (h : Cert.Pre_Kernel2Ideal m) :
    Cert.Kernel2Ideal.Moe.Pinned (tabsI m h) m :=
  ⟨fun c => by obtain rfl := dev_eq c 0; rfl, fun c => by obtain rfl := dev_eq c 0; rfl⟩

theorem frame_k : Cert.quiescent_Kernel2 := fun m g h => Cert.Kernel2.Moe.frame (tabs m h) m g (tabs_pinned m h)

theorem frame_ki : Cert.quiescent_Kernel2Ideal := fun m g h => Cert.Kernel2Ideal.Moe.frame (tabsI m h) m g (tabsI_pinned m h)

theorem frame_ri : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The array the call leaves is the reference's result at the same arguments. -/
theorem tie (ch : Cert.Kernel2Ideal.Moe.Tabs) (m : (ℓ : Loc Cert.Kernel2Ideal.nD Cert.Kernel2Ideal.τ Cert.Kernel2Ideal.sig) → Buf (Elt Ideal) ℓ) (c : Dev Cert.Kernel2Ideal.nD) :
    Cert.Kernel2Ideal.Moe.G ch m c
      = Cert.Reference2Ideal.Read.val_main_v139 (F := Ideal) ch.te ch.nu (Cert.Kernel2Ideal.Moe.X m c) (Cert.Kernel2Ideal.Moe.Wg m c)
          (Cert.Kernel2Ideal.Moe.Wu m c) (Cert.Kernel2Ideal.Moe.Wd m c) := by
  funext i
  rw [Cert.Moe.Ref.ref_apply]
  have hb : Cert.Kernel2Ideal.Moe.bit ch (tile (i 0)).val = IntOp.cmpi .slt (BitVec.ofNat 32 (tile (i 0)).val) (ch.nu (ix1 0)) := by
    refine congrArg (fun w => IntOp.cmpi .slt (BitVec.ofNat 32 (tile (i 0)).val) w) (congrArg ch.nu ?_)
    refine funext fun a => Fin.ext ?_
    fin_cases a
    exact Nat.lt_one_iff.mp (Fin.isLt _)
  unfold Cert.Kernel2Ideal.Moe.G
  by_cases h : Cert.Kernel2Ideal.Moe.bit ch (tile (i 0)).val = 1#1
  · rw [if_pos h]
    refine (combo_one (fun e => gate ch.te ch.nu e (i 0)) (fun e => down (Cert.Kernel2Ideal.Moe.X m c) (Cert.Kernel2Ideal.Moe.Wg m c) (Cert.Kernel2Ideal.Moe.Wu m c) (Cert.Kernel2Ideal.Moe.Wd m c) e (i 0) (i 1))
      (Cert.Kernel2Ideal.Moe.ex ch (tile (i 0))) fun e he => ?_).symm
    unfold gate
    rw [hit_used _ _ e he _ (hb.symm.trans h)]
    show FloatOps.uitofp (F := Ideal) .f32 (if (ch.te (ix1 (tile (i 0)))).toNat = e then 1#1 else 0#1) = _
    by_cases hc : (ch.te (ix1 (tile (i 0)))).toNat = e
    · rw [if_pos hc, if_pos hc]; exact uitofp_one
    · rw [if_neg hc, if_neg hc]; exact uitofp_zero
  · rw [if_neg h]
    refine (combo_none (fun e => gate ch.te ch.nu e (i 0)) (fun e => down (Cert.Kernel2Ideal.Moe.X m c) (Cert.Kernel2Ideal.Moe.Wg m c) (Cert.Kernel2Ideal.Moe.Wu m c) (Cert.Kernel2Ideal.Moe.Wd m c) e (i 0) (i 1)) fun e he => ?_).symm
    unfold gate
    rw [hit_unused _ _ e _ (fun hh => h (hb.trans hh))]
    exact uitofp_zero

/-- A function of six arguments at equal arguments. -/
theorem args6 {A B C D E H K : Type} (f : A → B → C → D → E → H → K) {a a' : A} {b b' : B} {x x' : C} {d d' : D} {e e' : E} {h h' : H}
    (ha : a = a') (hb : b = b') (hx : x = x') (hd : d = d') (he : e = e') (hh : h = h') : f a b x d e h = f a' b' x' d' e' h' := by
  subst ha hb hx hd he hh; rfl

theorem algebraic : Cert.algebraic_Kernel2Ideal_Reference2Ideal := by
  intro m g m' g' hpre hargs
  have hp := tabsI_pinned m hpre
  refine ⟨fun c => Cert.Kernel2Ideal.Moe.G (tabsI m hpre) m c, ?_, ?_⟩
  · refine (θ_run _ _ _).mono (fun r h c => ⟨?_, h.2 c⟩) (θ_run_and (Cert.Kernel2Ideal.Moe.run_main (tabsI m hpre) m g hp) (Cert.Kernel2Ideal.Moe.unchanged (tabsI m hpre) m g hp))
    exact ((h.1 c).1 (4 : Fin 5)).trans (Cert.Kernel2Ideal.Moe.arr_eq (tabsI m hpre) m g c)
  · refine (θ_run _ _ _).mono (fun r h c => ⟨(h c).1.trans ?_, (h c).2⟩) (Cert.Reference2Ideal.Value.run (F := Ideal) m' g')
    obtain ⟨e0, e1, e2, e3, e4, e5⟩ := hargs c
    have a0 : m' ((c.tc : Thread Cert.Reference2Ideal.nD Cert.Reference2Ideal.τ).loc Cert.Reference2Ideal.main_arg0) = (tabsI m hpre).te := e0.trans (hp.1 c)
    have a1 : m' ((c.tc : Thread Cert.Reference2Ideal.nD Cert.Reference2Ideal.τ).loc Cert.Reference2Ideal.main_arg1) = (tabsI m hpre).nu := e1.trans (hp.2 c)
    exact (Cert.Reference2Ideal.Read.val_main_v139_eq (F := Ideal) (StableHlo.launchContents m' c)).trans
      ((args6 (Cert.Reference2Ideal.Read.val_main_v139 (F := Ideal)) a0 a1 e2 e3 e4 e5).trans (tie (tabsI m hpre) m c).symm)

end Cert.Moe

end
-- ==== Proof.FfnBlocks.lean ====
/- What one point of the dense feed-forward writes, as the body's own steps of its blocks. -/
module

public import proofs.«01_k».proof.Proof.Gen.Kernel3Ideal.Value
public import Idealize.ShloMosaic.Lib.Pipeline.ValueKit

@[expose] public section

set_option maxRecDepth 16384
set_option Elab.async false

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.Sem

/-- The output block: the feed-forward of the modulated normal, gated by row 5 of the modulation block, added to the rows. -/
theorem out_eq  (c : Dev nD) (i : grid0.Coords) (arg3 : Memref sig .tc .vmem S1x256x1024 .f32) (harg3 : arg3.IsWhole) (arg4 : Memref sig .tc .vmem S1x1024 .f32) (harg4 : arg4.IsWhole) (arg5 : Memref sig .tc .vmem S1x1x8x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x256x1024 .f32) (harg9 : arg9.IsWhole) (arg10 : Memref sig .tc .vmem S256x1024 .bf16) (harg10 : arg10.IsWhole) (arg11 : Memref sig .tc .vmem S256x1024 .f32) (harg11 : arg11.IsWhole) (hc0 : cond0_0 i) (hc1 : cond0_1 i)
    (x0 : Vec Ideal S1x256x1024 .f32) (x1 : Vec Ideal S1x1024 .f32) (x2 : Vec Ideal S1x1x8x1024 .f32) (x3 : Vec Ideal S1024x2816 .bf16) (x4 : Vec Ideal S1024x2816 .bf16) (x5 : Vec Ideal S2816x1024 .bf16) :
    out0_A_6 c i arg3 harg3 arg4 harg4 arg5 harg5 arg6 harg6 arg7 harg7 arg8 harg8 arg9 harg9 arg10 harg10 arg11 harg11 hc0 hc1 x0 x1 x2 x3 x4 x5
      = k0_pay4 x0 (View.ld x2 (Rect.unit ![0, 0, 5, 0] ![1, 1, 1, 1024] inb_S1x1x8x1024_S1x1x1x1024_0_0_5_0)) (k0_pay3 (k0_pay1 x0 x1 x2) x3 x4 (k0_pay2 (F := Ideal)) x5) := by
  frame_out

end Cert.Kernel3Ideal.Ffn

end
-- ==== Proof.FfnSpec.lean ====
/- The dense feed-forward of one row as plain sums of extended reals: the row's rms normal, scaled by the norm's weights,
   modulated, put through the gated hidden layer, and added back to the row under its gate. -/
module

public import proofs.«01_k».proof.Proof.MoeSpec

@[expose] public section

noncomputable section

namespace Cert.Ffn

open Idealize.ShloMosaic
open Cert.Moe (sgm)

/-- The logistic function, as the body and as the reference divide it out. -/
theorem sgm_neg (a : EReal) : Ideal.div 1 (1 + Ideal.exp (-a)) = sgm a := by
  unfold sgm
  show _ = Ideal.div (Ideal.ofBits .f32 0x3F800000#32) (Ideal.ofBits .f32 0x3F800000#32 + Ideal.exp (-a))
  rw [Ideal.ofBits_one_f32]

/-- One entry of the normalized and modulated row: `x` the row, `g` the norm's weights, `sh` and `sc` the shift and the scale. -/
def nrm (x g sh sc : Fin 1024 → EReal) (k : Fin 1024) : EReal :=
  x k * Ideal.rsqrt (Ideal.div (∑ j, x j * x j) (Ideal.ofBits .f32 1149239296#32) + Ideal.ofBits .f32 897988541#32) * g k * (1 + sc k) + sh k

/-- A row by column `f` of a matrix. -/
def proj (h : Fin 1024 → EReal) (w : (⟨2, ![1024, 2816]⟩ : Shape).Idx → EReal) (f : Fin 2816) : EReal :=
  ∑ k : Fin 1024, h k * w (ix2 k f)

/-- Hidden unit `f` of a row. -/
def hid (h : Fin 1024 → EReal) (wg wu : (⟨2, ![1024, 2816]⟩ : Shape).Idx → EReal) (f : Fin 2816) : EReal :=
  proj h wg f * sgm (proj h wg f) * proj h wu f

/-- Entry `o` of a row's feed-forward. -/
def down (h : Fin 1024 → EReal) (wg wu : (⟨2, ![1024, 2816]⟩ : Shape).Idx → EReal) (wd : (⟨2, ![2816, 1024]⟩ : Shape).Idx → EReal)
    (o : Fin 1024) : EReal :=
  ∑ f : Fin 2816, hid h wg wu f * wd (ix2 f o)

/-- Entry `o` of the layer's result on a row: the residual and the gated feed-forward of the modulated normal. -/
def out (x g sh sc gt : Fin 1024 → EReal) (wg wu : (⟨2, ![1024, 2816]⟩ : Shape).Idx → EReal) (wd : (⟨2, ![2816, 1024]⟩ : Shape).Idx → EReal)
    (o : Fin 1024) : EReal :=
  x o + gt o * down (nrm x g sh sc) wg wu wd o

/-- Entry `i` of the layer's result on the whole array: the rows from 4096 on take the first set of modulation rows, those before it
    the second; of a set the rows 3, 4 and 5 are the shift, the scale and the gate. -/
def whole (x : (⟨3, ![4, 4352, 1024]⟩ : Shape).Idx → EReal) (g : (⟨1, ![1024]⟩ : Shape).Idx → EReal) (md : (⟨4, ![4, 2, 8, 1024]⟩ : Shape).Idx → EReal)
    (wg wu : (⟨2, ![1024, 2816]⟩ : Shape).Idx → EReal) (wd : (⟨2, ![2816, 1024]⟩ : Shape).Idx → EReal) (s : Fin 2) (b : Fin 4) (r : Fin 4352) (o : Fin 1024) : EReal :=
  out (fun k => x (ix3 b r k)) (fun k => g (ix1 k)) (fun k => md (ix4 b s 3 k)) (fun k => md (ix4 b s 4 k)) (fun k => md (ix4 b s 5 k)) wg wu wd o

end Cert.Ffn

end
-- ==== Proof.FfnPay.lean ====
/- The dense feed-forward body's arithmetic, entry by entry. -/
module

public import proofs.«01_k».proof.Proof.Gen.Kernel3Ideal.Skeleton
public import proofs.«01_k».proof.Proof.FfnSpec
public import Idealize.ShloMosaic.Lib.Pipeline.ValueKit

@[expose] public section

set_option maxRecDepth 16384
set_option Elab.async false

noncomputable section

namespace Cert.Kernel3Ideal.Ffn

open Cert.Kernel3Ideal Cert.Kernel3Ideal.Gen Cert.Ffn
open Idealize.ShloMosaic Idealize.ShloMosaic.TcCoe Idealize.ShloMosaic.Tactic

/-- The modulated normal of a block's row. -/
theorem pay1_apply (x : Vec Ideal S1x256x1024 .f32) (g : Vec Ideal S1x1024 .f32) (md : Vec Ideal S1x1x8x1024 .f32) (r : Fin 256) (k : Fin 1024) :
    k0_pay1 (F := Ideal) x g md (ix2 r k)
      = nrm (fun k => x (ix3 0 r k)) (fun k => g (ix2 0 k)) (fun k => md (ix4 0 0 3 k)) (fun k => md (ix4 0 0 4 k)) k := by
  unfold k0_pay1
  pointwise
  rfl

theorem pay2_apply (r : Fin 256) (o : Fin 1024) : k0_pay2 (F := Ideal) (ix2 r o) = (0 : EReal) := by
  unfold k0_pay2
  pointwise

/-- A row's feed-forward, added to what the scratch held. -/
theorem pay3_apply (x : Vec Ideal S256x1024 .bf16) (w1 w2 : Vec Ideal S1024x2816 .bf16) (acc : Vec Ideal S256x1024 .f32) (w3 : Vec Ideal S2816x1024 .bf16)
    (r : Fin 256) (o : Fin 1024) :
    k0_pay3 (F := Ideal) x w1 w2 acc w3 (ix2 r o) = (acc (ix2 r o) : EReal) + down (fun k => x (ix2 r k)) w1 w2 w3 o := by
  unfold k0_pay3
  pointwise
  simp only [zero_sub, sgm_neg]
  rfl

/-- The residual and the gated feed-forward. -/
theorem pay4_apply (x : Vec Ideal S1x256x1024 .f32) (gt : Vec Ideal S1x1x1x1024 .f32) (acc : Vec Ideal S256x1024 .f32) (r : Fin 256) (o : Fin 1024) :
    k0_pay4 (F := Ideal) x gt acc (ix3 0 r o) = (x (ix3 0 r o) + gt (ix4 0 0 0 o) * acc (ix2 r o) : EReal) := by
  unfold k0_pay4
  pointwise

end Cert.Kernel3Ideal.Ffn

end
-- ==== Proof.FfnValue.lean ====
/- The array the dense feed-forward's call leaves: at every row the layer's result on that row. -/
module

public import proofs.«01_k».proof.Proof.FfnBlocks
public import proofs.«01_k».proof.Proof.FfnPay
public import Idealize.ShloMosaic.Lib.Claim

@[expose] public section

set_option maxRecDepth 16384
set_option Elab.async false

noncomputable section

namespace Cert.Kernel3Ideal.Ffn

open Cert.Kernel3Ideal Cert.Kernel3Ideal.Gen Cert.Kernel3Ideal.Value Cert.Ffn
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ)

/-- The operands. -/
abbrev X (c : Dev nD) : (⟨3, ![4, 4352, 1024]⟩ : Shape).Idx → EReal := m ((c : Thread nD τ).loc main_arg0)
abbrev Gn (c : Dev nD) : (⟨1, ![1024]⟩ : Shape).Idx → EReal := m ((c : Thread nD τ).loc main_arg1)
abbrev Md (c : Dev nD) : (⟨4, ![4, 2, 8, 1024]⟩ : Shape).Idx → EReal := m ((c : Thread nD τ).loc main_arg2)
abbrev Wg (c : Dev nD) : (⟨2, ![1024, 2816]⟩ : Shape).Idx → EReal := m ((c : Thread nD τ).loc main_arg3)
abbrev Wu (c : Dev nD) : (⟨2, ![1024, 2816]⟩ : Shape).Idx → EReal := m ((c : Thread nD τ).loc main_arg4)
abbrev Wd (c : Dev nD) : (⟨2, ![2816, 1024]⟩ : Shape).Idx → EReal := m ((c : Thread nD τ).loc main_arg5)

theorem pt_lt (t : Fin cfg0.N) : t.val < 68 := t.isLt

/-- The batch entry and the tile of rows of point `t`, and the set of modulation rows its tile takes. -/
abbrev bt (t : Fin cfg0.N) : Fin 4 := ⟨t.val / 17, by have := pt_lt t; omega⟩
abbrev rowOf (t : Fin cfg0.N) (r : Fin 256) : Fin 4352 := ⟨t.val % 17 * 256 + r.val, by omega⟩
abbrev st (r : Fin 4352) : Fin 2 := if r.val < 4096 then 1 else 0

theorem st_rowOf (t : Fin cfg0.N) (r : Fin 256) : (st (rowOf t r)).val = if t.val % 17 = 16 then 0 else 1 := by
  unfold st
  by_cases h : t.val % 17 = 16
  · rw [if_pos h, if_neg (by show ¬t.val % 17 * 256 + r.val < 4096; omega)]; rfl
  · rw [if_neg h, if_pos (by show t.val % 17 * 256 + r.val < 4096; omega)]; rfl

theorem idx_0 : ∀ t : Fin cfg0.N, (cfg0.win 0).index t = ![t.val / 17, t.val % 17, 0] :=
  (by decide +kernel : ∀ t : Fin grid0.N, win0_0.index t = ![t.val / 17, t.val % 17, 0])
theorem idx_1 : ∀ t : Fin cfg0.N, (cfg0.win 1).index t = ![0, 0] :=
  (by decide +kernel : ∀ t : Fin grid0.N, win0_1.index t = ![0, 0])
theorem idx_2 : ∀ t : Fin cfg0.N, (cfg0.win 2).index t = ![t.val / 17, if t.val % 17 = 16 then 0 else 1, 0, 0] :=
  (by decide +kernel : ∀ t : Fin grid0.N, win0_2.index t = ![t.val / 17, if t.val % 17 = 16 then 0 else 1, 0, 0])
theorem idx_3 : ∀ t : Fin cfg0.N, (cfg0.win 3).index t = ![0, 0] :=
  (by decide +kernel : ∀ t : Fin grid0.N, win0_3.index t = ![0, 0])
theorem idx_4 : ∀ t : Fin cfg0.N, (cfg0.win 4).index t = ![0, 0] :=
  (by decide +kernel : ∀ t : Fin grid0.N, win0_4.index t = ![0, 0])
theorem idx_5 : ∀ t : Fin cfg0.N, (cfg0.win 5).index t = ![0, 0] :=
  (by decide +kernel : ∀ t : Fin grid0.N, win0_5.index t = ![0, 0])
theorem idx_6 : ∀ t : Fin cfg0.N, (cfg0.win 6).index t = ![t.val / 17, t.val % 17, 0] :=
  (by decide +kernel : ∀ t : Fin grid0.N, win0_6.index t = ![t.val / 17, t.val % 17, 0])

theorem x_blk (c : Dev nD) (t : Fin cfg0.N) (r : Fin 256) (k : Fin 1024) : iblk m c 0 t (ix3 0 r k) = X m c (ix3 (bt t) (rowOf t r) k) := by
  refine (congrFun (V_main_arg0 m c) _).trans (congrArg (X m c) (funext fun a => Fin.ext ?_))
  refine (Pipeline.Window.rect_emb_val (cfg0.win 0) t (ix3 0 r k) a rfl).trans ?_
  rw [idx_0]
  fin_cases a
  · show t.val / 17 * 1 + 0 = t.val / 17; omega
  · rfl
  · show 0 * 1024 + k.val = k.val; omega

/-- The norm's weights, laid out as one row by the call's caller. -/
theorem g_arr (c : Dev nD) (k : Fin 1024) : V m c main_v0 (ix2 0 k) = Gn m c (ix1 k) := by
  entry_read
  pointwise

theorem g_blk (c : Dev nD) (t : Fin cfg0.N) (k : Fin 1024) : iblk m c 1 t (ix2 0 k) = Gn m c (ix1 k) := by
  refine Eq.trans (congrArg (V m c main_v0) (funext fun a => Fin.ext ?_)) (g_arr m c k)
  refine (Pipeline.Window.rect_emb_val (cfg0.win 1) t (ix2 0 k) a rfl).trans ?_
  rw [idx_1]
  fin_cases a
  · rfl
  · show 0 * 1024 + k.val = k.val; omega

theorem md_blk (c : Dev nD) (t : Fin cfg0.N) (r : Fin 256) (j : Fin 8) (k : Fin 1024) :
    iblk m c 2 t (ix4 0 0 j k) = Md m c (ix4 (bt t) (st (rowOf t r)) j k) := by
  refine (congrFun (V_main_arg2 m c) _).trans (congrArg (Md m c) (funext fun a => Fin.ext ?_))
  refine (Pipeline.Window.rect_emb_val (cfg0.win 2) t (ix4 0 0 j k) a rfl).trans ?_
  rw [idx_2]
  fin_cases a
  · show t.val / 17 * 1 + 0 = t.val / 17; omega
  · show (if t.val % 17 = 16 then 0 else 1) * 1 + 0 = (st (rowOf t r)).val; rw [st_rowOf]; omega
  · show 0 * 8 + j.val = j.val; omega
  · show 0 * 1024 + k.val = k.val; omega

theorem wg_blk (c : Dev nD) (t : Fin cfg0.N) : iblk m c 3 t = Wg m c := by
  refine funext fun i => (congrFun (V_main_arg3 m c) _).trans (congrArg (Wg m c) (funext fun a => Fin.ext ?_))
  refine (Pipeline.Window.rect_emb_val (cfg0.win 3) t i a rfl).trans ?_
  rw [idx_3]
  fin_cases a
  · show 0 * 1024 + (i 0).val = (i 0).val; omega
  · show 0 * 2816 + (i 1).val = (i 1).val; omega

theorem wu_blk (c : Dev nD) (t : Fin cfg0.N) : iblk m c 4 t = Wu m c := by
  refine funext fun i => (congrFun (V_main_arg4 m c) _).trans (congrArg (Wu m c) (funext fun a => Fin.ext ?_))
  refine (Pipeline.Window.rect_emb_val (cfg0.win 4) t i a rfl).trans ?_
  rw [idx_4]
  fin_cases a
  · show 0 * 1024 + (i 0).val = (i 0).val; omega
  · show 0 * 2816 + (i 1).val = (i 1).val; omega

theorem wd_blk (c : Dev nD) (t : Fin cfg0.N) : iblk m c 5 t = Wd m c := by
  refine funext fun i => (congrFun (V_main_arg5 m c) _).trans (congrArg (Wd m c) (funext fun a => Fin.ext ?_))
  refine (Pipeline.Window.rect_emb_val (cfg0.win 5) t i a rfl).trans ?_
  rw [idx_5]
  fin_cases a
  · show 0 * 2816 + (i 0).val = (i 0).val; omega
  · show 0 * 1024 + (i 1).val = (i 1).val; omega

/-- The array's contents. -/
def G (c : Dev nD) : (⟨3, ![4, 4352, 1024]⟩ : Shape).Idx → EReal := fun i =>
  whole (X m c) (Gn m c) (Md m c) (Wg m c) (Wu m c) (Wd m c) (st (i 1)) (i 0) (i 1) (i 2)

/-- What a point writes, at row `r`, column `o` of its block. -/
theorem out_apply (c : Dev nD) (t : Fin cfg0.N) (r : Fin 256) (o : Fin 1024) :
    k0_pay4 (F := Ideal) (iblk m c 0 t) (View.ld (iblk m c 2 t) (Rect.unit ![0, 0, 5, 0] ![1, 1, 1, 1024] inb_S1x1x8x1024_S1x1x1x1024_0_0_5_0))
        (k0_pay3 (k0_pay1 (iblk m c 0 t) (iblk m c 1 t) (iblk m c 2 t)) (iblk m c 3 t) (iblk m c 4 t) (k0_pay2 (F := Ideal)) (iblk m c 5 t)) (ix3 0 r o)
      = G m c (ix3 (bt t) (rowOf t r) o) := by
  have hg : View.ld (iblk m c 2 t) (Rect.unit ![0, 0, 5, 0] ![1, 1, 1, 1024] inb_S1x1x8x1024_S1x1x1x1024_0_0_5_0) (ix4 0 0 0 o)
      = Md m c (ix4 (bt t) (st (rowOf t r)) 5 o) := by
    refine Eq.trans (congrArg (iblk m c 2 t) (funext fun a => Fin.ext ?_)) (md_blk m c t r 5 o)
    fin_cases a
    · rfl
    · rfl
    · rfl
    · show 0 + 1 * o.val = o.val; omega
  have hn : (fun k => k0_pay1 (F := Ideal) (iblk m c 0 t) (iblk m c 1 t) (iblk m c 2 t) (ix2 r k))
      = nrm (fun k => X m c (ix3 (bt t) (rowOf t r) k)) (fun k => Gn m c (ix1 k)) (fun k => Md m c (ix4 (bt t) (st (rowOf t r)) 3 k))
          (fun k => Md m c (ix4 (bt t) (st (rowOf t r)) 4 k)) := funext fun k => by
    refine (pay1_apply (iblk m c 0 t) (iblk m c 1 t) (iblk m c 2 t) r k).trans ?_
    rw [show (fun k => iblk m c 0 t (ix3 0 r k)) = fun k => X m c (ix3 (bt t) (rowOf t r) k) from funext fun k => x_blk m c t r k,
      show (fun k => iblk m c 1 t (ix2 0 k)) = fun k => Gn m c (ix1 k) from funext fun k => g_blk m c t k,
      show (fun k => iblk m c 2 t (ix4 0 0 3 k)) = fun k => Md m c (ix4 (bt t) (st (rowOf t r)) 3 k) from funext fun k => md_blk m c t r 3 k,
      show (fun k => iblk m c 2 t (ix4 0 0 4 k)) = fun k => Md m c (ix4 (bt t) (st (rowOf t r)) 4 k) from funext fun k => md_blk m c t r 4 k]
  rw [pay4_apply, pay3_apply, pay2_apply, zero_add, hg, hn, x_blk, wg_blk, wu_blk, wd_blk]
  rfl

theorem covers6 : (cfg0.win 6).Covers := by decide +kernel

/-- The array after the run. -/
theorem arr_eq (c : Dev nD) : (dats m 0 c).arrAt 6 cfg0.N = G m c := by
  refine (dats m 0 c).arrAt_eq_of_covers 6 _ covers6 fun t hf y => ?_
  obtain ⟨r, o, rfl⟩ : ∃ (r : Fin 256) (o : Fin 1024), y = ix3 0 r o :=
    ⟨y 1, y 2, funext fun a => by
      fin_cases a
      · exact Fin.ext (Nat.lt_one_iff.mp (y 0).isLt)
      · rfl
      · rfl⟩
  refine (congrFun (flushed6_A m c t) (ix3 0 r o)).trans ?_
  refine Eq.trans ?_ ((out_apply m c t r o).trans (congrArg (G m c) (funext fun a => Fin.ext ?_)))
  · exact congrFun (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t)) (ix3 0 r o)
  · refine Eq.trans ?_ (Pipeline.Window.rect_emb_val (cfg0.win 6) t (ix3 0 r o) a rfl).symm
    rw [idx_6]
    fin_cases a
    · show t.val / 17 = t.val / 17 * 1 + 0; omega
    · rfl
    · show o.val = 0 * 1024 + o.val; omega

end Cert.Kernel3Ideal.Ffn

end
-- ==== Proof.FfnRef.lean ====
/- The dense feed-forward's reference at an index. -/
module

public import proofs.«01_k».proof.Proof.Gen.Reference3Ideal.Read
public import proofs.«01_k».proof.Proof.FfnSpec

@[expose] public section

set_option maxRecDepth 16384
set_option Elab.async false

noncomputable section

namespace Cert.Ffn.Ref

open Cert.Reference3Ideal Cert.Reference3Ideal.Gen Cert.Reference3Ideal.Read
open Idealize.ShloMosaic Idealize.ShloMosaic.TcCoe Idealize.ShloMosaic.Tactic

variable (x0 : (⟨S4x4352x1024, .f32⟩ : BufTy).Contents (Elt Ideal)) (x1 : (⟨S1024, .f32⟩ : BufTy).Contents (Elt Ideal)) (x2 : (⟨S4x2x8x1024, .f32⟩ : BufTy).Contents (Elt Ideal))
  (x3 x4 : (⟨S1024x2816, .bf16⟩ : BufTy).Contents (Elt Ideal)) (x5 : (⟨S2816x1024, .bf16⟩ : BufTy).Contents (Elt Ideal))

/-! ### The rows before 4096 -/

/-- The modulated normal of a row. -/
theorem nrm_x (b : Fin 4) (r : Fin 4096) (k : Fin 1024) : val_main_v41 (F := Ideal) x0 x1 x2 (ix3 b r k)
    = nrm (fun k => x0 (ix3 b ⟨r.val, by omega⟩ k)) (fun k => x1 (ix1 k)) (fun k => x2 (ix4 b 1 3 k)) (fun k => x2 (ix4 b 1 4 k)) k := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v10 val_main_v9 val_main_v8 val_main_v7 val_main_v6 val_main_v5 val_main_v0 val_main_cst val_main_cst_0 val_main_cst_1 val_main_cst_2
  pointwise
  rfl

/-- A hidden unit of a row, over the modulated normal. -/
theorem hid_x (b : Fin 4) (r : Fin 4096) (f : Fin 2816) : val_main_v45 (F := Ideal) x0 x1 x2 x3 x4 (ix3 b r f)
    = hid (fun k => val_main_v41 (F := Ideal) x0 x1 x2 (ix3 b r k)) x3 x4 f := by
  unfold val_main_v45 val_main_v44 val_main_v43 val_main_call0_v5 val_main_call0_v4 val_main_call0_v3 val_main_call0_v2 val_main_call0_v1 val_main_call0_v0 val_main_call0_cst val_main_call0_cst_0 val_main_v42 val_main_v3 val_main_v2
  generalize val_main_v41 (F := Ideal) x0 x1 x2 = h
  pointwise
  simp only [sgm_neg]
  rfl

/-- The result on a row. -/
theorem out_x (b : Fin 4) (r : Fin 4096) (o : Fin 1024) : val_main_v49 (F := Ideal) x0 x1 x2 x3 x4 x5 (ix3 b r o)
    = whole x0 x1 x2 x3 x4 x5 1 b ⟨r.val, by omega⟩ o := by
  have e : ∀ f, val_main_v45 (F := Ideal) x0 x1 x2 x3 x4 (ix3 b r f) = _ := fun f =>
    (hid_x x0 x1 x2 x3 x4 b r f).trans (congrArg (fun h => hid h x3 x4 f) (funext fun k => nrm_x x0 x1 x2 b r k))
  unfold val_main_v49 val_main_v48 val_main_v47 val_main_v46 val_main_v13 val_main_v12 val_main_v11 val_main_v4 val_main_v0
  generalize val_main_v45 (F := Ideal) x0 x1 x2 x3 x4 = h at e ⊢
  pointwise
  simp only [e]
  rfl

/-! ### The rows from 4096 on -/

/-- The modulated normal of a row. -/
theorem nrm_c (b : Fin 4) (r : Fin 256) (k : Fin 1024) : val_main_v68 (F := Ideal) x0 x1 x2 (ix3 b r k)
    = nrm (fun k => x0 (ix3 b ⟨4096 + r.val, by omega⟩ k)) (fun k => x1 (ix1 k)) (fun k => x2 (ix4 b 0 3 k)) (fun k => x2 (ix4 b 0 4 k)) k := by
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v19 val_main_v18 val_main_v17 val_main_v16 val_main_v15 val_main_v14 val_main_v1 val_main_cst_3 val_main_cst_4 val_main_cst_5 val_main_cst_6
  pointwise
  rfl

/-- A hidden unit of a row, over the modulated normal. -/
theorem hid_c (b : Fin 4) (r : Fin 256) (f : Fin 2816) : val_main_v72 (F := Ideal) x0 x1 x2 x3 x4 (ix3 b r f)
    = hid (fun k => val_main_v68 (F := Ideal) x0 x1 x2 (ix3 b r k)) x3 x4 f := by
  unfold val_main_v72 val_main_v71 val_main_v70 val_main_call1_v5 val_main_call1_v4 val_main_call1_v3 val_main_call1_v2 val_main_call1_v1 val_main_call1_v0 val_main_call1_cst val_main_call1_cst_0 val_main_v69 val_main_v3 val_main_v2
  generalize val_main_v68 (F := Ideal) x0 x1 x2 = h
  pointwise
  simp only [sgm_neg]
  rfl

/-- The result on a row. -/
theorem out_c (b : Fin 4) (r : Fin 256) (o : Fin 1024) : val_main_v76 (F := Ideal) x0 x1 x2 x3 x4 x5 (ix3 b r o)
    = whole x0 x1 x2 x3 x4 x5 0 b ⟨4096 + r.val, by omega⟩ o := by
  have e : ∀ f, val_main_v72 (F := Ideal) x0 x1 x2 x3 x4 (ix3 b r f) = _ := fun f =>
    (hid_c x0 x1 x2 x3 x4 b r f).trans (congrArg (fun h => hid h x3 x4 f) (funext fun k => nrm_c x0 x1 x2 b r k))
  unfold val_main_v76 val_main_v75 val_main_v74 val_main_v73 val_main_v22 val_main_v21 val_main_v20 val_main_v4 val_main_v1
  generalize val_main_v72 (F := Ideal) x0 x1 x2 x3 x4 = h at e ⊢
  pointwise
  simp only [e]
  rfl

/-- The result. -/
theorem ref_apply (b : Fin 4) (r : Fin 4352) (o : Fin 1024) : val_main_v77 (F := Ideal) x0 x1 x2 x3 x4 x5 (ix3 b r o)
    = whole x0 x1 x2 x3 x4 x5 (if r.val < 4096 then 1 else 0) b r o := by
  unfold val_main_v77
  pointwise
  by_cases h : r.val < 4096
  · rw [dif_pos h, if_pos h]
    exact out_x x0 x1 x2 x3 x4 x5 b ⟨r.val, h⟩ o
  · rw [dif_neg h, if_neg h]
    refine (out_c x0 x1 x2 x3 x4 x5 b ⟨r.val - 4096, by omega⟩ o).trans (congrArg (fun r => whole x0 x1 x2 x3 x4 x5 0 b r o) (Fin.ext ?_))
    show 4096 + (r.val - 4096) = r.val
    omega

end Cert.Ffn.Ref

end
-- ==== Proof.FfnClaim.lean ====
/- The dense feed-forward's call: its claims. The array the call leaves is the reference's. -/
module

public import proofs.«01_k».proof.Defs
public import proofs.«01_k».proof.Proof.FfnValue
public import proofs.«01_k».proof.Proof.FfnRef
public import proofs.«01_k».proof.Proof.MoeClaim
public import proofs.«01_k».proof.Proof.Gen.Kernel3.Frame
public import proofs.«01_k».proof.Proof.Gen.Reference3Ideal.Run
public import proofs.«01_k».proof.Proof.Gen.Reference3Ideal.Read

@[expose] public section

set_option maxRecDepth 16384
set_option Elab.async false

noncomputable section

namespace Cert.Ffn

open Idealize.ShloMosaic Idealize.ShloMosaic.TcCoe Idealize.SL.Sem

theorem frame_k : Cert.quiescent_Kernel3 := fun m g _ => Cert.Kernel3.Gen.frame m g

theorem frame_ki : Cert.quiescent_Kernel3Ideal := fun m g _ => Cert.Kernel3Ideal.Gen.frame m g

theorem frame_ri : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The array the call leaves is the reference's result at the same arguments. -/
theorem tie (m : (ℓ : Loc Cert.Kernel3Ideal.nD Cert.Kernel3Ideal.τ Cert.Kernel3Ideal.sig) → Buf (Elt Ideal) ℓ) (c : Dev Cert.Kernel3Ideal.nD) :
    Cert.Kernel3Ideal.Ffn.G m c
      = Cert.Reference3Ideal.Read.val_main_v77 (F := Ideal) (Cert.Kernel3Ideal.Ffn.X m c) (Cert.Kernel3Ideal.Ffn.Gn m c) (Cert.Kernel3Ideal.Ffn.Md m c)
          (Cert.Kernel3Ideal.Ffn.Wg m c) (Cert.Kernel3Ideal.Ffn.Wu m c) (Cert.Kernel3Ideal.Ffn.Wd m c) := by
  funext i
  obtain ⟨b, r, o, rfl⟩ : ∃ (b : Fin 4) (r : Fin 4352) (o : Fin 1024), i = ix3 b r o := ⟨i 0, i 1, i 2, eq_ix3 i⟩
  exact (Cert.Ffn.Ref.ref_apply _ _ _ _ _ _ b r o).symm

theorem algebraic : Cert.algebraic_Kernel3Ideal_Reference3Ideal := by
  intro m g m' g' _ hargs
  refine ⟨fun c => Cert.Kernel3Ideal.Ffn.G m c, ?_, ?_⟩
  · exact (θ_run _ _ _).mono (fun r h c => ⟨(h c).1.trans (Cert.Kernel3Ideal.Ffn.arr_eq m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨e0, e1, e2, e3, e4, e5⟩ := hargs c
    exact (Cert.Reference3Ideal.Read.val_main_v77_eq (F := Ideal) m' c).trans
      ((Cert.Moe.args6 (Cert.Reference3Ideal.Read.val_main_v77 (F := Ideal)) e0 e1 e2 e3 e4 e5).trans (tie m c).symm)

end Cert.Ffn

end
-- ==== Proof.ProjSpec.lean ====
/- A product of two matrices computed tile by tile: what each tile holds is the product's entry at the place where the tile lies.
   Every projection of the layer's input is an instance. -/
module

public import Idealize.ShloMosaic.Lib.Pipeline.ValueKit
public import Idealize.ShloMosaic.Lib.Claim

@[expose] public section

noncomputable section

namespace Cert.Proj

open Idealize.ShloMosaic

/-- The product of two matrices. -/
def mul {M K N : ℕ} (h : (⟨2, ![M, K]⟩ : Shape).Idx → EReal) (w : (⟨2, ![K, N]⟩ : Shape).Idx → EReal) : (⟨2, ![M, N]⟩ : Shape).Idx → EReal :=
  fun i => ∑ k : Fin K, h (ix2 (i 0) k) * w (ix2 k (i 1))

/-- The `N` columns of a matrix that start at `off`. -/
def cols {K C N : ℕ} (off : ℕ) (hN : off + N ≤ C) (w : (⟨2, ![K, C]⟩ : Shape).Idx → EReal) : (⟨2, ![K, N]⟩ : Shape).Idx → EReal :=
  fun i => w (ix2 (i 0 : Fin K) ⟨off + (i 1 : Fin N).val, lt_of_lt_of_le (Nat.add_lt_add_left (i 1 : Fin N).isLt off) hN⟩)

/-- A column of the selected ones, under its number in the whole matrix. -/
theorem cols_apply {K C N off : ℕ} (hN : off + N ≤ C) (w : (⟨2, ![K, C]⟩ : Shape).Idx → EReal) (k : Fin K) (n : Fin N) (q : Fin C)
    (hq : q.val = off + n.val) : w (ix2 k q) = cols off hN w (ix2 k n) :=
  congrArg (fun q => w (ix2 k q)) (Fin.ext hq)

/-- A product by selected columns, read off the whole matrix. -/
theorem mul_cols {M K C N off : ℕ} (hN : off + N ≤ C) (h : (⟨2, ![M, K]⟩ : Shape).Idx → EReal) (w : (⟨2, ![K, C]⟩ : Shape).Idx → EReal)
    (r : Fin M) (n : Fin N) (q : Fin C) (hq : q.val = off + n.val) :
    (∑ k : Fin K, h (ix2 r k) * w (ix2 k q)) = mul h (cols off hN w) (ix2 r n) :=
  Finset.sum_congr rfl fun k _ => congrArg (h (ix2 r k) * ·) (cols_apply hN w k n q hq)

/-- Of a row tile `i` of the left operand and a column tile `j` of the right one, both along the whole contracted axis, the product's
    entry `r`, `o` is the matrices' product at that entry's place in tile `(i, j)`. The places are given by maps of indices. -/
theorem mul_tile {M K N s t i j : ℕ} (h : (⟨2, ![M, K]⟩ : Shape).Idx → EReal) (w : (⟨2, ![K, N]⟩ : Shape).Idx → EReal)
    (ea : (⟨2, ![s, K]⟩ : Shape).Idx → (⟨2, ![M, K]⟩ : Shape).Idx) (eb : (⟨2, ![K, t]⟩ : Shape).Idx → (⟨2, ![K, N]⟩ : Shape).Idx)
    (ec : (⟨2, ![s, t]⟩ : Shape).Idx → (⟨2, ![M, N]⟩ : Shape).Idx)
    {pa pb pc : Fin 2 → ℕ} (hpa : pa = ![i, 0]) (hpb : pb = ![0, j]) (hpc : pc = ![i, j])
    (ha : ∀ y a, (ea y a).val = pa a * (![s, K] : Fin 2 → ℕ) a + (y a).val)
    (hb : ∀ y a, (eb y a).val = pb a * (![K, t] : Fin 2 → ℕ) a + (y a).val)
    (hc : ∀ y a, (ec y a).val = pc a * (![s, t] : Fin 2 → ℕ) a + (y a).val) (r : Fin s) (o : Fin t) :
    (∑ k : Fin K, h (ea (ix2 r k)) * w (eb (ix2 k o))) = mul h w (ec (ix2 r o)) := by
  subst hpa hpb hpc
  have z : ∀ k : Fin K, 0 * K + k.val = k.val := fun k => by rw [Nat.zero_mul, Nat.zero_add]
  refine Finset.sum_congr rfl fun k _ => congrArg₂ (fun x y => h x * w y) (funext fun a => Fin.ext ?_) (funext fun a => Fin.ext ?_)
  · fin_cases a
    · exact (ha _ 0).trans (hc (ix2 r o) 0).symm
    · exact (ha _ 1).trans (z k)
  · fin_cases a
    · exact (hb _ 0).trans (z k)
    · exact (hb _ 1).trans (hc (ix2 r o) 1).symm

end Cert.Proj

end
-- ==== Proof.ProjQkvo.lean ====
/- The projection onto queries, keys, values and output gates: the array that its call leaves, the reference's, and the claims. -/
module

public import proofs.«01_k».proof.Defs
public import proofs.«01_k».proof.Proof.ProjSpec
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384
set_option Elab.async false

noncomputable section

namespace Cert.Kernel4Ideal.Proj

open Cert.Kernel4Ideal Cert.Kernel4Ideal.Gen Cert.Kernel4Ideal.Value Cert.Proj
open Idealize.ShloMosaic Idealize.ShloMosaic.TcCoe Idealize.ShloMosaic.Tactic Idealize.SL.Sem

variable (m : (ℓ : Loc nD τ sig) → Buf (Elt Ideal) ℓ)

/-- A point writes the product of its two blocks. -/
theorem out_apply (a w : Vec Ideal S1024x1024 .bf16) (y : S1024x1024.Idx) : out0_2 (F := Ideal) a w y = mul a w y := by
  obtain ⟨r, o, rfl⟩ : ∃ (r o : Fin 1024), y = ix2 r o := ⟨y 0, y 1, eq_ix2 y⟩
  refine Eq.trans (b := k0_pay1 (F := Ideal) a w (ix2 r o)) (congrFun (by frame_out) (ix2 r o)) ?_
  unfold k0_pay1
  pointwise
  rfl

/-- The row tile and the column tile of a point. -/
theorem idx : ∀ t : Fin cfg0.N, win0_0.index t = ![t.val % 17, 0] ∧ win0_1.index t = ![0, t.val / 17] ∧ win0_2.index t = ![t.val % 17, t.val / 17] :=
  (by decide +kernel : ∀ t : Fin grid0.N, win0_0.index t = ![t.val % 17, 0] ∧ win0_1.index t = ![0, t.val / 17] ∧ win0_2.index t = ![t.val % 17, t.val / 17])

theorem covers2 : (cfg0.win 2).Covers := by decide +kernel

/-- The operands that the call is given. -/
abbrev L (c : Dev nD) : (⟨2, ![17408, 1024]⟩ : Shape).Idx → EReal := V m c main_arg0
abbrev R (c : Dev nD) : (⟨2, ![1024, 3072]⟩ : Shape).Idx → EReal := V m c main_v1

/-- The array after the run is the operands' product. -/
theorem arr_eq (c : Dev nD) : (dats m 0 c).arrAt 2 cfg0.N = mul (L m c) (R m c) := by
  refine (dats m 0 c).arrAt_eq_of_covers 2 _ covers2 fun t hf y => ?_
  refine (congrFun (flushed2 m c t) y).trans ((out_apply (iblk m c 0 t) (iblk m c 1 t) y).trans ?_)
  obtain ⟨r, o, rfl⟩ : ∃ (r o : Fin 1024), y = ix2 r o := ⟨y 0, y 1, eq_ix2 y⟩
  exact mul_tile (L m c) (R m c) _ _ _ (idx t).1 (idx t).2.1 (idx t).2.2 (fun y a => Pipeline.Window.rect_emb_val (cfg0.win 0) t y a rfl)
    (fun y a => Pipeline.Window.rect_emb_val (cfg0.win 1) t y a rfl) (fun y a => Pipeline.Window.rect_emb_val (cfg0.win 2) t y a rfl) r o

end Cert.Kernel4Ideal.Proj

namespace Cert.Proj4

open Idealize.ShloMosaic Idealize.ShloMosaic.TcCoe Idealize.ShloMosaic.Tactic Idealize.SL.Sem
open Cert.Proj

/-- The reference's result is the product of the input and the projection's columns. -/
theorem ref_eq (h : (⟨Cert.Reference4Ideal.S17408x1024, .bf16⟩ : BufTy).Contents (Elt Ideal)) (w : (⟨Cert.Reference4Ideal.S1024x8608, .f32⟩ : BufTy).Contents (Elt Ideal)) :
    Cert.Reference4Ideal.Read.val_main_v2 (F := Ideal) h w = mul h (cols (N := 3072) 0 (by decide) w) := by
  funext i
  obtain ⟨r, n, rfl⟩ : ∃ (r : Fin 17408) (n : Fin 3072), i = ix2 r n := ⟨i 0, i 1, eq_ix2 i⟩
  unfold Cert.Reference4Ideal.Read.val_main_v2 Cert.Reference4Ideal.Read.val_main_v1 Cert.Reference4Ideal.Read.val_main_v0
  pointwise
  exact mul_cols _ h w r n _ (Nat.zero_add _).symm

open Cert.Kernel4Ideal in
/-- The call's right operand holds the projection's columns. -/
theorem right_eq (m : (ℓ : Loc nD τ sig) → Buf (Elt Ideal) ℓ) (c : Dev nD) :
    Cert.Kernel4Ideal.Proj.R m c = cols (N := 3072) 0 (by decide) (m ((c.tc : Thread nD τ).loc main_arg1)) := by
  funext i
  obtain ⟨k, n, rfl⟩ : ∃ (k : Fin 1024) (n : Fin 3072), i = ix2 k n := ⟨i 0, i 1, eq_ix2 i⟩
  change Cert.Kernel4Ideal.Gen.V m c main_v1 (ix2 k n) = _
  entry_read
  pointwise
  exact cols_apply _ _ k n _ (Nat.zero_add _).symm

theorem frame_k : Cert.quiescent_Kernel4 := fun m g _ => Cert.Kernel4.Gen.frame m g

theorem frame_ki : Cert.quiescent_Kernel4Ideal := fun m g _ => Cert.Kernel4Ideal.Gen.frame m g

theorem frame_ri : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

theorem algebraic : Cert.algebraic_Kernel4Ideal_Reference4Ideal := by
  intro m g m' g' _ hargs
  refine ⟨fun c => mul (Cert.Kernel4Ideal.Proj.L m c) (Cert.Kernel4Ideal.Proj.R m c), ?_, ?_⟩
  · exact (θ_run _ _ _).mono (fun r h c => ⟨(h c).1.trans (Cert.Kernel4Ideal.Proj.arr_eq m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    obtain ⟨e0, e1⟩ := hargs c
    refine (Cert.Reference4Ideal.Read.val_main_v2_eq (F := Ideal) _ _).trans ((congrArg₂ (Cert.Reference4Ideal.Read.val_main_v2 (F := Ideal)) e0 e1).trans ((ref_eq _ _).trans ?_))
    exact congrArg₂ mul (Cert.Kernel4Ideal.Gen.V_main_arg0 m c).symm (right_eq m c).symm

end Cert.Proj4

end
-- ==== Proof.ProjRwkv.lean ====
/- The projection onto the recurrence's inputs, 3456 columns in three tiles. The tiled product and
   the choice of columns are the shared lemmas'; here stand the call's own tiles, its operands and its claims. -/
module

public import proofs.«01_k».proof.Defs
public import proofs.«01_k».proof.Proof.ProjSpec
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384
set_option Elab.async false

noncomputable section

namespace Cert.Proj5

open Cert.Kernel5Ideal Cert.Kernel5Ideal.Gen Cert.Kernel5Ideal.Value Cert.Proj
open Idealize.ShloMosaic Idealize.ShloMosaic.TcCoe Idealize.ShloMosaic.Tactic Idealize.SL.Sem

variable (m : (ℓ : Loc nD τ sig) → Buf (Elt Ideal) ℓ)

/-- A point writes the product of its two blocks. -/
theorem out_apply (a : Vec Ideal S1024x1024 .bf16) (w : Vec Ideal S1024x1152 .bf16) (r : Fin 1024) (o : Fin 1152) :
    out0_2 (F := Ideal) a w (ix2 r o) = mul a w (ix2 r o) := by
  refine (congrFun (by frame_out : _ = k0_pay1 (F := Ideal) a w) (ix2 r o)).trans ?_
  unfold k0_pay1
  pointwise
  rfl

/-- The row tile and the column tile of a point. -/
theorem idx : ∀ t : Fin cfg0.N, win0_0.index t = ![t.val % 17, 0] ∧ win0_1.index t = ![0, t.val / 17] ∧ win0_2.index t = ![t.val % 17, t.val / 17] :=
  (by decide +kernel : ∀ t : Fin grid0.N, win0_0.index t = ![t.val % 17, 0] ∧ win0_1.index t = ![0, t.val / 17] ∧ win0_2.index t = ![t.val % 17, t.val / 17])

/-- The operands that the call is given. -/
abbrev L (c : Dev nD) : (⟨2, ![17408, 1024]⟩ : Shape).Idx → EReal := V m c main_arg0
abbrev R (c : Dev nD) : (⟨2, ![1024, 3456]⟩ : Shape).Idx → EReal := V m c main_v1

/-- The array after the run is the operands' product. -/
theorem arr_eq (c : Dev nD) : (dats m 0 c).arrAt 2 cfg0.N = mul (L m c) (R m c) := by
  refine (dats m 0 c).arrAt_eq_of_covers 2 _ (by decide +kernel) fun t hf y => ?_
  obtain ⟨r, o, rfl⟩ : ∃ (r : Fin 1024) (o : Fin 1152), y = ix2 r o := ⟨y 0, y 1, eq_ix2 y⟩
  refine (congrFun (flushed2 m c t) (ix2 r o)).trans ((out_apply (iblk m c 0 t) (iblk m c 1 t) r o).trans ?_)
  exact mul_tile (L m c) (R m c) _ _ _ (idx t).1 (idx t).2.1 (idx t).2.2 (fun y a => Pipeline.Window.rect_emb_val (cfg0.win 0) t y a rfl)
    (fun y a => Pipeline.Window.rect_emb_val (cfg0.win 1) t y a rfl) (fun y a => Pipeline.Window.rect_emb_val (cfg0.win 2) t y a rfl) r o

/-- The call's right operand holds the projection's columns. -/
theorem right_eq (c : Dev nD) : R m c = cols (N := 3456) 3104 (by decide) (m ((c.tc : Thread nD τ).loc main_arg1)) := by
  funext i
  obtain ⟨k, n, rfl⟩ : ∃ (k : Fin 1024) (n : Fin 3456), i = ix2 k n := ⟨i 0, i 1, eq_ix2 i⟩
  change V m c main_v1 (ix2 k n) = _
  entry_read
  pointwise
  exact cols_apply _ _ k n _ rfl

open Cert.Reference5Ideal.Read in
/-- The reference's result is the product of the input and the projection's columns. -/
theorem ref_eq (h : (⟨Cert.Reference5Ideal.S17408x1024, .bf16⟩ : BufTy).Contents (Elt Ideal)) (w : (⟨Cert.Reference5Ideal.S1024x8608, .f32⟩ : BufTy).Contents (Elt Ideal)) :
    val_main_v4 (F := Ideal) h w = mul h (cols (N := 3456) 3104 (by decide) w) := by
  funext i
  obtain ⟨r, n, rfl⟩ : ∃ (r : Fin 17408) (n : Fin 3456), i = ix2 r n := ⟨i 0, i 1, eq_ix2 i⟩
  unfold val_main_v4 val_main_v1 val_main_v0
  pointwise
  exact mul_cols _ h w r n _ rfl

theorem frame_k : Cert.quiescent_Kernel5 := fun m g _ => Cert.Kernel5.Gen.frame m g

theorem frame_ki : Cert.quiescent_Kernel5Ideal := fun m g _ => Cert.Kernel5Ideal.Gen.frame m g

theorem frame_ri : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

theorem algebraic : Cert.algebraic_Kernel5Ideal_Reference5Ideal := by
  intro m g m' g' _ hargs
  refine ⟨fun c => mul (L m c) (R m c), (θ_run _ _ _).mono (fun r h c => ⟨(h c).1.trans (arr_eq m c), (h c).2⟩) (run_blocks (F := Ideal) m g), ?_⟩
  refine (θ_run _ _ _).mono (fun r h c => ⟨(h c).1.trans ?_, (h c).2⟩) (Cert.Reference5Ideal.Value.run (F := Ideal) m' g')
  refine (Cert.Reference5Ideal.Read.val_main_v4_eq (F := Ideal) _ _).trans ((congrArg₂ (Cert.Reference5Ideal.Read.val_main_v4 (F := Ideal)) (hargs c).1 (hargs c).2).trans ((ref_eq _ _).trans ?_))
  exact congrArg₂ mul (V_main_arg0 m c).symm (right_eq m c).symm

end Cert.Proj5

end
-- ==== Proof.ProjMerge.lean ====
/- The projection onto the two merge gates, 2048 columns in two tiles of the queries' size, so that a point's result is the one shown
   for the queries' call. -/
module

public import proofs.«01_k».proof.Proof.ProjQkvo
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384
set_option Elab.async false

noncomputable section

namespace Cert.Proj6

open Cert.Kernel6Ideal Cert.Kernel6Ideal.Gen Cert.Kernel6Ideal.Value Cert.Proj
open Idealize.ShloMosaic Idealize.ShloMosaic.TcCoe Idealize.ShloMosaic.Tactic Idealize.SL.Sem

variable (m : (ℓ : Loc nD τ sig) → Buf (Elt Ideal) ℓ)

/-- The row tile and the column tile of a point. -/
theorem idx : ∀ t : Fin cfg0.N, win0_0.index t = ![t.val % 17, 0] ∧ win0_1.index t = ![0, t.val / 17] ∧ win0_2.index t = ![t.val % 17, t.val / 17] :=
  (by decide +kernel : ∀ t : Fin grid0.N, win0_0.index t = ![t.val % 17, 0] ∧ win0_1.index t = ![0, t.val / 17] ∧ win0_2.index t = ![t.val % 17, t.val / 17])

/-- The operands that the call is given. -/
abbrev L (c : Dev nD) : (⟨2, ![17408, 1024]⟩ : Shape).Idx → EReal := V m c main_arg0
abbrev R (c : Dev nD) : (⟨2, ![1024, 2048]⟩ : Shape).Idx → EReal := V m c main_v1

/-- The array after the run is the operands' product. -/
theorem arr_eq (c : Dev nD) : (dats m 0 c).arrAt 2 cfg0.N = mul (L m c) (R m c) := by
  refine (dats m 0 c).arrAt_eq_of_covers 2 _ (by decide +kernel) fun t hf y => ?_
  obtain ⟨r, o, rfl⟩ : ∃ (r o : Fin 1024), y = ix2 r o := ⟨y 0, y 1, eq_ix2 y⟩
  refine (congrFun (flushed2 m c t) (ix2 r o)).trans ((Cert.Kernel4Ideal.Proj.out_apply (iblk m c 0 t) (iblk m c 1 t) (ix2 r o)).trans ?_)
  exact mul_tile (L m c) (R m c) _ _ _ (idx t).1 (idx t).2.1 (idx t).2.2 (fun y a => Pipeline.Window.rect_emb_val (cfg0.win 0) t y a rfl)
    (fun y a => Pipeline.Window.rect_emb_val (cfg0.win 1) t y a rfl) (fun y a => Pipeline.Window.rect_emb_val (cfg0.win 2) t y a rfl) r o

/-- The call's right operand holds the projection's columns. -/
theorem right_eq (c : Dev nD) : R m c = cols (N := 2048) 6560 (by decide) (m ((c.tc : Thread nD τ).loc main_arg1)) := by
  funext i
  obtain ⟨k, n, rfl⟩ : ∃ (k : Fin 1024) (n : Fin 2048), i = ix2 k n := ⟨i 0, i 1, eq_ix2 i⟩
  change V m c main_v1 (ix2 k n) = _
  entry_read
  pointwise
  exact cols_apply _ _ k n _ rfl

open Cert.Reference6Ideal.Read in
/-- The reference's result is the product of the input and the projection's columns. -/
theorem ref_eq (h : (⟨Cert.Reference6Ideal.S17408x1024, .bf16⟩ : BufTy).Contents (Elt Ideal)) (w : (⟨Cert.Reference6Ideal.S1024x8608, .f32⟩ : BufTy).Contents (Elt Ideal)) :
    val_main_v5 (F := Ideal) h w = mul h (cols (N := 2048) 6560 (by decide) w) := by
  funext i
  obtain ⟨r, n, rfl⟩ : ∃ (r : Fin 17408) (n : Fin 2048), i = ix2 r n := ⟨i 0, i 1, eq_ix2 i⟩
  unfold val_main_v5 val_main_v1 val_main_v0
  pointwise
  exact mul_cols _ h w r n _ rfl

theorem frame_k : Cert.quiescent_Kernel6 := fun m g _ => Cert.Kernel6.Gen.frame m g

theorem frame_ki : Cert.quiescent_Kernel6Ideal := fun m g _ => Cert.Kernel6Ideal.Gen.frame m g

theorem frame_ri : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

theorem algebraic : Cert.algebraic_Kernel6Ideal_Reference6Ideal := by
  intro m g m' g' _ hargs
  refine ⟨fun c => mul (L m c) (R m c), (θ_run _ _ _).mono (fun r h c => ⟨(h c).1.trans (arr_eq m c), (h c).2⟩) (run_blocks (F := Ideal) m g), ?_⟩
  refine (θ_run _ _ _).mono (fun r h c => ⟨(h c).1.trans ?_, (h c).2⟩) (Cert.Reference6Ideal.Value.run (F := Ideal) m' g')
  refine (Cert.Reference6Ideal.Read.val_main_v5_eq (F := Ideal) _ _).trans ((congrArg₂ (Cert.Reference6Ideal.Read.val_main_v5 (F := Ideal)) (hargs c).1 (hargs c).2).trans ((ref_eq _ _).trans ?_))
  exact congrArg₂ mul (V_main_arg0 m c).symm (right_eq m c).symm

end Cert.Proj6

end
-- ==== Proof.ProjGates.lean ====
/- The projection onto the gates: the call's right operand holds the gates' columns in another order, between columns of zeros. -/
module

public import proofs.«01_k».proof.Defs
public import proofs.«01_k».proof.Proof.ProjSpec
public import Idealize.ShloMosaic.Lib.StableHlo.RunRead
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384
set_option Elab.async false

noncomputable section

namespace Cert.Proj7

open Cert.Kernel7Ideal Cert.Kernel7Ideal.Gen Cert.Kernel7Ideal.Value Cert.Proj
open Idealize.ShloMosaic Idealize.ShloMosaic.TcCoe Idealize.ShloMosaic.Tactic Idealize.SL.Sem

variable (m : (ℓ : Loc nD τ sig) → Buf (Elt Ideal) ℓ)

/-- A point writes the product of its two blocks. -/
theorem out_apply (a : Vec Ideal S512x1024 .f32) (w : Vec Ideal S1024x256 .f32) (r : Fin 512) (o : Fin 256) :
    out0_2 (F := Ideal) a w (ix2 r o) = mul a w (ix2 r o) := by
  refine (congrFun (by frame_out : _ = k0_pay1 (F := Ideal) a w) (ix2 r o)).trans ?_
  unfold k0_pay1
  pointwise
  rfl

/-- The row tile of a point; all columns lie in one tile. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The operands that the call is given. -/
abbrev L (c : Dev nD) : (⟨2, ![17408, 1024]⟩ : Shape).Idx → EReal := V m c main_arg0
abbrev R (c : Dev nD) : (⟨2, ![1024, 256]⟩ : Shape).Idx → EReal := V m c main_v11

/-- The array after the run is the operands' product. -/
theorem arr_eq (c : Dev nD) : (dats m 0 c).arrAt 2 cfg0.N = mul (L m c) (R m c) := by
  refine (dats m 0 c).arrAt_eq_of_covers 2 _ (by decide +kernel) fun t hf y => ?_
  obtain ⟨r, o, rfl⟩ : ∃ (r : Fin 512) (o : Fin 256), y = ix2 r o := ⟨y 0, y 1, eq_ix2 y⟩
  refine (congrFun (flushed2 m c t) (ix2 r o)).trans ((out_apply (iblk m c 0 t) (iblk m c 1 t) r o).trans ?_)
  exact mul_tile (L m c) (R m c) _ _ _ (idx t).1 (idx t).2.1 (idx t).2.2 (fun y a => Pipeline.Window.rect_emb_val (cfg0.win 0) t y a rfl)
    (fun y a => Pipeline.Window.rect_emb_val (cfg0.win 1) t y a rfl) (fun y a => Pipeline.Window.rect_emb_val (cfg0.win 2) t y a rfl) r o

/-- The last operation before the call writes its right operand alone. -/
theorem kept (c : Dev nD) (r : Ref sig .tc) (h : r ≠ main_v11) : StableHlo.upto hostOps0 (fun b => m (c, b)) 12 (Proc.devRef .tc r) = V m c r :=
  ((StableHlo.after_last_write (ops := hostOps0) (i := 12) [] rfl rfl (List.not_mem_nil) (fun b => m (c, b))).trans (StableHlo.nary_result_ne _ _ _ _ _ _ h)).symm

/-- It puts the gates' columns and the zeros side by side. -/
theorem right_concat (c : Dev nD) : V m c main_v11 = concatenate S1024x256 1 [⟨S1024x8, V m c main_v4⟩, ⟨S1024x8, V m c main_v6⟩, ⟨S1024x112, V m c main_v2⟩,
    ⟨S1024x8, V m c main_v8⟩, ⟨S1024x8, V m c main_v10⟩, ⟨S1024x112, V m c main_v2⟩] concatenates_S1024x8_S1024x8_S1024x112_S1024x8_S1024x8_S1024x112_S1024x256_d1 := by
  refine (StableHlo.after_last_write (ops := hostOps0) (i := 12) [] rfl rfl (List.not_mem_nil) (fun b => m (c, b))).trans ((StableHlo.nary_result _ _ _ _ _ _).trans ?_)
  rw [← kept m c main_v4 (by decide), ← kept m c main_v6 (by decide), ← kept m c main_v2 (by decide), ← kept m c main_v8 (by decide), ← kept m c main_v10 (by decide)]
  rfl

/-- The weights that the call is launched with. -/
abbrev W (c : Dev nD) : (⟨2, ![1024, 8608]⟩ : Shape).Idx → EReal := m ((c.tc : Thread nD τ).loc main_arg1)

/-- The columns between the groups. -/
abbrev Z (c : Dev nD) : (⟨2, ![1024, 112]⟩ : Shape).Idx → EReal := V m c main_v2

/-- The four groups of gates are the weights' columns from 3072 on, eight to a group. -/
theorem groups (c : Dev nD) (k : Fin 1024) (n : Fin 8) :
    (V m c main_v4 (ix2 k n) : EReal) = W m c (ix2 k ⟨3072 + n.val, by omega⟩) ∧ (V m c main_v6 (ix2 k n) : EReal) = W m c (ix2 k ⟨3072 + (16 + n.val), by omega⟩) ∧
    (V m c main_v8 (ix2 k n) : EReal) = W m c (ix2 k ⟨3072 + (8 + n.val), by omega⟩) ∧ (V m c main_v10 (ix2 k n) : EReal) = W m c (ix2 k ⟨3072 + (24 + n.val), by omega⟩) := by
  refine ⟨?_, ?_, ?_, ?_⟩ <;> entry_read <;> pointwise

/-- Those columns are zero. -/
theorem zeros (c : Dev nD) (k : Fin 1024) (n : Fin 112) : Z m c (ix2 k n) = 0 := by
  change V m c main_v2 (ix2 k n) = _
  entry_read
  pointwise

/-- The call's right operand, column by column. -/
theorem right_apply (c : Dev nD) (k : Fin 1024) (n : Fin 256) : R m c (ix2 k n) =
    if h : n.val < 8 then W m c (ix2 k ⟨3072 + n.val, by omega⟩)
    else if h : n.val - 8 < 8 then W m c (ix2 k ⟨3072 + (16 + (n.val - 8)), by omega⟩)
    else if h : n.val - 8 - 8 < 112 then 0
    else if h : n.val - 8 - 8 - 112 < 8 then W m c (ix2 k ⟨3072 + (8 + (n.val - 8 - 8 - 112)), by omega⟩)
    else if h : n.val - 8 - 8 - 112 - 8 < 8 then W m c (ix2 k ⟨3072 + (24 + (n.val - 8 - 8 - 112 - 8)), by omega⟩)
    else 0 := by
  have g := groups m c k
  have z : ∀ n : Fin 112, @Eq EReal (V m c main_v2 (ix2 k n)) 0 := zeros m c k
  refine (congrFun (right_concat m c) (ix2 k n)).trans ?_
  generalize V m c main_v4 = a, V m c main_v6 = b, V m c main_v2 = z', V m c main_v8 = d, V m c main_v10 = e at *
  pointwise
  split_ifs <;> first | exact (g _).1 | exact (g _).2.1 | exact (g _).2.2.1 | exact (g _).2.2.2 | exact z _

open Cert.Reference7Ideal.Read in
/-- The reference's result is the product of the operands: where a column of the right one is zero, so is the sum. -/
theorem ref_eq (c : Dev nD) : val_main_v15 (F := Ideal) (L m c) (W m c) = mul (L m c) (R m c) := by
  funext i
  obtain ⟨r, n, rfl⟩ : ∃ (r : Fin 17408) (n : Fin 256), i = ix2 r n := ⟨i 0, i 1, eq_ix2 i⟩
  refine Eq.trans ?_ (Finset.sum_congr rfl fun k _ => congrArg (L m c (ix2 r k) * ·) (right_apply m c k n).symm)
  generalize L m c = h, W m c = w
  unfold val_main_v15 val_main_v14 val_main_v13 val_main_v12 val_main_v11 val_main_v10 val_main_v9 val_main_v8 val_main_v7 val_main_v6 val_main_cst val_main_v5 val_main_v2 val_main_v0
  pointwise
  split_ifs <;> first | rfl | simp only [mul_zero, Finset.sum_const_zero]

theorem frame_k : Cert.quiescent_Kernel7 := fun m g _ => Cert.Kernel7.Gen.frame m g

theorem frame_ki : Cert.quiescent_Kernel7Ideal := fun m g _ => Cert.Kernel7Ideal.Gen.frame m g

theorem frame_ri : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

theorem algebraic : Cert.algebraic_Kernel7Ideal_Reference7Ideal := by
  intro m g m' g' _ hargs
  refine ⟨fun c => mul (L m c) (R m c), (θ_run _ _ _).mono (fun r h c => ⟨(h c).1.trans (arr_eq m c), (h c).2⟩) (run_blocks (F := Ideal) m g), ?_⟩
  refine (θ_run _ _ _).mono (fun r h c => ⟨(h c).1.trans ?_, (h c).2⟩) (Cert.Reference7Ideal.Value.run (F := Ideal) m' g')
  refine (Cert.Reference7Ideal.Read.val_main_v15_eq (F := Ideal) _ _).trans ((congrArg₂ (Cert.Reference7Ideal.Read.val_main_v15 (F := Ideal)) ((hargs c).1.trans (V_main_arg0 m c).symm) (hargs c).2).trans (ref_eq m c))

end Cert.Proj7

end
-- ==== Proof.NormValue.lean ====
/- The first norm of a layer: both arrays that its call leaves hold every row's rms normal, modulated by its batch entry's rows. -/
module

public import proofs.«01_k».proof.Proof.Gen.Kernel8Ideal.Value
public import proofs.«01_k».proof.Proof.FfnSpec
public import Idealize.ShloMosaic.Lib.Pipeline.ValueKit
public import Idealize.ShloMosaic.Lib.Claim

@[expose] public section

set_option maxRecDepth 16384
set_option Elab.async false

noncomputable section

namespace Cert.Norm

open Idealize.ShloMosaic
open Cert.Ffn (nrm)

/-- The set of modulation rows that a row takes: the context's from 4096 on, the batch entry's before it. -/
abbrev st (r : Fin 4352) : Fin 2 := if r.val < 4096 then 1 else 0

/-- Entry `o` of the modulated normal of row `r`; of a set of modulation rows the first is the shift and the second the scale. -/
def entry (x : (⟨3, ![4, 4352, 1024]⟩ : Shape).Idx → EReal) (g : (⟨1, ![1024]⟩ : Shape).Idx → EReal) (md : (⟨4, ![4, 2, 8, 1024]⟩ : Shape).Idx → EReal)
    (s : Fin 2) (b : Fin 4) (r : Fin 4352) (o : Fin 1024) : EReal :=
  nrm (fun k => x (ix3 b r k)) (fun k => g (ix1 k)) (fun k => md (ix4 b s 0 k)) (fun k => md (ix4 b s 1 k)) o

theorem nrm_congr {x x' g g' sh sh' sc sc' : Fin 1024 → EReal} {o : Fin 1024} (hx : ∀ k, x k = x' k) (hg : ∀ k, g k = g' k) (hsh : ∀ k, sh k = sh' k)
    (hsc : ∀ k, sc k = sc' k) : nrm x g sh sc o = nrm x' g' sh' sc' o := by
  rw [funext hx, funext hg, funext hsh, funext hsc]

/-- The whole array. -/
def whole (x : (⟨3, ![4, 4352, 1024]⟩ : Shape).Idx → EReal) (g : (⟨1, ![1024]⟩ : Shape).Idx → EReal) (md : (⟨4, ![4, 2, 8, 1024]⟩ : Shape).Idx → EReal) :
    (⟨3, ![4, 4352, 1024]⟩ : Shape).Idx → EReal :=
  fun i => entry x g md (st (i 1)) (i 0) (i 1) (i 2)

/-- Row `r` of the tile of rows `i`. -/
abbrev row (i : Fin 17) (r : Fin 256) : Fin 4352 := ⟨i.val * 256 + r.val, by omega⟩

theorem st_row (i : Fin 17) (r : Fin 256) : (st (row i r)).val = if i.val = 16 then 0 else 1 := by
  unfold st
  by_cases h : i.val = 16
  · rw [if_pos h, if_neg (by show ¬i.val * 256 + r.val < 4096; omega)]; rfl
  · rw [if_neg h, if_pos (by show i.val * 256 + r.val < 4096; omega)]; rfl

/-- Where a tile's entry lies in the array of rows. -/
theorem rows_at (b : Fin 4) (i : Fin 17) (e : (⟨3, ![1, 256, 1024]⟩ : Shape).Idx → (⟨3, ![4, 4352, 1024]⟩ : Shape).Idx) {p : Fin 3 → ℕ}
    (hp : p = ![b.val, i.val, 0]) (h : ∀ y a, (e y a).val = p a * (![1, 256, 1024] : Fin 3 → ℕ) a + (y a).val) (r : Fin 256) (k : Fin 1024) :
    e (ix3 0 r k) = ix3 b (row i r) k := by
  subst hp
  refine funext fun a => Fin.ext ((h _ a).trans ?_)
  fin_cases a
  · show b.val * 1 + 0 = b.val; omega
  · rfl
  · show 0 * 1024 + k.val = k.val; omega

/-- Where a block's entry lies in the table of modulation rows. -/
theorem mods_at (b : Fin 4) (s : Fin 2) (e : (⟨4, ![1, 1, 8, 1024]⟩ : Shape).Idx → (⟨4, ![4, 2, 8, 1024]⟩ : Shape).Idx) {p : Fin 4 → ℕ}
    (hp : p = ![b.val, s.val, 0, 0]) (h : ∀ y a, (e y a).val = p a * (![1, 1, 8, 1024] : Fin 4 → ℕ) a + (y a).val) (j : Fin 8) (k : Fin 1024) :
    e (ix4 0 0 j k) = ix4 b s j k := by
  subst hp
  refine funext fun a => Fin.ext ((h _ a).trans ?_)
  fin_cases a
  · show b.val * 1 + 0 = b.val; omega
  · show s.val * 1 + 0 = s.val; omega
  · show 0 * 8 + j.val = j.val; omega
  · show 0 * 1024 + k.val = k.val; omega

end Cert.Norm

namespace Cert.Kernel8Ideal.Norm

open Cert.Kernel8Ideal Cert.Kernel8Ideal.Gen Cert.Kernel8Ideal.Value Cert.Norm
open Cert.Ffn (nrm)
open Idealize.ShloMosaic Idealize.ShloMosaic.TcCoe Idealize.ShloMosaic.Tactic

/-! ### One block -/

/-- The modulated normal of a block's row. -/
abbrev blk (x : Vec Ideal S1x256x1024 .f32) (g : Vec Ideal S1x1024 .f32) (md : Vec Ideal S1x1x8x1024 .f32) (r : Fin 256) (o : Fin 1024) : EReal :=
  nrm (fun k => x (ix3 0 r k)) (fun k => g (ix2 0 k)) (fun k => md (ix4 0 0 0 k)) (fun k => md (ix4 0 0 1 k)) o

theorem pay1_apply (x : Vec Ideal S1x256x1024 .f32) (g : Vec Ideal S1x1024 .f32) (md : Vec Ideal S1x1x8x1024 .f32) (r : Fin 256) (o : Fin 1024) :
    k0_pay1 (F := Ideal) x g md (ix2 r o) = blk x g md r o := by
  unfold k0_pay1
  pointwise
  rfl

/-- Both blocks that a point writes hold it. -/
theorem out3_apply (x : Vec Ideal S1x256x1024 .f32) (g : Vec Ideal S1x1024 .f32) (md : Vec Ideal S1x1x8x1024 .f32) (r : Fin 256) (o : Fin 1024) :
    out0_3 (F := Ideal) x g md (ix3 0 r o) = blk x g md r o := by
  refine (congrFun (by frame_out : _ = k0_pay2 (F := Ideal) x g md) (ix3 0 r o)).trans ?_
  unfold k0_pay2
  pointwise
  exact pay1_apply x g md r o

theorem out4_apply (x : Vec Ideal S1x256x1024 .f32) (g : Vec Ideal S1x1024 .f32) (md : Vec Ideal S1x1x8x1024 .f32) (r : Fin 256) (o : Fin 1024) :
    out0_4 (F := Ideal) x g md (ix3 0 r o) = blk x g md r o := by
  refine (congrFun (by frame_out : _ = k0_pay3 (F := Ideal) x g md) (ix3 0 r o)).trans ?_
  unfold k0_pay3
  pointwise
  exact pay1_apply x g md r o

/-! ### The arrays -/

variable (m : (ℓ : Loc nD τ sig) → Buf (Elt Ideal) ℓ)

abbrev X (c : Dev nD) : (⟨3, ![4, 4352, 1024]⟩ : Shape).Idx → EReal := m ((c : Thread nD τ).loc main_arg0)
abbrev Gn (c : Dev nD) : (⟨1, ![1024]⟩ : Shape).Idx → EReal := m ((c : Thread nD τ).loc main_arg1)
abbrev Md (c : Dev nD) : (⟨4, ![4, 2, 8, 1024]⟩ : Shape).Idx → EReal := m ((c : Thread nD τ).loc main_arg2)

/-- The batch entry and the tile of rows of a point. -/
abbrev bt (t : Fin cfg0.N) : Fin 4 := ⟨t.val / 17, by have : t.val < 68 := t.isLt; omega⟩
abbrev tl (t : Fin cfg0.N) : Fin 17 := ⟨t.val % 17, by omega⟩

theorem idx_rows : ∀ t : Fin cfg0.N, win0_0.index t = ![t.val / 17, t.val % 17, 0] ∧ win0_3.index t = ![t.val / 17, t.val % 17, 0] ∧ win0_4.index t = ![t.val / 17, t.val % 17, 0] :=
  (by decide +kernel : ∀ t : Fin grid0.N, win0_0.index t = ![t.val / 17, t.val % 17, 0] ∧ win0_3.index t = ![t.val / 17, t.val % 17, 0] ∧ win0_4.index t = ![t.val / 17, t.val % 17, 0])
theorem idx_tabs : ∀ t : Fin cfg0.N, win0_1.index t = ![0, 0] ∧ win0_2.index t = ![t.val / 17, if t.val % 17 = 16 then 0 else 1, 0, 0] :=
  (by decide +kernel : ∀ t : Fin grid0.N, win0_1.index t = ![0, 0] ∧ win0_2.index t = ![t.val / 17, if t.val % 17 = 16 then 0 else 1, 0, 0])

theorem x_blk (c : Dev nD) (t : Fin cfg0.N) (r : Fin 256) (k : Fin 1024) : iblk m c 0 t (ix3 0 r k) = X m c (ix3 (bt t) (row (tl t) r) k) :=
  (congrFun (V_main_arg0 m c) _).trans (congrArg (X m c) (rows_at (bt t) (tl t) _ (idx_rows t).1 (fun y a => Pipeline.Window.rect_emb_val (cfg0.win 0) t y a rfl) r k))

theorem md_blk (c : Dev nD) (t : Fin cfg0.N) (r : Fin 256) (j : Fin 8) (k : Fin 1024) :
    iblk m c 2 t (ix4 0 0 j k) = Md m c (ix4 (bt t) (st (row (tl t) r)) j k) :=
  (congrFun (V_main_arg2 m c) _).trans (congrArg (Md m c) (mods_at (bt t) (st (row (tl t) r)) _ ((idx_tabs t).2.trans (by rw [st_row]))
    (fun y a => Pipeline.Window.rect_emb_val (cfg0.win 2) t y a rfl) j k))

/-- The norm's weights, laid out as one row by the call's caller. -/
theorem g_arr (c : Dev nD) (k : Fin 1024) : V m c main_v0 (ix2 0 k) = Gn m c (ix1 k) := by
  entry_read
  pointwise

theorem g_blk (c : Dev nD) (t : Fin cfg0.N) (k : Fin 1024) : iblk m c 1 t (ix2 0 k) = Gn m c (ix1 k) := by
  refine Eq.trans (congrArg (V m c main_v0) (funext fun a => Fin.ext ?_)) (g_arr m c k)
  refine (Pipeline.Window.rect_emb_val (cfg0.win 1) t (ix2 0 k) a rfl).trans ?_
  rw [show (cfg0.win 1).index t = _ from (idx_tabs t).1]
  fin_cases a
  · rfl
  · show 0 * 1024 + k.val = k.val; omega

/-- A block's modulated normal is the array's at the block's place. -/
theorem blk_eq (c : Dev nD) (t : Fin cfg0.N) (r : Fin 256) (o : Fin 1024) :
    blk (iblk m c 0 t) (iblk m c 1 t) (iblk m c 2 t) r o = whole (X m c) (Gn m c) (Md m c) (ix3 (bt t) (row (tl t) r) o) := by
  have e := nrm_congr (o := o) (fun k => x_blk m c t r k) (fun k => g_blk m c t k) (fun k => md_blk m c t r 0 k) (fun k => md_blk m c t r 1 k)
  exact e

theorem eq_ix3_0 (y : (⟨3, ![1, 256, 1024]⟩ : Shape).Idx) : ∃ (r : Fin 256) (o : Fin 1024), y = ix3 0 r o :=
  ⟨y 1, y 2, funext fun a => by
    fin_cases a
    · exact Fin.ext (Nat.lt_one_iff.mp (y 0).isLt)
    · rfl
    · rfl⟩

theorem arr3_eq (c : Dev nD) : (dats m 0 c).arrAt 3 cfg0.N = whole (X m c) (Gn m c) (Md m c) := by
  refine (dats m 0 c).arrAt_eq_of_covers 3 _ (by decide +kernel) fun t hf y => ?_
  obtain ⟨r, o, rfl⟩ := eq_ix3_0 y
  refine (congrFun (flushed3 m c t) (ix3 0 r o)).trans ((out3_apply (iblk m c 0 t) (iblk m c 1 t) (iblk m c 2 t) r o).trans ((blk_eq m c t r o).trans ?_))
  exact congrArg (whole (X m c) (Gn m c) (Md m c)) (rows_at (bt t) (tl t) _ (idx_rows t).2.1 (fun y a => Pipeline.Window.rect_emb_val (cfg0.win 3) t y a rfl) r o).symm

theorem arr4_eq (c : Dev nD) : (dats m 0 c).arrAt 4 cfg0.N = whole (X m c) (Gn m c) (Md m c) := by
  refine (dats m 0 c).arrAt_eq_of_covers 4 _ (by decide +kernel) fun t hf y => ?_
  obtain ⟨r, o, rfl⟩ := eq_ix3_0 y
  refine (congrFun (flushed4 m c t) (ix3 0 r o)).trans ((out4_apply (iblk m c 0 t) (iblk m c 1 t) (iblk m c 2 t) r o).trans ((blk_eq m c t r o).trans ?_))
  exact congrArg (whole (X m c) (Gn m c) (Md m c)) (rows_at (bt t) (tl t) _ (idx_rows t).2.2 (fun y a => Pipeline.Window.rect_emb_val (cfg0.win 4) t y a rfl) r o).symm

end Cert.Kernel8Ideal.Norm

end
-- ==== Proof.NormClaim.lean ====
/- The first norm of a layer: its reference at an index, and its claims. -/
module

public import proofs.«01_k».proof.Defs
public import proofs.«01_k».proof.Proof.NormValue
public import proofs.«01_k».proof.Proof.Gen.Kernel8.Frame
public import proofs.«01_k».proof.Proof.Gen.Reference8Ideal.Run
public import proofs.«01_k».proof.Proof.Gen.Reference8Ideal.Read

@[expose] public section

set_option maxRecDepth 16384
set_option Elab.async false

noncomputable section

namespace Cert.Norm

open Cert.Reference8Ideal Cert.Reference8Ideal.Read
open Idealize.ShloMosaic Idealize.ShloMosaic.TcCoe Idealize.ShloMosaic.Tactic Idealize.SL.Sem

variable (x0 : (⟨S4x4352x1024, .f32⟩ : BufTy).Contents (Elt Ideal)) (x1 : (⟨S1024, .f32⟩ : BufTy).Contents (Elt Ideal)) (x2 : (⟨S4x2x8x1024, .f32⟩ : BufTy).Contents (Elt Ideal))

/-- The rows before 4096. -/
theorem ref_x (b : Fin 4) (r : Fin 4096) (k : Fin 1024) : val_main_v26 (F := Ideal) x0 x1 x2 (ix3 b r k) = entry x0 x1 x2 1 b ⟨r.val, by omega⟩ k := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v0 val_main_cst val_main_cst_0 val_main_cst_1 val_main_cst_2
  pointwise
  rfl

/-- The rows from 4096 on. -/
theorem ref_c (b : Fin 4) (r : Fin 256) (k : Fin 1024) : val_main_v51 (F := Ideal) x0 x1 x2 (ix3 b r k) = entry x0 x1 x2 0 b ⟨4096 + r.val, by omega⟩ k := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v1 val_main_cst_3 val_main_cst_4 val_main_cst_5 val_main_cst_6
  pointwise
  rfl

/-- The reference's array. -/
theorem ref_eq : val_main_v52 (F := Ideal) x0 x1 x2 = whole x0 x1 x2 := by
  funext i
  obtain ⟨b, r, o, rfl⟩ : ∃ (b : Fin 4) (r : Fin 4352) (o : Fin 1024), i = ix3 b r o := ⟨i 0, i 1, i 2, eq_ix3 i⟩
  show _ = entry x0 x1 x2 (st r) b r o
  unfold val_main_v52 st
  pointwise
  by_cases h : r.val < 4096
  · rw [dif_pos h, if_pos h]
    exact ref_x x0 x1 x2 b ⟨r.val, h⟩ o
  · rw [dif_neg h, if_neg h]
    refine (ref_c x0 x1 x2 b ⟨r.val - 4096, by omega⟩ o).trans (congrArg (fun r => entry x0 x1 x2 0 b r o) (Fin.ext ?_))
    show 4096 + (r.val - 4096) = r.val
    omega

theorem frame_k : Cert.quiescent_Kernel8 := fun m g _ => Cert.Kernel8.Gen.frame m g

theorem frame_ki : Cert.quiescent_Kernel8Ideal := fun m g _ => Cert.Kernel8Ideal.Gen.frame m g

theorem frame_ri : Cert.quiescent_Reference8Ideal := fun m g _ =>
  (θ_run Cert.Reference8Ideal.defs _ _).mono (fun r h => ⟨fun c => (h c).2.2, Idealize.ShloMosaic.sem_eq_zero_of_no_sems (by decide) r.2⟩)
    (Cert.Reference8Ideal.Value.run (F := Ideal) m g)

open Cert.Kernel8Ideal.Norm in
theorem algebraic : Cert.algebraic_Kernel8Ideal_Reference8Ideal := by
  intro m g m' g' _ hargs
  refine ⟨fun c => whole (X m c) (Gn m c) (Md m c), fun c => whole (X m c) (Gn m c) (Md m c), ?_, ?_⟩
  · exact (θ_run _ _ _).mono (fun r h c => ⟨(h c).1.trans (arr3_eq m c), (h c).2.1.trans (arr4_eq m c), (h c).2.2⟩) (Cert.Kernel8Ideal.Value.run_blocks (F := Ideal) m g)
  · have tie : ∀ c, val_main_v52 (F := Ideal) _ _ _ = whole (X m c) (Gn m c) (Md m c) := fun c =>
      (congr (congrArg₂ (val_main_v52 (F := Ideal)) (hargs c).1 (hargs c).2.1) (hargs c).2.2).trans (ref_eq _ _ _)
    exact (θ_run _ _ _).mono (fun r h c => ⟨(h c).1.trans ((val_main_v53_eq (F := Ideal) _ _ _).trans (tie c)), (h c).2.1.trans ((val_main_v52_eq (F := Ideal) _ _ _).trans (tie c)), (h c).2.2⟩)
      (Cert.Reference8Ideal.Value.run (F := Ideal) m' g')

end Cert.Norm

end
-- ==== Proof.AdaValue.lean ====
/- The conditioning's call: every row of its array is the row's condition under the gated unit, by the layer's matrix, and the bias. -/
module

public import proofs.«01_k».proof.Proof.Gen.Kernel9Ideal.Value
public import proofs.«01_k».proof.Proof.FfnSpec
public import Idealize.ShloMosaic.Lib.StableHlo.RunRead
public import Idealize.ShloMosaic.Lib.Pipeline.ValueKit
public import Idealize.ShloMosaic.Lib.Claim

@[expose] public section

set_option maxRecDepth 16384
set_option Elab.async false

noncomputable section

namespace Cert.Ada

open Idealize.ShloMosaic
open Cert.Moe (sgm)

/-- One entry: the condition `s` under the gated unit, by the column `w`, and the bias. -/
def entry (s w : Fin 1024 → EReal) (b : EReal) : EReal := (∑ k : Fin 1024, s k * sgm (s k) * w k) + b

theorem entry_congr {s s' w w' : Fin 1024 → EReal} {b b' : EReal} (hs : ∀ k, s k = s' k) (hw : ∀ k, w k = w' k) (hb : b = b') : entry s w b = entry s' w' b' := by
  rw [funext hs, funext hw, hb]

/-- A zero condition leaves the bias. -/
theorem entry_zero (w : Fin 1024 → EReal) (b : EReal) : entry (fun _ => 0) w b = b := by
  unfold entry
  simp only [zero_mul, Finset.sum_const_zero, zero_add]

/-- The condition of row `j`: the batch entries', then the context's, then zeros. -/
def cond (x : (⟨2, ![4, 1024]⟩ : Shape).Idx → EReal) (y : (⟨1, ![1024]⟩ : Shape).Idx → EReal) (j : Fin 8) (k : Fin 1024) : EReal :=
  if h : j.val < 4 then x (ix2 ⟨j.val, h⟩ k) else if j.val = 4 then y (ix1 k) else 0

/-- The whole array. -/
def whole (x : (⟨2, ![4, 1024]⟩ : Shape).Idx → EReal) (y : (⟨1, ![1024]⟩ : Shape).Idx → EReal) (w : (⟨3, ![2, 1024, 6144]⟩ : Shape).Idx → EReal)
    (b : (⟨2, ![2, 6144]⟩ : Shape).Idx → EReal) : (⟨3, ![2, 8, 6144]⟩ : Shape).Idx → EReal :=
  fun i => entry (cond x y (i 1)) (fun k => w (ix3 (i 0) k (i 2))) (b (ix2 (i 0) (i 2)))

/-- Column `o` of tile `q` of the columns. -/
abbrev col (q : Fin 4) (o : Fin 1536) : Fin 6144 := ⟨q.val * 1536 + o.val, by omega⟩

/-- Where an entry of a layer's tile of columns lies, whatever the number `M` of rows. -/
theorem place {M : ℕ} (l : Fin 2) (q : Fin 4) (e : (⟨3, ![1, M, 1536]⟩ : Shape).Idx → (⟨3, ![2, M, 6144]⟩ : Shape).Idx) {p : Fin 3 → ℕ}
    (hp : p = ![l.val, 0, q.val]) (h : ∀ y a, (e y a).val = p a * (![1, M, 1536] : Fin 3 → ℕ) a + (y a).val) (j : Fin M) (o : Fin 1536) :
    e (ix3 0 j o) = ix3 l j (col q o) := by
  subst hp
  refine funext fun a => Fin.ext ((h _ a).trans ?_)
  fin_cases a
  · show l.val * 1 + 0 = l.val; omega
  · show 0 * M + j.val = j.val; omega
  · rfl

end Cert.Ada

namespace Cert.Kernel9Ideal.Ada

open Cert.Kernel9Ideal Cert.Kernel9Ideal.Gen Cert.Kernel9Ideal.Value Cert.Ada
open Cert.Ffn (sgm_neg)
open Idealize.ShloMosaic Idealize.ShloMosaic.TcCoe Idealize.ShloMosaic.Tactic

theorem out_apply (s : Vec Ideal S8x1024 .f32) (w : Vec Ideal S1x1024x1536 .f32) (b : Vec Ideal S1x1x1536 .f32) (j : Fin 8) (o : Fin 1536) :
    out0_3 (F := Ideal) s w b (ix3 0 j o) = entry (fun k => s (ix2 j k)) (fun k => w (ix3 0 k o)) (b (ix3 0 0 o)) := by
  refine (congrFun (by frame_out : _ = k0_pay1 (F := Ideal) s w b) (ix3 0 j o)).trans ?_
  unfold k0_pay1
  pointwise
  simp only [zero_sub, sgm_neg]
  rfl

variable (m : (ℓ : Loc nD τ sig) → Buf (Elt Ideal) ℓ)

abbrev X (c : Dev nD) : (⟨2, ![4, 1024]⟩ : Shape).Idx → EReal := m ((c : Thread nD τ).loc main_arg0)
abbrev Y (c : Dev nD) : (⟨1, ![1024]⟩ : Shape).Idx → EReal := m ((c : Thread nD τ).loc main_arg1)
abbrev W (c : Dev nD) : (⟨3, ![2, 1024, 6144]⟩ : Shape).Idx → EReal := m ((c : Thread nD τ).loc main_arg2)
abbrev B (c : Dev nD) : (⟨2, ![2, 6144]⟩ : Shape).Idx → EReal := m ((c : Thread nD τ).loc main_arg3)

/-- Before the call the conditions are put one below the other, by the last operation but one, which writes that array alone. -/
theorem kept (c : Dev nD) (r : Ref sig .tc) (h : r ≠ main_v2) (h' : r ∉ [main_v3]) : StableHlo.upto hostOps0 (fun b => m (c, b)) 3 (Proc.devRef .tc r) = V m c r :=
  ((StableHlo.after_last_write (ops := hostOps0) (i := 3) [main_v3] rfl rfl h' (fun b => m (c, b))).trans (StableHlo.nary_result_ne _ _ _ _ _ _ h)).symm

theorem cond_concat (c : Dev nD) : V m c main_v2 = concatenate S8x1024 0 [⟨S4x1024, V m c main_arg0⟩, ⟨S1x1024, V m c main_v0⟩, ⟨S3x1024, V m c main_v1⟩]
    concatenates_S4x1024_S1x1024_S3x1024_S8x1024_d0 := by
  refine (StableHlo.after_last_write (ops := hostOps0) (i := 3) [main_v3] rfl rfl (by decide) (fun b => m (c, b))).trans ((StableHlo.nary_result _ _ _ _ _ _).trans ?_)
  rw [← kept m c main_arg0 (by decide) (by decide), ← kept m c main_v0 (by decide) (by decide), ← kept m c main_v1 (by decide) (by decide)]
  rfl

theorem ctx_arr (c : Dev nD) (k : Fin 1024) : @Eq EReal (V m c main_v0 (ix2 0 k)) (Y m c (ix1 k)) := by
  entry_read
  pointwise

theorem zero_arr (c : Dev nD) (j : Fin 3) (k : Fin 1024) : @Eq EReal (V m c main_v1 (ix2 j k)) 0 := by
  entry_read
  pointwise

theorem cond_arr (c : Dev nD) (j : Fin 8) (k : Fin 1024) : @Eq EReal (V m c main_v2 (ix2 j k)) (cond (X m c) (Y m c) j k) := by
  have hx : ∀ i, V m c main_arg0 i = X m c i := congrFun (V_main_arg0 m c)
  have hy := ctx_arr m c k
  have hz := fun j => zero_arr m c j k
  refine (congrFun (cond_concat m c) (ix2 j k)).trans ?_
  generalize V m c main_arg0 = a, V m c main_v0 = b, V m c main_v1 = z at *
  unfold Cert.Ada.cond
  pointwise
  by_cases h : j.val < 4
  · rw [dif_pos h, dif_pos h]
    exact hx _
  · rw [dif_neg h, dif_neg h]
    by_cases h' : j.val = 4
    · rw [if_pos h', dif_pos (by omega)]
      exact (congrArg b (congrArg (ix2 · k) (Fin.ext (by show j.val - 4 = 0; omega)))).trans hy
    · rw [if_neg h', dif_neg (by omega)]
      exact hz _

/-- The biases, a row to a layer. -/
theorem bias_arr (c : Dev nD) (l : Fin 2) (n : Fin 6144) : V m c main_v3 (ix3 l 0 n) = B m c (ix2 l n) := by
  entry_read
  pointwise

/-- The layer and the tile of columns of a point. -/
abbrev ly (t : Fin cfg0.N) : Fin 2 := ⟨t.val / 4, by have : t.val < 8 := t.isLt; omega⟩
abbrev tl (t : Fin cfg0.N) : Fin 4 := ⟨t.val % 4, by omega⟩

theorem idx : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, win0_0.index t = ![0, 0] ∧ win0_1.index t = ![t.val / 4, 0, t.val % 4] ∧ win0_2.index t = ![t.val / 4, 0, t.val % 4] ∧ win0_3.index t = ![t.val / 4, 0, t.val % 4])

theorem s_blk (c : Dev nD) (t : Fin cfg0.N) (j : Fin 8) (k : Fin 1024) : @Eq EReal (iblk m c 0 t (ix2 j k)) (cond (X m c) (Y m c) j k) := by
  refine Eq.trans (congrArg (V m c main_v2) (funext fun a => Fin.ext ?_)) (cond_arr m c j k)
  refine (Pipeline.Window.rect_emb_val (cfg0.win 0) t (ix2 j k) a rfl).trans ?_
  rw [show (cfg0.win 0).index t = _ from (idx t).1]
  fin_cases a
  · show 0 * 8 + j.val = j.val; omega
  · show 0 * 1024 + k.val = k.val; omega

theorem w_blk (c : Dev nD) (t : Fin cfg0.N) (k : Fin 1024) (o : Fin 1536) : iblk m c 1 t (ix3 0 k o) = W m c (ix3 (ly t) k (col (tl t) o)) :=
  (congrFun (V_main_arg2 m c) _).trans (congrArg (W m c) (place (ly t) (tl t) _ (idx t).2.1 (fun y a => Pipeline.Window.rect_emb_val (cfg0.win 1) t y a rfl) k o))

theorem b_blk (c : Dev nD) (t : Fin cfg0.N) (o : Fin 1536) : iblk m c 2 t (ix3 0 0 o) = B m c (ix2 (ly t) (col (tl t) o)) :=
  (congrArg (V m c main_v3) (place (ly t) (tl t) _ (idx t).2.2.1 (fun y a => Pipeline.Window.rect_emb_val (cfg0.win 2) t y a rfl) 0 o)).trans (bias_arr m c (ly t) (col (tl t) o))

/-- The array after the run. -/
theorem arr_eq (c : Dev nD) : (dats m 0 c).arrAt 3 cfg0.N = whole (X m c) (Y m c) (W m c) (B m c) := by
  refine (dats m 0 c).arrAt_eq_of_covers 3 _ (by decide +kernel) fun t hf y => ?_
  obtain ⟨j, o, rfl⟩ : ∃ (j : Fin 8) (o : Fin 1536), y = ix3 0 j o :=
    ⟨y 1, y 2, funext fun a => by
      fin_cases a
      · exact Fin.ext (Nat.lt_one_iff.mp (y 0).isLt)
      · rfl
      · rfl⟩
  refine (congrFun (flushed3 m c t) (ix3 0 j o)).trans ((out_apply (iblk m c 0 t) (iblk m c 1 t) (iblk m c 2 t) j o).trans ?_)
  have e := entry_congr (fun k => s_blk m c t j k) (fun k => w_blk m c t k o) (b_blk m c t o)
  refine e.trans (Eq.trans (b := whole (X m c) (Y m c) (W m c) (B m c) (ix3 (ly t) j (col (tl t) o))) rfl ?_)
  exact congrArg (whole (X m c) (Y m c) (W m c) (B m c)) (place (ly t) (tl t) _ (idx t).2.2.2 (fun y a => Pipeline.Window.rect_emb_val (cfg0.win 3) t y a rfl) j o).symm

end Cert.Kernel9Ideal.Ada

end
-- ==== Proof.AdaClaim.lean ====
/- The conditioning's call: its reference at an index, and its claims. -/
module

public import proofs.«01_k».proof.Defs
public import proofs.«01_k».proof.Proof.AdaValue
public import proofs.«01_k».proof.Proof.Gen.Kernel9.Frame
public import proofs.«01_k».proof.Proof.Gen.Reference9Ideal.Run
public import proofs.«01_k».proof.Proof.Gen.Reference9Ideal.Read

@[expose] public section

set_option maxRecDepth 16384
set_option Elab.async false

noncomputable section

namespace Cert.Ada

open Cert.Reference9Ideal Cert.Reference9Ideal.Read
open Cert.Ffn (sgm_neg)
open Idealize.ShloMosaic Idealize.ShloMosaic.TcCoe Idealize.ShloMosaic.Tactic Idealize.SL.Sem

variable (x0 : (⟨S4x1024, .f32⟩ : BufTy).Contents (Elt Ideal)) (x1 : (⟨S1024, .f32⟩ : BufTy).Contents (Elt Ideal)) (x2 : (⟨S2x1024x6144, .f32⟩ : BufTy).Contents (Elt Ideal))
  (x3 : (⟨S2x6144, .f32⟩ : BufTy).Contents (Elt Ideal))

/-- The batch entries' rows. -/
theorem lat0 (j : Fin 4) (n : Fin 6144) : val_main_v9 (F := Ideal) x0 x2 x3 (ix2 j n) = entry (fun k => x0 (ix2 j k)) (fun k => x2 (ix3 0 k n)) (x3 (ix2 0 n)) := by
  unfold val_main_v9 val_main_v8 val_main_v7 val_main_v6 val_main_v5 val_main_v4 val_main_v3 val_main_v2 val_main_v0 val_main_call0_v5 val_main_call0_v4 val_main_call0_v3 val_main_call0_v2 val_main_call0_v1 val_main_call0_v0 val_main_call0_cst val_main_call0_cst_0
  pointwise
  simp only [sgm_neg]
  rfl

theorem lat1 (j : Fin 4) (n : Fin 6144) : val_main_v28 (F := Ideal) x0 x2 x3 (ix2 j n) = entry (fun k => x0 (ix2 j k)) (fun k => x2 (ix3 1 k n)) (x3 (ix2 1 n)) := by
  unfold val_main_v28 val_main_v27 val_main_v26 val_main_v25 val_main_v24 val_main_v23 val_main_v22 val_main_v21 val_main_v0 val_main_call0_v5 val_main_call0_v4 val_main_call0_v3 val_main_call0_v2 val_main_call0_v1 val_main_call0_v0 val_main_call0_cst val_main_call0_cst_0
  pointwise
  simp only [sgm_neg]
  rfl

/-- The context's rows. -/
theorem ctx0 (n : Fin 6144) : val_main_v15 (F := Ideal) x1 x2 x3 (ix1 n) = entry (fun k => x1 (ix1 k)) (fun k => x2 (ix3 0 k n)) (x3 (ix2 0 n)) := by
  unfold val_main_v15 val_main_v14 val_main_v13 val_main_v12 val_main_v11 val_main_v10 val_main_v1 val_main_call1_v5 val_main_call1_v4 val_main_call1_v3 val_main_call1_v2 val_main_call1_v1 val_main_call1_v0 val_main_call1_cst val_main_call1_cst_0
  pointwise
  simp only [sgm_neg]
  rfl

theorem ctx1 (n : Fin 6144) : val_main_v34 (F := Ideal) x1 x2 x3 (ix1 n) = entry (fun k => x1 (ix1 k)) (fun k => x2 (ix3 1 k n)) (x3 (ix2 1 n)) := by
  unfold val_main_v34 val_main_v33 val_main_v32 val_main_v31 val_main_v30 val_main_v29 val_main_v1 val_main_call1_v5 val_main_call1_v4 val_main_call1_v3 val_main_call1_v2 val_main_call1_v1 val_main_call1_v0 val_main_call1_cst val_main_call1_cst_0
  pointwise
  simp only [sgm_neg]
  rfl

/-- A layer's rows, one below the other: the batch entries', the context's, the bias. -/
theorem rows {x : (⟨2, ![4, 1024]⟩ : Shape).Idx → EReal} {y : (⟨1, ![1024]⟩ : Shape).Idx → EReal} {w : Fin 1024 → EReal} {b : EReal}
    (j : Fin 8) {u : Fin 4 → EReal} {v z : EReal} (hu : ∀ j, u j = entry (fun k => x (ix2 j k)) w b) (hv : v = entry (fun k => y (ix1 k)) w b) (hz : z = b) :
    (if h : j.val < 4 then u ⟨j.val, h⟩ else if j.val - 4 < 1 then v else z) = entry (cond x y j) w b := by
  unfold Cert.Ada.cond
  by_cases h : j.val < 4
  · simp only [dif_pos h]
    exact hu _
  · simp only [dif_neg h]
    by_cases h' : j.val = 4
    · simp only [if_pos h', if_pos (show j.val - 4 < 1 by omega)]
      exact hv
    · simp only [if_neg h', if_neg (show ¬j.val - 4 < 1 by omega)]
      exact hz.trans (entry_zero w b).symm

theorem layer0 (j : Fin 8) (n : Fin 6144) : val_main_v20 (F := Ideal) x0 x1 x2 x3 (ix2 j n) = entry (cond x0 x1 j) (fun k => x2 (ix3 0 k n)) (x3 (ix2 0 n)) := by
  have h := rows (x := x0) (y := x1) j (fun j => lat0 x0 x2 x3 j n) (ctx0 x1 x2 x3 n) rfl
  refine Eq.trans ?_ h
  unfold val_main_v20 val_main_v19 val_main_v18 val_main_v17 val_main_v16
  generalize val_main_v9 (F := Ideal) x0 x2 x3 = u, val_main_v15 (F := Ideal) x1 x2 x3 = v
  pointwise
  rfl

theorem layer1 (j : Fin 8) (n : Fin 6144) : val_main_v39 (F := Ideal) x0 x1 x2 x3 (ix2 j n) = entry (cond x0 x1 j) (fun k => x2 (ix3 1 k n)) (x3 (ix2 1 n)) := by
  refine Eq.trans ?_ (rows (x := x0) (y := x1) j (fun j => lat1 x0 x2 x3 j n) (ctx1 x1 x2 x3 n) rfl)
  unfold val_main_v39 val_main_v38 val_main_v37 val_main_v36 val_main_v35
  generalize val_main_v28 (F := Ideal) x0 x2 x3 = u, val_main_v34 (F := Ideal) x1 x2 x3 = v
  pointwise
  rfl

/-- The reference's array: a layer on the other. -/
theorem ref_eq : val_main_v42 (F := Ideal) x0 x1 x2 x3 = whole x0 x1 x2 x3 := by
  funext i
  obtain ⟨l, j, n, rfl⟩ : ∃ (l : Fin 2) (j : Fin 8) (n : Fin 6144), i = ix3 l j n := ⟨i 0, i 1, i 2, eq_ix3 i⟩
  have h0 := layer0 x0 x1 x2 x3 j n
  have h1 := layer1 x0 x1 x2 x3 j n
  unfold val_main_v42 val_main_v41 val_main_v40
  generalize val_main_v20 (F := Ideal) x0 x1 x2 x3 = u, val_main_v39 (F := Ideal) x0 x1 x2 x3 = v at *
  fin_cases l
  · exact (by pointwise : _ = u (ix2 j n)).trans h0
  · exact (by pointwise : _ = v (ix2 j n)).trans h1

theorem frame_k : Cert.quiescent_Kernel9 := fun m g _ => Cert.Kernel9.Gen.frame m g

theorem frame_ki : Cert.quiescent_Kernel9Ideal := fun m g _ => Cert.Kernel9Ideal.Gen.frame m g

theorem frame_ri : Cert.quiescent_Reference9Ideal := fun m g _ =>
  (θ_run Cert.Reference9Ideal.defs _ _).mono (fun r h => ⟨fun c => (h c).2, Idealize.ShloMosaic.sem_eq_zero_of_no_sems (by decide) r.2⟩)
    (Cert.Reference9Ideal.Value.run (F := Ideal) m g)

theorem algebraic : Cert.algebraic_Kernel9Ideal_Reference9Ideal := by
  intro m g m' g' _ hargs
  refine ⟨fun c => Cert.Ada.whole (Cert.Kernel9Ideal.Ada.X m c) (Cert.Kernel9Ideal.Ada.Y m c) (Cert.Kernel9Ideal.Ada.W m c) (Cert.Kernel9Ideal.Ada.B m c),
    (θ_run _ _ _).mono (fun r h c => ⟨(h c).1.trans (Cert.Kernel9Ideal.Ada.arr_eq m c), (h c).2⟩) (Cert.Kernel9Ideal.Value.run_blocks (F := Ideal) m g), ?_⟩
  refine (θ_run _ _ _).mono (fun r h c => ⟨(h c).1.trans ?_, (h c).2⟩) (Cert.Reference9Ideal.Value.run (F := Ideal) m' g')
  obtain ⟨e0, e1, e2, e3⟩ := hargs c
  refine (val_main_v42_eq (F := Ideal) _ _).trans ?_
  rw [e0, e1, e2, e3]
  exact ref_eq _ _ _ _

end Cert.Ada

end
-- ==== Proof.MergeSpec.lean ====
/- The end of the mixer on one row, as plain sums of extended reals: the per-head normals of both branches, their output
   projections, the gates that mix them, and the gated residual. Then the one place where the call works otherwise than
   these formulas: a sum over a head's columns is taken there as a product with a matrix of ones and zeros. -/
module

public import proofs.«01_k».proof.Proof.FfnSpec
public import Idealize.ShloMosaic.Lib.Pipeline.ValueKit
public import Idealize.ShloMosaic.PureOps.Ideal.Laws

@[expose] public section

noncomputable section

namespace Cert.Merge

open Idealize.ShloMosaic
open Cert.Moe (sgm)

/-! ### The row, by `q` heads of `n` columns -/

section heads

variable {n q : ℕ} (h : q * n = 1024)
include h

/-- The head of a column. -/
def head (o : Fin 1024) : Fin q := ⟨o.val / n, by
  have : o.val < n * q := by rw [Nat.mul_comm, h]; exact o.isLt
  exact Nat.div_lt_of_lt_mul this⟩

/-- Column `a` of a head. -/
def col (g : Fin q) (a : Fin n) : Fin 1024 := ⟨g.val * n + a.val, by
  have h1 : (g.val + 1) * n ≤ q * n := Nat.mul_le_mul_right n g.isLt
  have h2 := a.isLt
  rw [Nat.add_mul, h] at h1
  omega⟩

theorem head_col (g : Fin q) (a : Fin n) : head h (col h g a) = g := by
  have ha := a.isLt
  refine Fin.ext ?_
  show (g.val * n + a.val) / n = g.val
  rw [Nat.mul_comm, Nat.mul_add_div (by omega), Nat.div_eq_of_lt ha, Nat.add_zero]

/-- The mean of a head's columns, the number of columns given as `w`. -/
def mean (w : EReal) (x : Fin 1024 → EReal) (g : Fin q) : EReal := Ideal.div (∑ a : Fin n, x (col h g a)) w

end heads

/-- The first branch before its projection: 8 heads of 128, each by its root mean square, scaled and gated. -/
def left (hm gn og : Fin 1024 → EReal) (o : Fin 1024) : EReal :=
  hm o * Ideal.rsqrt (mean (n := 128) (q := 8) rfl (Ideal.ofBits .f32 0x43000000#32) (fun k => hm k * hm k) (head (n := 128) (q := 8) rfl o)
    + Ideal.ofBits .f32 0x358637BD#32) * gn o * sgm (og o)

/-- The second branch, less its head's mean: 16 heads of 64. -/
def ctr (y : Fin 1024 → EReal) (o : Fin 1024) : EReal :=
  y o - mean (n := 64) (q := 16) rfl (Ideal.ofBits .f32 0x42800000#32) y (head (n := 64) (q := 16) rfl o)

/-- The second branch before its projection: each head by its deviation, scaled and shifted, with the bonus, and gated. -/
def right (y lw lb bo g : Fin 1024 → EReal) (o : Fin 1024) : EReal :=
  (ctr y o * Ideal.rsqrt (mean (n := 64) (q := 16) rfl (Ideal.ofBits .f32 0x42800000#32) (fun k => ctr y k * ctr y k) (head (n := 64) (q := 16) rfl o)
    + Ideal.ofBits .f32 0x3A27C5AC#32) * lw o + lb o + bo o) * g o

/-- A row by a matrix. -/
def mm (x : Fin 1024 → EReal) (w : Fin 1024 → Fin 1024 → EReal) (o : Fin 1024) : EReal := ∑ k, x k * w k o

/-- The two branches, mixed by their gates. -/
def mix (m1 m2 u v : Fin 1024 → EReal) (o : Fin 1024) : EReal := sgm (m1 o) * u o + sgm (m2 o) * v o

/-- Entry `o` of the row's result: the residual and the mixed branches' projection under its gate. -/
def out (hm gn og y lw lb bo g m1 m2 x gt : Fin 1024 → EReal) (wm wr wo : Fin 1024 → Fin 1024 → EReal) (o : Fin 1024) : EReal :=
  x o + gt o * mm (mix m1 m2 (mm (left hm gn og) wm) (mm (right y lw lb bo g) wr)) wo o

theorem out_congr {hm hm' gn gn' og og' y y' lw lw' lb lb' bo bo' g g' m1 m1' m2 m2' x x' gt gt' : Fin 1024 → EReal}
    {wm wm' wr wr' wo wo' : Fin 1024 → Fin 1024 → EReal} {o : Fin 1024} (h0 : ∀ k, hm k = hm' k) (h1 : ∀ k, gn k = gn' k) (h2 : ∀ k, og k = og' k)
    (h3 : ∀ k, y k = y' k) (h4 : ∀ k, lw k = lw' k) (h5 : ∀ k, lb k = lb' k) (h6 : ∀ k, bo k = bo' k) (h7 : ∀ k, g k = g' k)
    (h8 : ∀ k, m1 k = m1' k) (h9 : ∀ k, m2 k = m2' k) (h10 : ∀ k, x k = x' k) (h11 : ∀ k, gt k = gt' k)
    (h12 : ∀ k f, wm k f = wm' k f) (h13 : ∀ k f, wr k f = wr' k f) (h14 : ∀ k f, wo k f = wo' k f) :
    out hm gn og y lw lb bo g m1 m2 x gt wm wr wo o = out hm' gn' og' y' lw' lb' bo' g' m1' m2' x' gt' wm' wr' wo' o := by
  rw [funext h0, funext h1, funext h2, funext h3, funext h4, funext h5, funext h6, funext h7, funext h8, funext h9, funext h10, funext h11,
    funext fun k => funext (h12 k), funext fun k => funext (h13 k), funext fun k => funext (h14 k)]

/-! ### Finite entries -/

/-- A real number: neither of the two infinities. -/
def IsReal (x : EReal) : Prop := ∃ r : ℝ, x = r

theorem IsReal.mul {x y : EReal} : IsReal x → IsReal y → IsReal (x * y) := fun ⟨a, ha⟩ ⟨b, hb⟩ => ⟨a * b, by rw [ha, hb, EReal.coe_mul]⟩

theorem IsReal.sub {x y : EReal} : IsReal x → IsReal y → IsReal (x - y) := fun ⟨a, ha⟩ ⟨b, hb⟩ => ⟨a - b, by rw [ha, hb, EReal.coe_sub]⟩

theorem IsReal.sum {n : ℕ} {f : Fin n → EReal} (h : ∀ k, IsReal (f k)) : IsReal (∑ k, f k) := by
  choose r hr using h
  refine ⟨∑ k, r k, ?_⟩
  rw [Finset.sum_congr rfl fun k _ => hr k]
  exact (map_sum (⟨⟨Real.toEReal, EReal.coe_zero⟩, EReal.coe_add⟩ : ℝ →+ EReal) r Finset.univ).symm

theorem IsReal.sub_self {x : EReal} : IsReal x → x - x = 0 := fun ⟨a, ha⟩ => by rw [ha, ← EReal.coe_sub, _root_.sub_self, EReal.coe_zero]

theorem fin_of_abs {x : EReal} (h : max x (-x) < ⊤) : IsReal x := by
  induction x with
  | bot => simp at h
  | top => simp at h
  | coe r => exact ⟨r, rfl⟩

/-! ### The sum over a head's columns -/

/-- A sum over 256 columns against the indicator of column `j`'s head is the sum over the head's columns. -/
theorem sum_head {n : ℕ} (hn : 0 < n) (x : Fin 256 → EReal) (j : Fin 256) (e : Fin n → Fin 256) (he : ∀ a, (e a).val = j.val / n * n + a.val) :
    ∑ k, x k * (if k.val / n = j.val / n then 1 else 0) = ∑ a, x (e a) := by
  simp only [mul_ite, mul_one, mul_zero]
  rw [← Finset.sum_filter]
  refine (Finset.sum_nbij e (fun a _ => ?_) (fun a _ b _ hab => ?_) (fun k hk => ?_) fun a _ => rfl).symm
  · have ha := a.isLt
    refine Finset.mem_filter.mpr ⟨Finset.mem_univ _, ?_⟩
    rw [he, Nat.mul_comm, Nat.mul_add_div (by omega), Nat.div_eq_of_lt ha, Nat.add_zero]
  · have h1 := he a
    have h2 := he b
    rw [hab] at h1
    exact Fin.ext (by omega)
  · have hk' := (Finset.mem_filter.mp hk).2
    refine ⟨⟨k.val % n, Nat.mod_lt _ hn⟩, Finset.mem_univ _, Fin.ext ?_⟩
    rw [he, ← hk', Nat.mul_comm]
    exact Nat.div_add_mod _ _

/-! ### The number of a head's columns -/

theorem word_128 : Ideal.ofBits .f32 0x43000000#32 = ((128 : ℝ) : EReal) := by
  simp [Ideal.ofBits, Ideal.ieee, -EReal.coe_mul]; norm_num

theorem word_inv128 : Ideal.ofBits .f32 0x3C000000#32 = ((128⁻¹ : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_inv64 : Ideal.ofBits .f32 0x3C800000#32 = ((64⁻¹ : ℝ) : EReal) := by
  simp [Ideal.ofBits, Ideal.ieee, -EReal.coe_mul]; norm_num

/-- A product with a number's reciprocal is the quotient by the number. -/
theorem mul_inv {w : ℝ} (hw : w ≠ 0) (x : EReal) : x * ((w⁻¹ : ℝ) : EReal) = Ideal.div x (w : EReal) := by
  rw [Ideal.div, if_neg (by exact_mod_cast hw), EReal.coe_inv]

/-- A product with the reciprocal of 128, as words, and of 64. -/
theorem mul_inv128 (x : EReal) : x * Ideal.ofBits .f32 0x3C000000#32 = Ideal.div x (Ideal.ofBits .f32 0x43000000#32) := by
  rw [word_128, word_inv128]; exact mul_inv (by norm_num) x

theorem mul_inv64 (x : EReal) : x * Ideal.ofBits .f32 0x3C800000#32 = Ideal.div x (Ideal.ofBits .f32 0x42800000#32) := by
  rw [word_64, word_inv64]; exact mul_inv (by norm_num) x

/-- A real row, less its heads' means, is real. -/
theorem ctr_real {y : Fin 1024 → EReal} (h : ∀ k, IsReal (y k)) (o : Fin 1024) : IsReal (ctr y o) := by
  refine (h o).sub ?_
  unfold mean
  rw [← mul_inv64]
  exact (IsReal.sum fun a => h _).mul ⟨_, word_inv64⟩

end Cert.Merge

end
-- ==== Proof.MergePay.lean ====
/- The end of the mixer in one tile of rows, entry by entry. The body takes a sum over each head's columns by splitting the
   entries into three parts and multiplying by a matrix of ones and zeros, 256 columns at a time; on real entries that is the
   sum (`sums_apply`), and it is used three times. -/
module

public import proofs.«01_k».proof.Proof.Gen.Kernel10Ideal.Value
public import proofs.«01_k».proof.Proof.MergeSpec

@[expose] public section

set_option maxRecDepth 16384
set_option Elab.async false

noncomputable section

namespace Cert.Kernel10Ideal.Merge

open Cert.Kernel10Ideal Cert.Kernel10Ideal.Gen Cert.Kernel10Ideal.Value Cert.Merge
open Cert.Moe (sgm)
open Idealize.ShloMosaic Idealize.ShloMosaic.TcCoe Idealize.ShloMosaic.Tactic

/-! ### The sums over the heads' columns -/

/-- What is left of the entries after their rounded part is taken away. -/
def rest (x : FVec Ideal S256x256 .f32) : FVec Ideal S256x256 .f32 := subf x (extf .f32 (truncf .bf16 x bitsLt_bf16_f32) bitsLt_bf16_f32)

/-- The rounded part of 256 columns by the matrix. -/
def part (x : FVec Ideal S256x256 .f32) (bd : FVec Ideal S256x256 .bf16) : FVec Ideal S256x256 .f32 :=
  matmul dot_S256x256_S256x256_S256x256_1_0_0_1_n_n none (truncf .bf16 x bitsLt_bf16_f32) bd (constant S256x256 .f32 0x00000000#32)

/-- Three parts of 256 columns by the matrix. -/
def block (x : FVec Ideal S256x256 .f32) (bd : FVec Ideal S256x256 .bf16) : FVec Ideal S256x256 .f32 :=
  addf (addf (part x bd) (part (rest x) bd)) (part (rest (rest x)) bd)

/-- The same of all columns. -/
def sums (x : FVec Ideal S256x1024 .f32) (bd : FVec Ideal S256x256 .bf16) : FVec Ideal S256x1024 .f32 :=
  concatenate S256x1024 1 [⟨S256x256, block (extractStridedSlice S256x256 ![0, 0] x slices_S256x1024_o0_0_S256x256) bd⟩,
    ⟨S256x256, block (extractStridedSlice S256x256 ![0, 256] x slices_S256x1024_o0_256_S256x256) bd⟩,
    ⟨S256x256, block (extractStridedSlice S256x256 ![0, 512] x slices_S256x1024_o0_512_S256x256) bd⟩,
    ⟨S256x256, block (extractStridedSlice S256x256 ![0, 768] x slices_S256x1024_o0_768_S256x256) bd⟩]
    concatenates_S256x256_S256x256_S256x256_S256x256_S256x1024_d1

theorem rest_apply (x : FVec Ideal S256x256 .f32) (r k : Fin 256) (h : IsReal (x (ix2 r k))) : rest x (ix2 r k) = 0 := by
  unfold rest
  pointwise
  exact h.sub_self

theorem part_apply (x : FVec Ideal S256x256 .f32) (bd : FVec Ideal S256x256 .bf16) (r j : Fin 256) :
    part x bd (ix2 r j) = ∑ k : Fin 256, x (ix2 r k) * bd (ix2 k j) := by
  unfold part
  pointwise

theorem block_apply (x : FVec Ideal S256x256 .f32) (bd : FVec Ideal S256x256 .bf16) (r j : Fin 256) (h : ∀ k, IsReal (x (ix2 r k))) :
    block x bd (ix2 r j) = ∑ k : Fin 256, x (ix2 r k) * bd (ix2 k j) := by
  have h1 : ∀ k, rest x (ix2 r k) = 0 := fun k => rest_apply x r k (h k)
  have h2 : ∀ k, rest (rest x) (ix2 r k) = 0 := fun k => rest_apply (rest x) r k ⟨0, h1 k⟩
  show part x bd (ix2 r j) + part (rest x) bd (ix2 r j) + part (rest (rest x)) bd (ix2 r j) = _
  simp only [part_apply, h1, h2, zero_mul, Finset.sum_const_zero, add_zero]

/-- 256 columns from column `c` on. -/
theorem slice_apply (x : FVec Ideal S256x1024 .f32) (bd : FVec Ideal S256x256 .bf16) (c : ℕ) (hc : c + 256 ≤ 1024) (hs : S256x1024.Slices ![0, c] S256x256)
    (r j : Fin 256) (o : Fin 1024) (ho : o.val / 256 * 256 = c) (hj : j.val = o.val % 256) (h : ∀ k, IsReal (x (ix2 r k))) :
    block (extractStridedSlice S256x256 ![0, c] x hs) bd (ix2 r j)
      = ∑ k : Fin 256, x (ix2 r ⟨o.val / 256 * 256 + k.val, by omega⟩) * bd (ix2 k ⟨o.val % 256, by omega⟩) := by
  have e : ∀ k : Fin 256, extractStridedSlice S256x256 ![0, c] x hs (ix2 r k) = x (ix2 r ⟨o.val / 256 * 256 + k.val, by omega⟩) := fun k => by
    refine congrArg x (funext fun a => Fin.ext ?_)
    fin_cases a
    · show 0 + r.val = r.val; omega
    · show c + k.val = o.val / 256 * 256 + k.val; omega
  rw [block_apply _ _ _ _ fun k => by rw [e]; exact h _]
  exact Finset.sum_congr rfl fun k _ => by rw [e]; exact congrArg (fun j => _ * bd (ix2 k j)) (Fin.ext hj)

/-- Entry `o` of the sums, by the block of columns that holds it. -/
theorem sums_apply (x : FVec Ideal S256x1024 .f32) (bd : FVec Ideal S256x256 .bf16) (r : Fin 256) (o : Fin 1024) (h : ∀ k, IsReal (x (ix2 r k))) :
    sums x bd (ix2 r o) = ∑ k : Fin 256, x (ix2 r ⟨o.val / 256 * 256 + k.val, by omega⟩) * bd (ix2 k ⟨o.val % 256, by omega⟩) := by
  unfold sums
  pointwise
  split_ifs <;> exact slice_apply x bd _ (by omega) _ r _ o (by omega) (by show _ = o.val % 256; simp only []; omega) h

/-- The number of a column's head, taken by a shift. -/
theorem shift7 : ∀ k : Fin 256, IntOp.shrsi .vector (BitVec.ofNat 32 k.val) 7#32 = BitVec.ofNat 32 (k.val / 128) := by decide +kernel

theorem shift6 : ∀ k : Fin 256, IntOp.shrsi .vector (BitVec.ofNat 32 k.val) 6#32 = BitVec.ofNat 32 (k.val / 64) := by decide +kernel

/-- One where two numbers agree, and zero elsewhere. -/
theorem select_eq {a b : ℕ} (ha : a < 256) (hb : b < 256) :
    Scalar.select (IntOp.cmpi .eq (BitVec.ofNat 32 a) (BitVec.ofNat 32 b)) (1 : EReal) 0 = if a = b then 1 else 0 := by
  by_cases h : a = b
  · subst h
    rw [if_pos rfl]
    simp [Scalar.select, IntOp.cmpi]
  · rw [if_neg h]
    have : BitVec.ofNat 32 a ≠ BitVec.ofNat 32 b := fun e => h (by
      have := congrArg BitVec.toNat e
      simp only [BitVec.toNat_ofNat] at this
      omega)
    have e : (BitVec.ofNat 32 a == BitVec.ofNat 32 b) = false := beq_eq_false_iff_ne.mpr this
    simp only [Scalar.select, IntOp.cmpi, e]
    rfl

/-- The matrix of heads of 128 columns, and of 64. -/
theorem pay4_apply (k j : Fin 256) : k0_pay4 (F := Ideal) (ix2 k j) = if k.val / 128 = j.val / 128 then 1 else 0 := by
  unfold k0_pay4
  pointwise
  rw [shift7, shift7]
  exact select_eq (by omega) (by omega)

theorem pay15_apply (k j : Fin 256) : k0_pay15 (F := Ideal) (ix2 k j) = if k.val / 64 = j.val / 64 then 1 else 0 := by
  unfold k0_pay15
  pointwise
  rw [shift6, shift6]
  exact select_eq (by omega) (by omega)

/-- The sums by heads of 128 columns, and of 64. -/
theorem sums128 (x : FVec Ideal S256x1024 .f32) (r : Fin 256) (o : Fin 1024) (h : ∀ k, IsReal (x (ix2 r k))) :
    sums x (k0_pay4 (F := Ideal)) (ix2 r o) = ∑ a : Fin 128, x (ix2 r (col (n := 128) (q := 8) rfl (head (n := 128) (q := 8) rfl o) a)) := by
  rw [sums_apply x _ r o h]
  simp only [pay4_apply]
  refine (sum_head (n := 128) (by omega) (fun k => x (ix2 r ⟨o.val / 256 * 256 + k.val, by omega⟩)) ⟨o.val % 256, by omega⟩
    (fun a => ⟨o.val % 256 / 128 * 128 + a.val, by omega⟩) fun a => rfl).trans (Finset.sum_congr rfl fun a _ => congrArg (fun k => x (ix2 r k)) (Fin.ext ?_))
  show o.val / 256 * 256 + (o.val % 256 / 128 * 128 + a.val) = o.val / 128 * 128 + a.val
  omega

theorem sums64 (x : FVec Ideal S256x1024 .f32) (r : Fin 256) (o : Fin 1024) (h : ∀ k, IsReal (x (ix2 r k))) :
    sums x (k0_pay15 (F := Ideal)) (ix2 r o) = ∑ a : Fin 64, x (ix2 r (col (n := 64) (q := 16) rfl (head (n := 64) (q := 16) rfl o) a)) := by
  rw [sums_apply x _ r o h]
  simp only [pay15_apply]
  refine (sum_head (n := 64) (by omega) (fun k => x (ix2 r ⟨o.val / 256 * 256 + k.val, by omega⟩)) ⟨o.val % 256, by omega⟩
    (fun a => ⟨o.val % 256 / 64 * 64 + a.val, by omega⟩) fun a => rfl).trans (Finset.sum_congr rfl fun a _ => congrArg (fun k => x (ix2 r k)) (Fin.ext ?_))
  show o.val / 256 * 256 + (o.val % 256 / 64 * 64 + a.val) = o.val / 64 * 64 + a.val
  omega

/-! ### The stages of the body -/

variable (x0 x1 x2 x3 x4 x5 : Vec Ideal S1x256x1024 .f32) (x6 : Vec Ideal S1x256x2048 .f32) (x7 : Vec Ideal S1x256x1024 .f32) (x8 : Vec Ideal S1x1x8x1024 .f32)
  (x9 x10 x11 : Vec Ideal S1x1024 .f32) (x12 x13 x14 : Vec Ideal S1024x1024 .bf16)

/-- The first branch's normal over the sums of its squares. -/
theorem pay12_eq : k0_pay12 (k0_pay2 x0 x1) (k0_pay3 x0 x1) (k0_pay4 (F := Ideal)) (k0_pay5 x0 x1) (k0_pay10 x0 x1) (k0_pay11 x0 x1) x9
    = mulf (mulf (k0_pay2 x0 x1) (rsqrt (addf (mulf (sums (k0_pay3 x0 x1) (k0_pay4 (F := Ideal))) (broadcast S256x1024 (Scalar.ofBits .f32 0x3C000000#32)))
        (broadcast S256x1024 (Scalar.ofBits .f32 0x358637BD#32)))))
      (broadcastTo S256x1024 (shapeCast S1x1024 x9 shapeCasts_S1x1024_S1x1024) broadcasts_S1x1024_S256x1024) := rfl

/-- The second branch less its heads' means. -/
theorem pay24_eq : k0_pay24 (k0_pay15 (F := Ideal)) (k0_pay16 x3) (k0_pay17 x3) (k0_pay22 x3) (k0_pay23 x3)
    = subf (k0_pay16 x3) (mulf (sums (k0_pay16 x3) (k0_pay15 (F := Ideal))) (broadcast S256x1024 (Scalar.ofBits .f32 0x3C800000#32))) := rfl

/-- The second branch's normal over the sums of its squares, of whatever is given for the branch less its means. -/
theorem pay30_eq (z : FVec Ideal S256x1024 .f32) : k0_pay30 (k0_pay15 (F := Ideal)) z (mulf z z) (block (extractStridedSlice S256x256 ![0, 0] (mulf z z) slices_S256x1024_o0_0_S256x256) (k0_pay15 (F := Ideal)))
      (extractStridedSlice S256x256 ![0, 256] (mulf z z) slices_S256x1024_o0_256_S256x256)
      (truncf .bf16 (extractStridedSlice S256x256 ![0, 256] (mulf z z) slices_S256x1024_o0_256_S256x256) bitsLt_bf16_f32)
      (extf .f32 (truncf .bf16 (extractStridedSlice S256x256 ![0, 256] (mulf z z) slices_S256x1024_o0_256_S256x256) bitsLt_bf16_f32) bitsLt_bf16_f32) x10
    = mulf (mulf z (rsqrt (addf (mulf (sums (mulf z z) (k0_pay15 (F := Ideal))) (broadcast S256x1024 (Scalar.ofBits .f32 0x3C800000#32)))
        (broadcast S256x1024 (Scalar.ofBits .f32 0x3A27C5AC#32)))))
      (broadcastTo S256x1024 (shapeCast S1x1024 x10 shapeCasts_S1x1024_S1x1024) broadcasts_S1x1024_S256x1024) := rfl

/-! ### The stages, entry by entry -/

/-- The sum of both directions on a row, as the body reads it. -/
theorem pay2_apply (r : Fin 256) (k : Fin 1024) : k0_pay2 (F := Ideal) x0 x1 (ix2 r k) = x0 (ix3 0 r k) + x1 (ix3 0 r k) := by
  unfold k0_pay2
  pointwise

theorem pay16_apply (r : Fin 256) (k : Fin 1024) : k0_pay16 (F := Ideal) x3 (ix2 r k) = x3 (ix3 0 r k) := by
  unfold k0_pay16
  pointwise

/-- The first branch before its gate. -/
theorem left_apply (r : Fin 256) (o : Fin 1024) (h : ∀ k, IsReal (x0 (ix3 0 r k) + x1 (ix3 0 r k))) :
    k0_pay12 (k0_pay2 x0 x1) (k0_pay3 x0 x1) (k0_pay4 (F := Ideal)) (k0_pay5 x0 x1) (k0_pay10 x0 x1) (k0_pay11 x0 x1) x9 (ix2 r o)
      * sgm (x2 (ix3 0 r o))
      = left (fun k => x0 (ix3 0 r k) + x1 (ix3 0 r k)) (fun k => x9 (ix2 0 k)) (fun k => x2 (ix3 0 r k)) o := by
  have e3 : ∀ k, k0_pay3 (F := Ideal) x0 x1 (ix2 r k) = (x0 (ix3 0 r k) + x1 (ix3 0 r k)) * (x0 (ix3 0 r k) + x1 (ix3 0 r k)) := fun k => by
    show k0_pay2 (F := Ideal) x0 x1 (ix2 r k) * k0_pay2 (F := Ideal) x0 x1 (ix2 r k) = _
    rw [pay2_apply]
  have e := sums128 (k0_pay3 x0 x1) r o fun k => by rw [e3]; exact (h k).mul (h k)
  rw [pay12_eq]
  generalize sums (k0_pay3 x0 x1) (k0_pay4 (F := Ideal)) = S at e ⊢
  have e2 := pay2_apply x0 x1 r o
  generalize k0_pay2 x0 x1 = H at e2 ⊢
  pointwise
  rw [e, e2, mul_inv128]
  simp only [e3]
  rfl

/-- The second branch less its means, of a row of real entries. -/
theorem ctr_apply (r : Fin 256) (o : Fin 1024) (h : ∀ k, IsReal (x3 (ix3 0 r k))) :
    k0_pay24 (k0_pay15 (F := Ideal)) (k0_pay16 x3) (k0_pay17 x3) (k0_pay22 x3) (k0_pay23 x3) (ix2 r o) = ctr (fun k => x3 (ix3 0 r k)) o := by
  have e := sums64 (k0_pay16 x3) r o fun k => by rw [pay16_apply]; exact h k
  rw [pay24_eq]
  generalize sums (k0_pay16 x3) (k0_pay15 (F := Ideal)) = S at e ⊢
  show k0_pay16 x3 (ix2 r o) - S (ix2 r o) * Ideal.ofBits .f32 0x3C800000#32 = _
  rw [e, mul_inv64]
  simp only [pay16_apply]
  rfl

/-- The second branch's normal, of whatever is given for the branch less its means. -/
theorem normal_apply (z : FVec Ideal S256x1024 .f32) (r : Fin 256) (o : Fin 1024) (h : ∀ k, IsReal (z (ix2 r k))) :
    mulf (mulf z (rsqrt (addf (mulf (sums (mulf z z) (k0_pay15 (F := Ideal))) (broadcast S256x1024 (Scalar.ofBits .f32 0x3C800000#32)))
        (broadcast S256x1024 (Scalar.ofBits .f32 0x3A27C5AC#32)))))
      (broadcastTo S256x1024 (shapeCast S1x1024 x10 shapeCasts_S1x1024_S1x1024) broadcasts_S1x1024_S256x1024) (ix2 r o)
      = z (ix2 r o) * Ideal.rsqrt (mean (n := 64) (q := 16) rfl (Ideal.ofBits .f32 0x42800000#32) (fun k => z (ix2 r k) * z (ix2 r k)) (head (n := 64) (q := 16) rfl o)
        + Ideal.ofBits .f32 0x3A27C5AC#32) * x10 (ix2 0 o) := by
  have e := sums64 (mulf z z) r o fun k => (h k).mul (h k)
  generalize sums (mulf z z) (k0_pay15 (F := Ideal)) = S at e ⊢
  pointwise
  rw [e, mul_inv64]
  rfl

/-! ### The whole body, entry by entry -/

/-- The first branch's projection. -/
theorem pay14_apply (A : FVec Ideal S256x1024 .f32) (r : Fin 256) (o : Fin 1024) :
    k0_pay14 A (k0_pay13 x2) x12 (ix2 r o) = mm (fun k => A (ix2 r k) * sgm (x2 (ix3 0 r k))) (fun k f => x12 (ix2 k f)) o := by
  unfold k0_pay14 k0_pay13
  pointwise
  simp only [zero_sub, Cert.Ffn.sgm_neg]
  rfl

/-- The second branch's projection, and both branches mixed. -/
theorem pay31_apply (U B : FVec Ideal S256x1024 .f32) (r : Fin 256) (o : Fin 1024) :
    k0_pay31 U B x11 x4 x5 x13 x6 (ix2 r o)
      = mix (fun k => x6 (ix3 0 r ⟨k.val, by omega⟩)) (fun k => x6 (ix3 0 r ⟨1024 + k.val, by omega⟩)) (fun k => U (ix2 r k))
          (mm (fun k => (B (ix2 r k) + x11 (ix2 0 k) + x4 (ix3 0 r k)) * x5 (ix3 0 r k)) (fun k f => x13 (ix2 k f))) o := by
  unfold k0_pay31
  pointwise
  simp only [zero_sub, Cert.Ffn.sgm_neg]
  rfl

/-- The gated residual. -/
theorem pay1_apply (M : FVec Ideal S256x1024 .bf16) (gt : Vec Ideal S1x1x1x1024 .f32) (r : Fin 256) (o : Fin 1024) :
    k0_pay1 M (k0_pay32 x14) x7 gt (ix3 0 r o) = x7 (ix3 0 r o) + gt (ix4 0 0 0 o) * mm (fun k => M (ix2 r k)) (fun k f => x14 (ix2 k f)) o := by
  unfold k0_pay1 k0_pay32
  pointwise
  rfl

/-- What a tile's first branch, second branch less its means, and second branch's normal are in the body. -/
abbrev armA : FVec Ideal S256x1024 .f32 :=
  k0_pay12 (k0_pay2 x0 x1) (k0_pay3 x0 x1) (k0_pay4 (F := Ideal)) (k0_pay5 x0 x1) (k0_pay10 x0 x1) (k0_pay11 x0 x1) x9
abbrev armZ : FVec Ideal S256x1024 .f32 := k0_pay24 (k0_pay15 (F := Ideal)) (k0_pay16 x3) (k0_pay17 x3) (k0_pay22 x3) (k0_pay23 x3)
abbrev armB : FVec Ideal S256x1024 .f32 :=
  k0_pay30 (k0_pay15 (F := Ideal)) (armZ x3) (k0_pay25 (k0_pay15 (F := Ideal)) (k0_pay16 x3) (k0_pay17 x3) (k0_pay22 x3) (k0_pay23 x3))
    (k0_pay26 (k0_pay15 (F := Ideal)) (k0_pay16 x3) (k0_pay17 x3) (k0_pay22 x3) (k0_pay23 x3))
    (k0_pay27 (k0_pay15 (F := Ideal)) (k0_pay16 x3) (k0_pay17 x3) (k0_pay22 x3) (k0_pay23 x3))
    (k0_pay28 (k0_pay15 (F := Ideal)) (k0_pay16 x3) (k0_pay17 x3) (k0_pay22 x3) (k0_pay23 x3))
    (k0_pay29 (k0_pay15 (F := Ideal)) (k0_pay16 x3) (k0_pay17 x3) (k0_pay22 x3) (k0_pay23 x3)) x10

/-- The second branch before the shift, the bonus and the gate, of a row of real entries. -/
theorem armB_apply (r : Fin 256) (o : Fin 1024) (h : ∀ k, IsReal (x3 (ix3 0 r k))) :
    armB x3 x10 (ix2 r o) = ctr (fun k => x3 (ix3 0 r k)) o * Ideal.rsqrt (mean (n := 64) (q := 16) rfl (Ideal.ofBits .f32 0x42800000#32)
        (fun k => ctr (fun k => x3 (ix3 0 r k)) k * ctr (fun k => x3 (ix3 0 r k)) k) (head (n := 64) (q := 16) rfl o)
        + Ideal.ofBits .f32 0x3A27C5AC#32) * x10 (ix2 0 o) := by
  have e : ∀ k, armZ x3 (ix2 r k) = ctr (fun k => x3 (ix3 0 r k)) k := fun k => ctr_apply x3 r k h
  refine (congrFun (pay30_eq x10 (armZ x3)) (ix2 r o)).trans ((normal_apply x10 (armZ x3) r o fun k => by rw [e]; exact ctr_real h k).trans ?_)
  simp only [e]

/-- The block of rows that a point writes. -/
theorem out_eq : out0_15 (F := Ideal) x0 x1 x2 x3 x4 x5 x6 x7 x8 x9 x10 x11 x12 x13 x14
    = k0_pay1 (k0_pay31 (k0_pay14 (armA x0 x1 x9) (k0_pay13 x2) x12) (armB x3 x10) x11 x4 x5 x13 x6) (k0_pay32 x14) x7 (View.ld x8 r0_4) := by
  unfold_out out0_15
  frame_out

/-- An entry of it, of rows of real entries. -/
theorem out_apply (r : Fin 256) (o : Fin 1024) (h : ∀ k, IsReal (x0 (ix3 0 r k) + x1 (ix3 0 r k))) (h3 : ∀ k, IsReal (x3 (ix3 0 r k))) :
    out0_15 (F := Ideal) x0 x1 x2 x3 x4 x5 x6 x7 x8 x9 x10 x11 x12 x13 x14 (ix3 0 r o)
      = out (fun k => x0 (ix3 0 r k) + x1 (ix3 0 r k)) (fun k => x9 (ix2 0 k)) (fun k => x2 (ix3 0 r k)) (fun k => x3 (ix3 0 r k)) (fun k => x10 (ix2 0 k))
          (fun k => x11 (ix2 0 k)) (fun k => x4 (ix3 0 r k)) (fun k => x5 (ix3 0 r k)) (fun k => x6 (ix3 0 r ⟨k.val, by omega⟩))
          (fun k => x6 (ix3 0 r ⟨1024 + k.val, by omega⟩)) (fun k => x7 (ix3 0 r k)) (fun k => x8 (ix4 0 0 2 k))
          (fun k f => x12 (ix2 k f)) (fun k f => x13 (ix2 k f)) (fun k f => x14 (ix2 k f)) o := by
  have hg : View.ld x8 r0_4 (ix4 0 0 0 o) = x8 (ix4 0 0 2 o) := congrArg x8 (funext fun a => Fin.ext (by
    fin_cases a
    · rfl
    · rfl
    · rfl
    · show 0 + 1 * o.val = o.val; omega))
  have eL : (fun k => armA x0 x1 x9 (ix2 r k) * sgm (x2 (ix3 0 r k))) = _ := funext fun k => left_apply x0 x1 x2 x9 r k h
  refine (congrFun (out_eq x0 x1 x2 x3 x4 x5 x6 x7 x8 x9 x10 x11 x12 x13 x14) (ix3 0 r o)).trans ((pay1_apply x7 x14 _ _ r o).trans ?_)
  rw [hg]
  simp only [pay31_apply, pay14_apply, armB_apply x3 x10 r _ h3]
  rw [eL]
  rfl

end Cert.Kernel10Ideal.Merge

end
-- ==== Proof.MergeValue.lean ====
/- The end of the mixer: the array its call leaves holds every row's result, where the entries that the sums are taken of
   are real. -/
module

public import proofs.«01_k».proof.Proof.MergePay
public import proofs.«01_k».proof.Proof.NormValue

@[expose] public section

set_option maxRecDepth 16384
set_option Elab.async false

noncomputable section

namespace Cert.Merge

open Idealize.ShloMosaic
open Cert.Norm (st row)

/-- The arrays of the call, by their roles. -/
structure Args where
  hf : (⟨3, ![4, 4352, 1024]⟩ : Shape).Idx → EReal
  hb : (⟨3, ![4, 4352, 1024]⟩ : Shape).Idx → EReal
  qkvo : (⟨3, ![4, 4352, 3072]⟩ : Shape).Idx → EReal
  y : (⟨3, ![4, 4352, 1024]⟩ : Shape).Idx → EReal
  bonus : (⟨3, ![4, 4352, 1024]⟩ : Shape).Idx → EReal
  g : (⟨3, ![4, 4352, 1024]⟩ : Shape).Idx → EReal
  mg : (⟨3, ![4, 4352, 2048]⟩ : Shape).Idx → EReal
  x : (⟨3, ![4, 4352, 1024]⟩ : Shape).Idx → EReal
  md : (⟨4, ![4, 2, 8, 1024]⟩ : Shape).Idx → EReal
  gn : (⟨1, ![1024]⟩ : Shape).Idx → EReal
  lw : (⟨1, ![1024]⟩ : Shape).Idx → EReal
  lb : (⟨1, ![1024]⟩ : Shape).Idx → EReal
  wm : (⟨2, ![1024, 1024]⟩ : Shape).Idx → EReal
  wr : (⟨2, ![1024, 1024]⟩ : Shape).Idx → EReal
  wo : (⟨2, ![1024, 1024]⟩ : Shape).Idx → EReal

/-- Entry `o` of row `r`'s result; of a set of modulation rows the third is the gate. -/
def entry (A : Args) (s : Fin 2) (b : Fin 4) (r : Fin 4352) (o : Fin 1024) : EReal :=
  out (fun k => A.hf (ix3 b r k) + A.hb (ix3 b r k)) (fun k => A.gn (ix1 k)) (fun k => A.qkvo (ix3 b r ⟨2048 + k.val, by omega⟩)) (fun k => A.y (ix3 b r k))
    (fun k => A.lw (ix1 k)) (fun k => A.lb (ix1 k)) (fun k => A.bonus (ix3 b r k)) (fun k => A.g (ix3 b r k)) (fun k => A.mg (ix3 b r ⟨k.val, by omega⟩))
    (fun k => A.mg (ix3 b r ⟨1024 + k.val, by omega⟩)) (fun k => A.x (ix3 b r k)) (fun k => A.md (ix4 b s 2 k))
    (fun k f => A.wm (ix2 k f)) (fun k f => A.wr (ix2 k f)) (fun k f => A.wo (ix2 k f)) o

/-- The whole array. -/
def whole (A : Args) : (⟨3, ![4, 4352, 1024]⟩ : Shape).Idx → EReal := fun i => entry A (st (i 1)) (i 0) (i 1) (i 2)

/-- Where a tile's entry lies in an array of rows of any width, for tile `j` of the columns. -/
theorem rows_at {w W : ℕ} (b : Fin 4) (i : Fin 17) (j : ℕ) (e : (⟨3, ![1, 256, w]⟩ : Shape).Idx → (⟨3, ![4, 4352, W]⟩ : Shape).Idx) {p : Fin 3 → ℕ}
    (hp : p = ![b.val, i.val, j]) (h : ∀ y a, (e y a).val = p a * (![1, 256, w] : Fin 3 → ℕ) a + (y a).val) (r : Fin 256) (k : Fin w) (k' : Fin W)
    (hk : k'.val = j * w + k.val) : e (ix3 0 r k) = ix3 b (row i r) k' := by
  subst hp
  refine funext fun a => Fin.ext ((h _ a).trans ?_)
  fin_cases a
  · show b.val * 1 + 0 = b.val; omega
  · rfl
  · exact hk.symm

/-- A block that is its whole array. -/
theorem all_at {u v : ℕ} (e : (⟨2, ![u, v]⟩ : Shape).Idx → (⟨2, ![u, v]⟩ : Shape).Idx) {p : Fin 2 → ℕ} (hp : p = ![0, 0])
    (h : ∀ y a, (e y a).val = p a * (![u, v] : Fin 2 → ℕ) a + (y a).val) (y : (⟨2, ![u, v]⟩ : Shape).Idx) : e y = y := by
  subst hp
  refine funext fun a => Fin.ext ((h _ a).trans ?_)
  fin_cases a
  · show 0 * u + (y 0).val = (y 0).val; omega
  · show 0 * v + (y 1).val = (y 1).val; omega

end Cert.Merge

namespace Cert.Kernel10Ideal.Merge

open Cert.Kernel10Ideal Cert.Kernel10Ideal.Gen Cert.Kernel10Ideal.Value Cert.Merge
open Cert.Norm (st row st_row mods_at)
open Idealize.ShloMosaic Idealize.ShloMosaic.TcCoe Idealize.ShloMosaic.Tactic

variable (m : (ℓ : Loc nD τ sig) → Buf (Elt Ideal) ℓ)

/-- The operands. -/
abbrev args (c : Dev nD) : Args where
  hf := m ((c : Thread nD τ).loc main_arg0)
  hb := m ((c : Thread nD τ).loc main_arg1)
  qkvo := m ((c : Thread nD τ).loc main_arg2)
  y := m ((c : Thread nD τ).loc main_arg3)
  bonus := m ((c : Thread nD τ).loc main_arg4)
  g := m ((c : Thread nD τ).loc main_arg5)
  mg := m ((c : Thread nD τ).loc main_arg6)
  x := m ((c : Thread nD τ).loc main_arg7)
  md := m ((c : Thread nD τ).loc main_arg8)
  gn := m ((c : Thread nD τ).loc main_arg9)
  lw := m ((c : Thread nD τ).loc main_arg10)
  lb := m ((c : Thread nD τ).loc main_arg11)
  wm := m ((c : Thread nD τ).loc main_arg12)
  wr := m ((c : Thread nD τ).loc main_arg13)
  wo := m ((c : Thread nD τ).loc main_arg14)

/-- The batch entry and the tile of rows of a point. -/
abbrev bt (t : Fin cfg0.N) : Fin 4 := ⟨t.val / 17, by have : t.val < 68 := t.isLt; omega⟩
abbrev tl (t : Fin cfg0.N) : Fin 17 := ⟨t.val % 17, by omega⟩

/-- The place of a point's blocks of rows. -/
abbrev at_ (t : Fin cfg0.N) : Fin 3 → ℕ := ![t.val / 17, t.val % 17, 0]

theorem idx_rows : ∀ t : Fin cfg0.N, win0_0.index t = at_ t ∧ win0_1.index t = at_ t ∧ win0_3.index t = at_ t ∧ win0_4.index t = at_ t ∧ win0_5.index t = at_ t
    ∧ win0_6.index t = at_ t ∧ win0_7.index t = at_ t ∧ win0_15.index t = at_ t :=
  (by decide +kernel : ∀ t : Fin grid0.N, win0_0.index t = at_ t ∧ win0_1.index t = at_ t ∧ win0_3.index t = at_ t ∧ win0_4.index t = at_ t ∧ win0_5.index t = at_ t
    ∧ win0_6.index t = at_ t ∧ win0_7.index t = at_ t ∧ win0_15.index t = at_ t)

/-- The block of the first branch's gate lies in the third tile of columns; the modulation rows are those of the tile's set. -/
theorem idx_cols : ∀ t : Fin cfg0.N, win0_2.index t = ![t.val / 17, t.val % 17, 2] ∧ win0_8.index t = ![t.val / 17, if t.val % 17 = 16 then 0 else 1, 0, 0] :=
  (by decide +kernel : ∀ t : Fin grid0.N, win0_2.index t = ![t.val / 17, t.val % 17, 2] ∧ win0_8.index t = ![t.val / 17, if t.val % 17 = 16 then 0 else 1, 0, 0])

theorem idx_all : ∀ t : Fin cfg0.N, win0_9.index t = ![0, 0] ∧ win0_10.index t = ![0, 0] ∧ win0_11.index t = ![0, 0] ∧ win0_12.index t = ![0, 0]
    ∧ win0_13.index t = ![0, 0] ∧ win0_14.index t = ![0, 0] :=
  (by decide +kernel : ∀ t : Fin grid0.N, win0_9.index t = ![0, 0] ∧ win0_10.index t = ![0, 0] ∧ win0_11.index t = ![0, 0] ∧ win0_12.index t = ![0, 0]
    ∧ win0_13.index t = ![0, 0] ∧ win0_14.index t = ![0, 0])

/-- The arrays that the caller makes: vectors laid out as one row, and weights in another format. -/
theorem vecs (c : Dev nD) (k : Fin 1024) : (V m c main_v0 (ix2 0 k) : EReal) = (args m c).gn (ix1 k) ∧ (V m c main_v1 (ix2 0 k) : EReal) = (args m c).lw (ix1 k)
    ∧ (V m c main_v2 (ix2 0 k) : EReal) = (args m c).lb (ix1 k) := by
  refine ⟨?_, ?_, ?_⟩ <;> entry_read <;> pointwise

theorem mats (c : Dev nD) (k f : Fin 1024) : (V m c main_v3 (ix2 k f) : EReal) = (args m c).wm (ix2 k f) ∧ (V m c main_v4 (ix2 k f) : EReal) = (args m c).wr (ix2 k f)
    ∧ (V m c main_v5 (ix2 k f) : EReal) = (args m c).wo (ix2 k f) := by
  refine ⟨?_, ?_, ?_⟩ <;> entry_read <;> pointwise

/-- What is written out of blocks that hold row `p`'s entries. -/
theorem out_entry (A : Args) (s : Fin 2) (b : Fin 4) (p : Fin 4352) (r : Fin 256) (o : Fin 1024)
    {x0 x1 x2 x3 x4 x5 : Vec Ideal S1x256x1024 .f32} {x6 : Vec Ideal S1x256x2048 .f32} {x7 : Vec Ideal S1x256x1024 .f32} {x8 : Vec Ideal S1x1x8x1024 .f32}
    {x9 x10 x11 : Vec Ideal S1x1024 .f32} {x12 x13 x14 : Vec Ideal S1024x1024 .bf16} (h : ∀ i, IsReal (A.hf i + A.hb i)) (h3 : ∀ i, IsReal (A.y i))
    (e0 : ∀ k, x0 (ix3 0 r k) = A.hf (ix3 b p k)) (e1 : ∀ k, x1 (ix3 0 r k) = A.hb (ix3 b p k))
    (e2 : ∀ k, x2 (ix3 0 r k) = A.qkvo (ix3 b p ⟨2048 + k.val, by omega⟩)) (e3 : ∀ k, x3 (ix3 0 r k) = A.y (ix3 b p k))
    (e4 : ∀ k, x4 (ix3 0 r k) = A.bonus (ix3 b p k)) (e5 : ∀ k, x5 (ix3 0 r k) = A.g (ix3 b p k)) (e6 : ∀ k, x6 (ix3 0 r k) = A.mg (ix3 b p k))
    (e7 : ∀ k, x7 (ix3 0 r k) = A.x (ix3 b p k)) (e8 : ∀ k, x8 (ix4 0 0 2 k) = A.md (ix4 b s 2 k)) (e9 : ∀ k, x9 (ix2 0 k) = A.gn (ix1 k))
    (e10 : ∀ k, x10 (ix2 0 k) = A.lw (ix1 k)) (e11 : ∀ k, x11 (ix2 0 k) = A.lb (ix1 k)) (e12 : ∀ k f, x12 (ix2 k f) = A.wm (ix2 k f))
    (e13 : ∀ k f, x13 (ix2 k f) = A.wr (ix2 k f)) (e14 : ∀ k f, x14 (ix2 k f) = A.wo (ix2 k f)) :
    out0_15 (F := Ideal) x0 x1 x2 x3 x4 x5 x6 x7 x8 x9 x10 x11 x12 x13 x14 (ix3 0 r o) = entry A s b p o :=
  (out_apply x0 x1 x2 x3 x4 x5 x6 x7 x8 x9 x10 x11 x12 x13 x14 r o (fun k => by rw [e0, e1]; exact h _) (fun k => by rw [e3]; exact h3 _)).trans
    (out_congr (fun k => by rw [e0, e1]) e9 e2 e3 e10 e11 e4 e5 (fun k => e6 _) (fun k => e6 _) e7 e8 e12 e13 e14)

/-- What a point writes is the array at the block's place. -/
theorem out_eq_whole (c : Dev nD) (t : Fin cfg0.N) (r : Fin 256) (o : Fin 1024) (h : ∀ i, IsReal ((args m c).hf i + (args m c).hb i))
    (h3 : ∀ i, IsReal ((args m c).y i)) :
    out0_15 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (ix3 0 r o)
      = whole (args m c) (ix3 (bt t) (row (tl t) r) o) := by
  obtain ⟨i0, i1, i3, i4, i5, i6, i7, -⟩ := idx_rows t
  obtain ⟨i2, i8⟩ := idx_cols t
  obtain ⟨i9, i10, i11, i12, i13, i14⟩ := idx_all t
  refine out_entry (args m c) (st (row (tl t) r)) (bt t) (row (tl t) r) r o h h3 (fun k => ?_) (fun k => ?_) (fun k => ?_) (fun k => ?_) (fun k => ?_) (fun k => ?_)
    (fun k => ?_) (fun k => ?_) (fun k => ?_) (fun k => ?_) (fun k => ?_) (fun k => ?_) (fun k f => ?_) (fun k f => ?_) (fun k f => ?_)
  · exact (congrFun (V_main_arg0 m c) _).trans
      (congrArg (args m c).hf (rows_at (bt t) (tl t) 0 _ i0 (fun y a => Pipeline.Window.rect_emb_val (cfg0.win 0) t y a rfl) r k k (by omega)))
  · exact (congrFun (V_main_arg1 m c) _).trans
      (congrArg (args m c).hb (rows_at (bt t) (tl t) 0 _ i1 (fun y a => Pipeline.Window.rect_emb_val (cfg0.win 1) t y a rfl) r k k (by omega)))
  · exact (congrFun (V_main_arg2 m c) _).trans (congrArg (args m c).qkvo
      (rows_at (bt t) (tl t) 2 _ i2 (fun y a => Pipeline.Window.rect_emb_val (cfg0.win 2) t y a rfl) r k ⟨2048 + k.val, by omega⟩ rfl))
  · exact (congrFun (V_main_arg3 m c) _).trans
      (congrArg (args m c).y (rows_at (bt t) (tl t) 0 _ i3 (fun y a => Pipeline.Window.rect_emb_val (cfg0.win 3) t y a rfl) r k k (by omega)))
  · exact (congrFun (V_main_arg4 m c) _).trans
      (congrArg (args m c).bonus (rows_at (bt t) (tl t) 0 _ i4 (fun y a => Pipeline.Window.rect_emb_val (cfg0.win 4) t y a rfl) r k k (by omega)))
  · exact (congrFun (V_main_arg5 m c) _).trans
      (congrArg (args m c).g (rows_at (bt t) (tl t) 0 _ i5 (fun y a => Pipeline.Window.rect_emb_val (cfg0.win 5) t y a rfl) r k k (by omega)))
  · exact (congrFun (V_main_arg6 m c) _).trans
      (congrArg (args m c).mg (rows_at (bt t) (tl t) 0 _ i6 (fun y a => Pipeline.Window.rect_emb_val (cfg0.win 6) t y a rfl) r k k (by omega)))
  · exact (congrFun (V_main_arg7 m c) _).trans
      (congrArg (args m c).x (rows_at (bt t) (tl t) 0 _ i7 (fun y a => Pipeline.Window.rect_emb_val (cfg0.win 7) t y a rfl) r k k (by omega)))
  · exact (congrFun (V_main_arg8 m c) _).trans (congrArg (args m c).md (mods_at (bt t) (st (row (tl t) r)) _ (i8.trans (by rw [st_row]))
      (fun y a => Pipeline.Window.rect_emb_val (cfg0.win 8) t y a rfl) 2 k))
  · exact (congrArg (V m c main_v0) (all_at _ i9 (fun y a => Pipeline.Window.rect_emb_val (cfg0.win 9) t y a rfl) (ix2 0 k))).trans (vecs m c k).1
  · exact (congrArg (V m c main_v1) (all_at _ i10 (fun y a => Pipeline.Window.rect_emb_val (cfg0.win 10) t y a rfl) (ix2 0 k))).trans (vecs m c k).2.1
  · exact (congrArg (V m c main_v2) (all_at _ i11 (fun y a => Pipeline.Window.rect_emb_val (cfg0.win 11) t y a rfl) (ix2 0 k))).trans (vecs m c k).2.2
  · exact (congrArg (V m c main_v3) (all_at _ i12 (fun y a => Pipeline.Window.rect_emb_val (cfg0.win 12) t y a rfl) (ix2 k f))).trans (mats m c k f).1
  · exact (congrArg (V m c main_v4) (all_at _ i13 (fun y a => Pipeline.Window.rect_emb_val (cfg0.win 13) t y a rfl) (ix2 k f))).trans (mats m c k f).2.1
  · exact (congrArg (V m c main_v5) (all_at _ i14 (fun y a => Pipeline.Window.rect_emb_val (cfg0.win 14) t y a rfl) (ix2 k f))).trans (mats m c k f).2.2

/-- The array after the run. -/
theorem arr_eq (c : Dev nD) (h : ∀ i, IsReal ((args m c).hf i + (args m c).hb i)) (h3 : ∀ i, IsReal ((args m c).y i)) :
    (dats m 0 c).arrAt 15 cfg0.N = whole (args m c) := by
  refine (dats m 0 c).arrAt_eq_of_covers 15 _ (by decide +kernel) fun t hf y => ?_
  obtain ⟨r, o, rfl⟩ := Cert.Kernel8Ideal.Norm.eq_ix3_0 y
  refine (congrFun (flushed15 m c t) (ix3 0 r o)).trans ((out_eq_whole m c t r o h h3).trans ?_)
  exact congrArg (whole (args m c)) (rows_at (bt t) (tl t) 0 _ (idx_rows t).2.2.2.2.2.2.2
    (fun y a => Pipeline.Window.rect_emb_val (cfg0.win 15) t y a rfl) r o o (by omega)).symm

end Cert.Kernel10Ideal.Merge

end
-- ==== Proof.MergeRef.lean ====
/- The end of the mixer: its reference at an index. -/
module

public import proofs.«01_k».proof.Proof.MergeValue
public import proofs.«01_k».proof.Proof.Gen.Reference10Ideal.Read

@[expose] public section

set_option maxRecDepth 16384
set_option Elab.async false

noncomputable section

namespace Cert.Merge

open Cert.Reference10Ideal Cert.Reference10Ideal.Read
open Cert.Moe (sgm)
open Cert.Norm (st)
open Idealize.ShloMosaic Idealize.ShloMosaic.TcCoe Idealize.ShloMosaic.Tactic Idealize.SL.Sem

variable (A : Args)

/-- The rows split into heads, and put together again. -/
theorem split128 (b : Fin 4) (r : Fin 4352) (q : Fin 8) (a : Fin 128) : idx_main_v1 (ix4 b r q a) = ix3 b r (col (n := 128) (q := 8) rfl q a) := by
  refine funext fun d => Fin.ext ?_
  fin_cases d
  · show (((b.val * 4352 + r.val) * 8 + q.val) * 128 + a.val) / 4456448 = b.val; omega
  · show (((b.val * 4352 + r.val) * 8 + q.val) * 128 + a.val) / 1024 % 4352 = r.val; omega
  · show (((b.val * 4352 + r.val) * 8 + q.val) * 128 + a.val) % 1024 = q.val * 128 + a.val; omega

theorem join128 (b : Fin 4) (r : Fin 4352) (o : Fin 1024) : idx_main_v12 (ix3 b r o) = ix4 b r (head (n := 128) (q := 8) rfl o) ⟨o.val % 128, by omega⟩ := by
  refine funext fun d => Fin.ext ?_
  fin_cases d
  · show ((b.val * 4352 + r.val) * 1024 + o.val) / 4456448 = b.val; omega
  · show ((b.val * 4352 + r.val) * 1024 + o.val) / 1024 % 4352 = r.val; omega
  · show ((b.val * 4352 + r.val) * 1024 + o.val) / 128 % 8 = o.val / 128; omega
  · show ((b.val * 4352 + r.val) * 1024 + o.val) % 128 = o.val % 128; omega

theorem split64 (b : Fin 4) (r : Fin 4352) (q : Fin 16) (a : Fin 64) : idx_main_v25 (ix4 b r q a) = ix3 b r (col (n := 64) (q := 16) rfl q a) := by
  refine funext fun d => Fin.ext ?_
  fin_cases d
  · show (((b.val * 4352 + r.val) * 16 + q.val) * 64 + a.val) / 4456448 = b.val; omega
  · show (((b.val * 4352 + r.val) * 16 + q.val) * 64 + a.val) / 1024 % 4352 = r.val; omega
  · show (((b.val * 4352 + r.val) * 16 + q.val) * 64 + a.val) % 1024 = q.val * 64 + a.val; omega

theorem join64 (b : Fin 4) (r : Fin 4352) (o : Fin 1024) : idx_main_v44 (ix3 b r o) = ix4 b r (head (n := 64) (q := 16) rfl o) ⟨o.val % 64, by omega⟩ := by
  refine funext fun d => Fin.ext ?_
  fin_cases d
  · show ((b.val * 4352 + r.val) * 1024 + o.val) / 4456448 = b.val; omega
  · show ((b.val * 4352 + r.val) * 1024 + o.val) / 1024 % 4352 = r.val; omega
  · show ((b.val * 4352 + r.val) * 1024 + o.val) / 64 % 16 = o.val / 64; omega
  · show ((b.val * 4352 + r.val) * 1024 + o.val) % 64 = o.val % 64; omega

/-- A column is its head's column at its place within the head. -/
theorem col_head128 (o : Fin 1024) : col (n := 128) (q := 8) rfl (head (n := 128) (q := 8) rfl o) ⟨o.val % 128, by omega⟩ = o :=
  Fin.ext (show o.val / 128 * 128 + o.val % 128 = o.val by omega)

theorem col_head64 (o : Fin 1024) : col (n := 64) (q := 16) rfl (head (n := 64) (q := 16) rfl o) ⟨o.val % 64, by omega⟩ = o :=
  Fin.ext (show o.val / 64 * 64 + o.val % 64 = o.val by omega)

theorem v1_apply (b : Fin 4) (r : Fin 4352) (q : Fin 8) (a : Fin 128) :
    val_main_v1 (F := Ideal) A.hf A.hb (ix4 b r q a) = A.hf (ix3 b r (col (n := 128) (q := 8) rfl q a)) + A.hb (ix3 b r (col (n := 128) (q := 8) rfl q a)) := by
  rw [val_main_v1_apply, split128]
  rfl

theorem v25_apply (b : Fin 4) (r : Fin 4352) (q : Fin 16) (a : Fin 64) :
    val_main_v25 (F := Ideal) A.y (ix4 b r q a) = A.y (ix3 b r (col (n := 64) (q := 16) rfl q a)) := by
  rw [val_main_v25_apply, split64]

/-- The first branch's normal. -/
theorem v12_apply (b : Fin 4) (r : Fin 4352) (o : Fin 1024) :
    val_main_v12 (F := Ideal) A.hf A.hb (ix3 b r o)
      = (A.hf (ix3 b r o) + A.hb (ix3 b r o)) * Ideal.rsqrt (mean (n := 128) (q := 8) rfl (Ideal.ofBits .f32 0x43000000#32)
          (fun k => (A.hf (ix3 b r k) + A.hb (ix3 b r k)) * (A.hf (ix3 b r k) + A.hb (ix3 b r k))) (head (n := 128) (q := 8) rfl o) + Ideal.ofBits .f32 0x358637BD#32) := by
  rw [val_main_v12_apply, join128]
  unfold val_main_v11 val_main_v10 val_main_v9 val_main_v8 val_main_v7 val_main_v6 val_main_v5 val_main_v4 val_main_v3 val_main_v2 val_main_cst val_main_cst_0 val_main_cst_1
  have e := v1_apply A b r
  generalize val_main_v1 (F := Ideal) A.hf A.hb = y at e ⊢
  pointwise
  simp only [e, col_head128]
  rfl

/-- The second branch less its heads' means, both times that it is taken. -/
theorem v31_apply (b : Fin 4) (r : Fin 4352) (q : Fin 16) (a : Fin 64) :
    val_main_v31 (F := Ideal) A.y (ix4 b r q a) = ctr (fun k => A.y (ix3 b r k)) (col (n := 64) (q := 16) rfl q a) := by
  unfold val_main_v31 val_main_v30 val_main_v29 val_main_v28 val_main_v27 val_main_v26 val_main_cst_4 val_main_cst_5
  have e := v25_apply A b r
  generalize val_main_v25 (F := Ideal) A.y = y at e ⊢
  pointwise
  simp only [e]
  unfold ctr
  rw [head_col]
  rfl

/-- The second branch's normal. -/
theorem v44_apply (b : Fin 4) (r : Fin 4352) (o : Fin 1024) :
    val_main_v44 (F := Ideal) A.y (ix3 b r o)
      = ctr (fun k => A.y (ix3 b r k)) o * Ideal.rsqrt (mean (n := 64) (q := 16) rfl (Ideal.ofBits .f32 0x42800000#32)
          (fun k => ctr (fun k => A.y (ix3 b r k)) k * ctr (fun k => A.y (ix3 b r k)) k) (head (n := 64) (q := 16) rfl o) + Ideal.ofBits .f32 0x3A27C5AC#32) := by
  rw [val_main_v44_apply, join64]
  have e38 : val_main_v38 (F := Ideal) A.y = val_main_v31 (F := Ideal) A.y := rfl
  unfold val_main_v43 val_main_v42 val_main_v41 val_main_v40 val_main_v39 val_main_v36 val_main_v35 val_main_v34 val_main_v33 val_main_v32 val_main_cst_6 val_main_cst_7 val_main_cst_8
  rw [e38]
  have e := v31_apply A b r
  generalize val_main_v31 (F := Ideal) A.y = y at e ⊢
  pointwise
  simp only [e, col_head64]
  rfl

/-- The first branch's projection. -/
theorem v24_apply (b : Fin 4) (r : Fin 4352) (o : Fin 1024) :
    val_main_v24 (F := Ideal) A.hf A.hb A.qkvo A.gn A.wm (ix3 b r o)
      = mm (left (fun k => A.hf (ix3 b r k) + A.hb (ix3 b r k)) (fun k => A.gn (ix1 k)) (fun k => A.qkvo (ix3 b r ⟨2048 + k.val, by omega⟩))) (fun k f => A.wm (ix2 k f)) o := by
  unfold val_main_v24 val_main_v23 val_main_v22 val_main_v21 val_main_v20 val_main_v19 val_main_v18 val_main_v17 val_main_v16 val_main_v15 val_main_v14 val_main_v13 val_main_cst_2 val_main_cst_3
  have e := v12_apply A b r
  generalize val_main_v12 (F := Ideal) A.hf A.hb = y at e ⊢
  pointwise
  simp only [e, Cert.Ffn.sgm_neg]
  rfl

/-- The second branch's projection. -/
theorem v53_apply (b : Fin 4) (r : Fin 4352) (o : Fin 1024) :
    val_main_v53 (F := Ideal) A.y A.bonus A.g A.lw A.lb A.wr (ix3 b r o)
      = mm (right (fun k => A.y (ix3 b r k)) (fun k => A.lw (ix1 k)) (fun k => A.lb (ix1 k)) (fun k => A.bonus (ix3 b r k)) (fun k => A.g (ix3 b r k))) (fun k f => A.wr (ix2 k f)) o := by
  unfold val_main_v53 val_main_v52 val_main_v51 val_main_v50 val_main_v49 val_main_v48 val_main_v47 val_main_v46 val_main_v45
  have e := v44_apply A b r
  generalize val_main_v44 (F := Ideal) A.y = y at e ⊢
  pointwise
  simp only [e]
  rfl

/-- The mixer's output on a row. -/
theorem v65_apply (b : Fin 4) (r : Fin 4352) (o : Fin 1024) :
    val_main_v65 (F := Ideal) A.hf A.hb A.qkvo A.y A.bonus A.g A.mg A.gn A.lw A.lb A.wm A.wr A.wo (ix3 b r o)
      = mm (mix (fun k => A.mg (ix3 b r ⟨k.val, by omega⟩)) (fun k => A.mg (ix3 b r ⟨1024 + k.val, by omega⟩))
          (mm (left (fun k => A.hf (ix3 b r k) + A.hb (ix3 b r k)) (fun k => A.gn (ix1 k)) (fun k => A.qkvo (ix3 b r ⟨2048 + k.val, by omega⟩))) (fun k f => A.wm (ix2 k f)))
          (mm (right (fun k => A.y (ix3 b r k)) (fun k => A.lw (ix1 k)) (fun k => A.lb (ix1 k)) (fun k => A.bonus (ix3 b r k)) (fun k => A.g (ix3 b r k))) (fun k f => A.wr (ix2 k f))))
        (fun k f => A.wo (ix2 k f)) o := by
  unfold val_main_v65 val_main_v64 val_main_v63 val_main_v62 val_main_v61 val_main_v60 val_main_v59 val_main_v58 val_main_v57 val_main_v56 val_main_v55 val_main_v54 val_main_cst_9 val_main_cst_10
  have e := v24_apply A b r
  have e' := v53_apply A b r
  generalize val_main_v24 (F := Ideal) A.hf A.hb A.qkvo A.gn A.wm = u at e ⊢
  generalize val_main_v53 (F := Ideal) A.y A.bonus A.g A.lw A.lb A.wr = v at e' ⊢
  pointwise
  simp only [e, e', Cert.Ffn.sgm_neg]
  rfl

/-- The rows before 4096. -/
theorem v73_apply (b : Fin 4) (r : Fin 4096) (o : Fin 1024) :
    val_main_v73 (F := Ideal) A.hf A.hb A.qkvo A.y A.bonus A.g A.mg A.x A.md A.gn A.lw A.lb A.wm A.wr A.wo (ix3 b r o) = entry A 1 b ⟨r.val, by omega⟩ o := by
  unfold val_main_v73 val_main_v72 val_main_v71 val_main_v70 val_main_v69 val_main_v68 val_main_v67 val_main_v66
  have e := v65_apply A b
  generalize val_main_v65 (F := Ideal) A.hf A.hb A.qkvo A.y A.bonus A.g A.mg A.gn A.lw A.lb A.wm A.wr A.wo = u at e ⊢
  pointwise
  rw [e]
  rfl

/-- The rows from 4096 on. -/
theorem v81_apply (b : Fin 4) (r : Fin 256) (o : Fin 1024) :
    val_main_v81 (F := Ideal) A.hf A.hb A.qkvo A.y A.bonus A.g A.mg A.x A.md A.gn A.lw A.lb A.wm A.wr A.wo (ix3 b r o) = entry A 0 b ⟨4096 + r.val, by omega⟩ o := by
  unfold val_main_v81 val_main_v80 val_main_v79 val_main_v78 val_main_v77 val_main_v76 val_main_v75 val_main_v74
  have e := v65_apply A b
  generalize val_main_v65 (F := Ideal) A.hf A.hb A.qkvo A.y A.bonus A.g A.mg A.gn A.lw A.lb A.wm A.wr A.wo = u at e ⊢
  pointwise
  rw [e]
  rfl

/-- The reference's array. -/
theorem ref_eq : val_main_v82 (F := Ideal) A.hf A.hb A.qkvo A.y A.bonus A.g A.mg A.x A.md A.gn A.lw A.lb A.wm A.wr A.wo = whole A := by
  funext i
  obtain ⟨b, r, o, rfl⟩ : ∃ (b : Fin 4) (r : Fin 4352) (o : Fin 1024), i = ix3 b r o := ⟨i 0, i 1, i 2, eq_ix3 i⟩
  show _ = entry A (st r) b r o
  unfold val_main_v82 st
  have e := v73_apply A b
  have e' := v81_apply A b
  generalize val_main_v73 (F := Ideal) A.hf A.hb A.qkvo A.y A.bonus A.g A.mg A.x A.md A.gn A.lw A.lb A.wm A.wr A.wo = u at e ⊢
  generalize val_main_v81 (F := Ideal) A.hf A.hb A.qkvo A.y A.bonus A.g A.mg A.x A.md A.gn A.lw A.lb A.wm A.wr A.wo = v at e' ⊢
  pointwise
  by_cases h : r.val < 4096
  · rw [dif_pos h, if_pos h]
    exact e ⟨r.val, h⟩ o
  · rw [dif_neg h, if_neg h]
    refine (e' ⟨r.val - 4096, by omega⟩ o).trans (congrArg (fun r => entry A 0 b r o) (Fin.ext ?_))
    show 4096 + (r.val - 4096) = r.val
    omega

end Cert.Merge

end
-- ==== Proof.MergeClaim.lean ====
/- The end of the mixer: what its precondition says, and its claims. -/
module

public import proofs.«01_k».proof.Defs
public import proofs.«01_k».proof.Proof.MergeRef
public import proofs.«01_k».proof.Proof.Gen.Kernel10.Frame
public import proofs.«01_k».proof.Proof.Gen.Reference10Ideal.Run
public import proofs.«01_k».proof.Proof.Gen.Pre_finite
public import Idealize.ShloMosaic.Lib.ReduceAll

@[expose] public section

set_option maxRecDepth 16384
set_option Elab.async false

noncomputable section

namespace Cert.Merge

open Cert.Reference10Ideal.Read
open Idealize.ShloMosaic Idealize.ShloMosaic.TcCoe Idealize.SL.Sem

instance : Subsingleton Cert.Pre_finite.S_.Idx := ⟨fun a b => funext fun d => d.elim0⟩

/-- What lies below infinity in absolute value is real. -/
theorem real_of_lt {x : EReal} (e : BitVec.ofBool (decide (max x (-x) < Ideal.ofBits .f32 0x7F800000#32)) = 1#1) : IsReal x := by
  have top : Ideal.ofBits .f32 0x7F800000#32 = ⊤ := by simp [Ideal.ofBits, Ideal.ieee]
  rw [top] at e
  refine fin_of_abs (Classical.byContradiction fun hn => ?_)
  rw [decide_eq_false hn] at e
  exact absurd e (by decide)

/-- Every entry of an array lies below infinity in absolute value, so every one is real. -/
theorem real_of_all (x : FVec Ideal Cert.Pre_finite.S4x4352x1024 .f32) (i : Cert.Pre_finite.S4x4352x1024.Idx)
    (h : cmpf .olt (Host.absf x) (broadcastInDim Cert.Pre_finite.S4x4352x1024 ![] Cert.Pre_finite.Facts.bcast_S_S4x4352x1024 (constant Cert.Pre_finite.S_ .f32 0x7F800000#32)) i = 1#1) :
    IsReal (x i) := real_of_lt h

/-- The precondition, at one entry. -/
theorem real_of_fn (A : Args) (h : Cert.Pre_finite.fn (F := Ideal) A.hf A.hb A.qkvo A.y A.bonus A.g A.mg A.x A.md A.gn A.lw A.lb A.wm A.wr A.wo = fun _ => 1#1)
    (i : Cert.Pre_finite.S4x4352x1024.Idx) : IsReal (A.hf i + A.hb i) ∧ IsReal (A.y i) := by
  have both : ∀ p q : BitVec 1, IntOp.andi p q = 1#1 → p = 1#1 ∧ q = 1#1 := by decide
  have e0 := congrFun h (fun d => d.elim0)
  dsimp only [Cert.Pre_finite.fn] at e0
  obtain ⟨e1, e2⟩ := both _ _ e0
  exact ⟨real_of_all (addf A.hf A.hb) i (Host.reduce_andi_all _ _ _ _ _ e1 i), real_of_all A.y i (Host.reduce_andi_all _ _ _ _ _ e2 i)⟩

theorem frame_k : Cert.quiescent_Kernel10 := fun m g _ => Cert.Kernel10.Gen.frame m g

theorem frame_ki : Cert.quiescent_Kernel10Ideal := fun m g _ => Cert.Kernel10Ideal.Gen.frame m g

theorem frame_ki_finite : Cert.quiescent_Kernel10Ideal_pre_finite := fun m g _ => Cert.Kernel10Ideal.Gen.frame m g

theorem frame_ri : Cert.quiescent_Reference10Ideal := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

theorem frame_ri_finite : Cert.quiescent_Reference10Ideal_pre_finite := fun m g _ => frame_ri m g trivial

open Cert.Kernel10Ideal.Merge in
theorem algebraic : Cert.algebraic_Kernel10Ideal_Reference10Ideal_pre_finite := by
  intro m g m' g' hpre hargs
  have hr : ∀ c i, IsReal ((args m c).hf i + (args m c).hb i) ∧ IsReal ((args m c).y i) := fun c i => real_of_fn (args m c) (hpre c) i
  refine ⟨fun c => whole (args m c), ?_, ?_⟩
  · exact (θ_run _ _ _).mono (fun r h c => ⟨(h c).1.trans (arr_eq m c (fun i => (hr c i).1) fun i => (hr c i).2), (h c).2⟩)
      (Cert.Kernel10Ideal.Value.run_blocks (F := Ideal) m g)
  · refine (θ_run _ _ _).mono (fun r h c => ⟨(h c).1.trans ((val_main_v82_eq (F := Ideal) _ _).trans ?_), (h c).2⟩) (Cert.Reference10Ideal.Value.run (F := Ideal) m' g')
    obtain ⟨h0, h1, h2, h3, h4, h5, h6, h7, h8, h9, h10, h11, h12, h13, h14⟩ := hargs c
    rw [h0, h1, h2, h3, h4, h5, h6, h7, h8, h9, h10, h11, h12, h13, h14]
    exact ref_eq (args m c)

end Cert.Merge

end
-- ==== Proof.RouteSpec.lean ====
/- The choice of a row's two experts, as mathematics: the two foremost of eight numbers under a stable sort from the greatest
   down are the first place of the greatest number and the first place of the greatest among the rest (`top_first`,
   `top_second`). A scan for the greatest number of 128, followed by one for the first place that holds it, finds them
   (`fold_max`, `fold_place`). -/
module

public import Idealize.ShloMosaic.Lib.SortFacts
public import Idealize.ShloMosaic.Lib.SortNet.Extract
public import Idealize.ShloMosaic.PureOps.Ideal.Laws
public import Idealize.ShloMosaic.PureOps.Reduce

@[expose] public section

noncomputable section

namespace Cert.Route

open Idealize.ShloMosaic

/-! ### The two foremost of eight -/

/-- A number goes before a smaller one. -/
abbrev gt (l : Fin 8 → EReal) (a b : Fin 8) : Bool := decide (l b < l a)

/-- Of equal numbers the one at the earlier place goes first. -/
def ahead (l : Fin 8 → EReal) (a b : Fin 8) : Prop := l b < l a ∨ l a = l b ∧ a < b

theorem ahead_of_le {l : Fin 8 → EReal} {a b : Fin 8} (h : l b ≤ l a) (hab : a < b) : ahead l a b :=
  h.lt_or_eq.imp id fun e => ⟨e.symm, hab⟩

theorem le_of_ahead {l : Fin 8 → EReal} {a b : Fin 8} (h : ahead l a b) : l b ≤ l a := h.elim le_of_lt fun e => e.1.symm.le

theorem lt_of_ahead {l : Fin 8 → EReal} {a b : Fin 8} (h : ahead l a b) (hab : b < a) : l b < l a :=
  h.elim id fun e => absurd e.2 (not_lt_of_gt hab)

theorem ahead_insert (l : Fin 8 → EReal) (a : Fin 8) : ∀ L : List (Fin 8), (∀ b ∈ L, a < b) → L.Pairwise (ahead l) → (insertBefore (gt l) a L).Pairwise (ahead l)
  | [], _, _ => List.pairwise_singleton _ _
  | b :: L, ha, h => by
    obtain ⟨hb, hL⟩ := List.pairwise_cons.mp h
    unfold insertBefore
    split_ifs with c
    · refine List.pairwise_cons.mpr ⟨fun x hx => ?_, ahead_insert l a L (fun x hx => ha x (List.mem_cons_of_mem _ hx)) hL⟩
      rcases List.mem_cons.mp ((perm_insertBefore (gt l) a L).mem_iff.mp hx) with rfl | hx
      · exact .inl (of_decide_eq_true c)
      · exact hb x hx
    · have le : l b ≤ l a := not_lt.mp fun h => c (decide_eq_true h)
      refine List.pairwise_cons.mpr ⟨fun x hx => ?_, h⟩
      refine ahead_of_le ?_ (ha x hx)
      rcases List.mem_cons.mp hx with rfl | hx
      · exact le
      · exact (le_of_ahead (hb x hx)).trans le

theorem ahead_sort (l : Fin 8 → EReal) : ∀ L : List (Fin 8), L.Pairwise (· < ·) → (stableSort (gt l) L).Pairwise (ahead l)
  | [], _ => List.Pairwise.nil
  | a :: L, h => by
    obtain ⟨ha, hL⟩ := List.pairwise_cons.mp h
    unfold stableSort
    exact ahead_insert l a _ (fun b hb => ha b ((perm_stableSort (gt l) L).mem_iff.mp hb)) (ahead_sort l L hL)

theorem ahead_sorted (l : Fin 8 → EReal) {i j : Fin 8} (h : i < j) : ahead l (sortedFrom (gt l) i) (sortedFrom (gt l) j) :=
  List.pairwise_iff_get.mp (ahead_sort l (List.finRange 8) (List.pairwise_lt_finRange 8)) _ _ h

/-- The two foremost places. -/
def first (l : Fin 8 → EReal) : Fin 8 := sortedFrom (gt l) 0
def second (l : Fin 8 → EReal) : Fin 8 := sortedFrom (gt l) 1

theorem second_ne (l : Fin 8 → EReal) : second l ≠ first l := fun h => absurd (sortedFrom_injective _ h) (by decide)

theorem ahead_first (l : Fin 8 → EReal) (k : Fin 8) (hk : k ≠ first l) : ahead l (first l) k := by
  obtain ⟨j, rfl⟩ := sortedFrom_surjective (gt l) k
  exact ahead_sorted l (Fin.pos_iff_ne_zero.mpr fun h => hk (by rw [h]; rfl))

theorem ahead_second (l : Fin 8 → EReal) (k : Fin 8) (hk : k ≠ first l) (hk' : k ≠ second l) : ahead l (second l) k := by
  obtain ⟨j, rfl⟩ := sortedFrom_surjective (gt l) k
  refine ahead_sorted l ?_
  have h0 : j ≠ 0 := fun h => hk (by rw [h]; rfl)
  have h1 : j ≠ 1 := fun h => hk' (by rw [h]; rfl)
  omega

/-! ### The greatest number of a row and its first place -/

/-- `p` is the first place of the greatest of the numbers `y`. -/
def Top {n : ℕ} (y : Fin n → EReal) (p : Fin n) : Prop := (∀ k, y k ≤ y p) ∧ ∀ k, k < p → y k < y p

theorem fold_max {n : ℕ} {y : Fin n → EReal} {p : Fin n} (h : Top y p) : (Finset.univ : Finset (Fin n)).fold max ⊥ y = y p :=
  le_antisymm (Finset.fold_max_le _ |>.mpr ⟨bot_le, fun k _ => h.1 k⟩) (Finset.le_fold_max _ |>.mpr (.inr ⟨p, Finset.mem_univ p, le_rfl⟩))

/-- The least of a family of words. -/
theorem fold_min {n : ℕ} (f : Fin n → BitVec 32) (p : Fin n) (z : BitVec 32) (hz : (f p).toInt ≤ z.toInt) (h : ∀ k, (f p).toInt ≤ (f k).toInt) :
    (Finset.univ : Finset (Fin n)).fold IntOp.minsi z f = f p := by
  have key : ∀ c : BitVec 32, c.toInt ≤ ((Finset.univ : Finset (Fin n)).fold IntOp.minsi z f).toInt ↔ c.toInt ≤ z.toInt ∧ ∀ k ∈ (Finset.univ : Finset (Fin n)), c.toInt ≤ (f k).toInt :=
    fun c => Finset.fold_op_rel_iff_and (r := fun a b : BitVec 32 => a.toInt ≤ b.toInt) (by intro x y z; rw [SortNet.toInt_minsi]; exact le_min_iff)
  exact BitVec.eq_of_toInt_eq (le_antisymm (((key _).mp le_rfl).2 p (Finset.mem_univ p)) ((key _).mpr ⟨hz, fun k _ => h k⟩))

/-- The least place that holds the greatest number; the other places count as 128. -/
theorem fold_place {y : Fin 128 → EReal} {p : Fin 128} (h : Top y p) :
    (Finset.univ : Finset (Fin 128)).fold IntOp.minsi 2147483647#32 (fun k => if y k = y p then BitVec.ofNat 32 k.val else 128#32) = BitVec.ofNat 32 p.val := by
  have small : ∀ k : Fin 128, (BitVec.ofNat 32 k.val).toInt = k.val := by decide +kernel
  refine (fold_min _ p _ ?_ fun k => ?_).trans (if_pos rfl)
  · rw [if_pos rfl, small]
    have : (2147483647#32).toInt = 2147483647 := by decide
    omega
  · rw [if_pos rfl]
    split_ifs with e
    · rw [small, small]
      exact Int.ofNat_le.mpr (not_lt.mp fun hk => absurd e (h.2 k hk).ne)
    · rw [small]
      have : (128#32).toInt = 128 := by decide
      omega

/-! ### A row of 128 places, the first eight of which hold the numbers -/

abbrev lane (k : Fin 8) : Fin 128 := ⟨k.val, by omega⟩

/-- The row, and the row without its greatest number. -/
def row (l : Fin 8 → EReal) (k : Fin 128) : EReal := if h : k.val < 8 then l ⟨k.val, h⟩ else ⊥
def row2 (l : Fin 8 → EReal) (k : Fin 128) : EReal := if k = lane (first l) then ⊥ else row l k

theorem row_lane (l : Fin 8 → EReal) (k : Fin 8) : row l (lane k) = l k := dif_pos k.isLt

theorem row2_lane (l : Fin 8 → EReal) (k : Fin 8) (h : k ≠ first l) : row2 l (lane k) = l k := by
  rw [row2, if_neg fun e : lane k = lane (first l) => h (Fin.ext (congrArg (fun x : Fin 128 => x.val) e)), row_lane]

theorem top_first (l : Fin 8 → EReal) : Top (row l) (lane (first l)) := by
  refine ⟨fun k => ?_, fun k hk => ?_⟩ <;> rw [row_lane]
  · by_cases h : k.val < 8
    · rw [row, dif_pos h]
      by_cases e : (⟨k.val, h⟩ : Fin 8) = first l
      · rw [e]
      · exact le_of_ahead (ahead_first l _ e)
    · rw [row, dif_neg h]; exact bot_le
  · have h : k.val < 8 := lt_trans (Fin.lt_def.mp hk) (first l).isLt
    rw [row, dif_pos h]
    exact lt_of_ahead (ahead_first l _ fun e => absurd hk (by rw [← e]; exact lt_irrefl k)) hk

theorem top_second (l : Fin 8 → EReal) (hl : ∀ k, ⊥ < l k) : Top (row2 l) (lane (second l)) := by
  refine ⟨fun k => ?_, fun k hk => ?_⟩ <;> rw [row2_lane l _ (second_ne l)]
  · by_cases e1 : k = lane (first l)
    · rw [row2, if_pos e1]; exact bot_le
    rw [row2, if_neg e1]
    by_cases h : k.val < 8
    · rw [row, dif_pos h]
      by_cases e : (⟨k.val, h⟩ : Fin 8) = second l
      · rw [e]
      · exact le_of_ahead (ahead_second l _ (fun e => e1 (by rw [← e])) e)
    · rw [row, dif_neg h]; exact bot_le
  · by_cases e1 : k = lane (first l)
    · rw [row2, if_pos e1]; exact hl _
    rw [row2, if_neg e1]
    have h : k.val < 8 := lt_trans (Fin.lt_def.mp hk) (second l).isLt
    rw [row, dif_pos h]
    exact lt_of_ahead (ahead_second l _ (fun e => e1 (by rw [← e])) fun e => absurd hk (by rw [← e]; exact lt_irrefl k)) hk

/-! ### What is chosen -/

/-- A place as a number. -/
abbrev num (k : Fin 8) : EReal := FloatOps.sitofp (F := Ideal) .f32 (BitVec.ofNat 32 k.val)

/-- The second expert's weight against the first's. -/
abbrev ratio (l : Fin 8 → EReal) : EReal := Ideal.exp (l (second l) - l (first l))

/-- The two experts, then their probabilities, in the first four of 128 columns. -/
def sel (l : Fin 8 → EReal) (o : Fin 128) : EReal :=
  if o.val = 0 then num (first l) else if o.val = 1 then num (second l) else if o.val = 2 then Ideal.div 1 (1 + ratio l)
  else if o.val = 3 then ratio l * Ideal.div 1 (1 + ratio l) else 0

end Cert.Route

end
-- ==== Proof.RoutePay.lean ====
/- The router in one tile of rows: the modulated normals, and from their numbers against the router's weights the row's two
   experts and their probabilities. The two scans of a row are one expression, used twice (`pay6_apply`). -/
module

public import proofs.«01_k».proof.Proof.Gen.Kernel11Ideal.Value
public import proofs.«01_k».proof.Proof.FfnSpec
public import proofs.«01_k».proof.Proof.RouteSpec

@[expose] public section

set_option maxRecDepth 16384
set_option Elab.async false

noncomputable section

namespace Cert.Kernel11Ideal.Route

open Cert.Kernel11Ideal Cert.Kernel11Ideal.Gen Cert.Kernel11Ideal.Value Cert.Route
open Cert.Ffn (nrm)
open Idealize.ShloMosaic Idealize.ShloMosaic.TcCoe Idealize.ShloMosaic.Tactic

/-- The modulated normal of a tile's row. -/
abbrev hrow (x : Vec Ideal S1x512x1024 .f32) (g : Vec Ideal S1x1024 .f32) (md : Vec Ideal S1x1x8x1024 .f32) (r : Fin 512) (o : Fin 1024) : EReal :=
  nrm (fun k => x (ix3 0 r k)) (fun k => g (ix2 0 k)) (fun k => md (ix4 0 0 3 k)) (fun k => md (ix4 0 0 4 k)) o

theorem pay2_apply (x : Vec Ideal S1x512x1024 .f32) (g : Vec Ideal S1x1024 .f32) (md : Vec Ideal S1x1x8x1024 .f32) (r : Fin 512) (o : Fin 1024) :
    k0_pay2 (F := Ideal) x g md (ix2 r o) = hrow x g md r o := by
  unfold k0_pay2
  pointwise
  rfl

/-- Its numbers against the first eight columns of the weights. -/
abbrev lrow (x : Vec Ideal S1x512x1024 .f32) (g : Vec Ideal S1x1024 .f32) (md : Vec Ideal S1x1x8x1024 .f32) (w : Vec Ideal S1024x128 .f32) (r : Fin 512) (n : Fin 8) : EReal :=
  ∑ k : Fin 1024, hrow x g md r k * w (ix2 k (lane n))

/-- The lanes' places. -/
abbrev lanes : IVec S512x128 32 := iota .tc S512x128 32 [1] iota_S512x128_d1_w32

theorem lanes_apply (r : Fin 512) (k : Fin 128) : lanes (ix2 r k) = BitVec.ofNat 32 k.val := by
  unfold lanes
  pointwise

theorem eight : ∀ k : Fin 128, IntOp.cmpi .slt (BitVec.ofNat 32 k.val) 8#32 = if k.val < 8 then 1#1 else 0#1 := by decide +kernel

theorem neg_inf : Ideal.ofBits .f32 0xFF800000#32 = ⊥ := by simp [Ideal.ofBits, Ideal.ieee]

theorem pay3_apply (x : Vec Ideal S1x512x1024 .f32) (g : Vec Ideal S1x1024 .f32) (md : Vec Ideal S1x1x8x1024 .f32) (w : Vec Ideal S1024x128 .f32) (r : Fin 512) (k : Fin 128) :
    k0_pay3 (F := Ideal) x g md w (ix2 r k) = row (lrow x g md w r) k := by
  unfold k0_pay3
  pointwise
  rw [eight, neg_inf, row]
  by_cases h : k.val < 8
  · rw [if_pos h, dif_pos h]
    show (∑ n, k0_pay2 (F := Ideal) x g md (ix2 r n) * w (ix2 n k)) = _
    exact Finset.sum_congr rfl fun n _ => congrArg (· * w (ix2 n k)) (pay2_apply x g md r n)
  · rw [if_neg h, dif_neg h]
    rfl

/-- The first place of a row's greatest number. -/
theorem pay6_apply (v : FVec Ideal S512x128 .f32) (mx : FVec Ideal S512 .f32) (r : Fin 512) (y : Fin 128 → EReal) (p : Fin 128) (hv : ∀ k, v (ix2 r k) = y k)
    (hm : mx (ix1 r) = y p) (hp : Top y p) : k0_pay6 (F := Ideal) lanes v mx (ix2 r 0) = BitVec.ofNat 32 p.val := by
  unfold k0_pay6 k0_pay5
  pointwise
  simp only [hv, hm]
  exact fold_place hp

/-- A row's greatest number. -/
abbrev most (v : FVec Ideal S512x128 .f32) : FVec Ideal S512 .f32 := multiReduction .maximumf [1] S512 v 0xFF800000#32 reduces_S512x128_S512 (.inl rfl) rfl

theorem most_apply (v : FVec Ideal S512x128 .f32) (r : Fin 512) (y : Fin 128 → EReal) (p : Fin 128) (hv : ∀ k, v (ix2 r k) = y k) (hp : Top y p) :
    most v (ix1 r) = y p := by
  unfold most
  pointwise
  simp only [hv, neg_inf]
  exact fold_max hp

/-- The numbers without the one at a chosen place of each row. -/
def without (v : FVec Ideal S512x128 .f32) (i : IVec S512x1 32) : FVec Ideal S512x128 .f32 :=
  select (cmpi .eq lanes (broadcastTo S512x128 i broadcasts_S512x1_S512x128)) (broadcast S512x128 (Scalar.ofBits .f32 0xFF800000#32)) v

theorem same : ∀ k p : Fin 128, IntOp.cmpi .eq (BitVec.ofNat 32 k.val) (BitVec.ofNat 32 p.val) = if k = p then 1#1 else 0#1 := by decide +kernel

theorem without_apply (v : FVec Ideal S512x128 .f32) (i : IVec S512x1 32) (r : Fin 512) (p : Fin 128) (hi : i (ix2 r 0) = BitVec.ofNat 32 p.val) (k : Fin 128) :
    without v i (ix2 r k) = if k = p then ⊥ else v (ix2 r k) := by
  unfold without
  pointwise
  rw [hi, same, neg_inf]
  split_ifs <;> rfl

/-- The columns after the first, from the second scan's result. -/
def tail (m1 m2 : FVec Ideal S512 .f32) (i2 : IVec S512x1 32) : FVec Ideal S512x128 .f32 :=
  have e : FVec Ideal S512x1 .f32 := exp (subf (k0_pay5 m2) (k0_pay5 m1))
  have one : FVec Ideal S512x1 .f32 := broadcast S512x1 (Scalar.ofBits .f32 0x3F800000#32)
  have p : FVec Ideal S512x1 .f32 := divf one (addf one e)
  have col (c : FVec Ideal S512x1 .f32) : FVec Ideal S512x128 .f32 := broadcastTo S512x128 (shapeCast S512x1 c shapeCasts_S512x1_S512x1) broadcasts_S512x1_S512x128
  select (cmpi .eq lanes (broadcast S512x128 1#32)) (col (sitofp .f32 i2))
    (select (cmpi .eq lanes (broadcast S512x128 2#32)) (col p)
      (select (cmpi .eq lanes (broadcast S512x128 3#32)) (col (mulf e p)) (broadcast S512x128 (Scalar.ofBits .f32 0x00000000#32))))

theorem pay8_eq (v : FVec Ideal S512x128 .f32) (mx : FVec Ideal S512 .f32) :
    k0_pay8 (F := Ideal) lanes v mx = tail mx (most (without v (k0_pay6 lanes v mx))) (k0_pay6 lanes (without v (k0_pay6 lanes v mx)) (most (without v (k0_pay6 lanes v mx)))) := rfl

/-- The whole of what the tile's rows choose. -/
def chosen (m1 m2 : FVec Ideal S512 .f32) (i1 i2 : IVec S512x1 32) : FVec Ideal S512x128 .f32 :=
  k0_pay1 (k0_pay7 lanes) (tail m1 m2 i2) (shapeCast S512x1 (sitofp .f32 i1) shapeCasts_S512x1_S512x1)

theorem col_eq (o : Fin 128) (n : ℕ) (hn : n < 128) (a b : EReal) :
    Scalar.select (IntOp.cmpi .eq (BitVec.ofNat 32 o.val) (BitVec.ofNat 32 n)) a b = if o.val = n then a else b := by
  rw [same o ⟨n, hn⟩]
  by_cases h : o.val = n
  · rw [if_pos (Fin.ext h), if_pos h]; rfl
  · rw [if_neg fun e => h (congrArg (fun x : Fin 128 => x.val) e), if_neg h]; rfl

theorem chosen_apply (m1 m2 : FVec Ideal S512 .f32) (i1 i2 : IVec S512x1 32) (r : Fin 512) (o : Fin 128) (l : Fin 8 → EReal) (h1 : m1 (ix1 r) = l (first l))
    (h2 : m2 (ix1 r) = l (second l)) (j1 : i1 (ix2 r 0) = BitVec.ofNat 32 (first l).val) (j2 : i2 (ix2 r 0) = BitVec.ofNat 32 (second l).val) :
    chosen m1 m2 i1 i2 (ix2 r o) = sel l o := by
  unfold chosen tail k0_pay1 k0_pay7 k0_pay5
  pointwise
  simp only [h1, h2, j1, j2]
  rw [col_eq o 0 (by omega), col_eq o 1 (by omega), col_eq o 2 (by omega), col_eq o 3 (by omega)]
  rfl

/-- The block of modulated normals that a point writes, and its block of choices. -/
theorem out4_apply (x : Vec Ideal S1x512x1024 .f32) (g : Vec Ideal S1x1024 .f32) (md : Vec Ideal S1x1x8x1024 .f32) (w : Vec Ideal S1024x128 .f32) (r : Fin 512) (o : Fin 1024) :
    out0_4 (F := Ideal) x g md w (ix2 r o) = hrow x g md r o :=
  (congrFun (by frame_out : _ = k0_pay2 (F := Ideal) x g md) (ix2 r o)).trans (pay2_apply x g md r o)

theorem out5_apply (x : Vec Ideal S1x512x1024 .f32) (g : Vec Ideal S1x1024 .f32) (md : Vec Ideal S1x1x8x1024 .f32) (w : Vec Ideal S1024x128 .f32) (r : Fin 512) (o : Fin 128)
    (hl : ∀ n, ⊥ < lrow x g md w r n) : out0_5 (F := Ideal) x g md w (ix2 r o) = sel (lrow x g md w r) o := by
  have e : out0_5 (F := Ideal) x g md w = k0_pay1 (k0_pay7 lanes) (k0_pay8 lanes (k0_pay3 x g md w) (most (k0_pay3 x g md w)))
      (k0_pay9 lanes (k0_pay3 x g md w) (most (k0_pay3 x g md w))) := by
    unfold_out out0_5
    frame_out
    rfl
  rw [e, pay8_eq]
  have v1 := fun k => pay3_apply x g md w r k
  generalize lrow x g md w r = l at *
  generalize k0_pay3 (F := Ideal) x g md w = v at *
  have m1 := most_apply v r _ _ v1 (top_first l)
  have j1 := pay6_apply v (most v) r _ _ v1 m1 (top_first l)
  have v2 : ∀ k, without v (k0_pay6 (F := Ideal) lanes v (most v)) (ix2 r k) = row2 l k := fun k => by
    rw [without_apply v _ r _ j1 k, v1]; rfl
  have m2 := most_apply _ r _ _ v2 (top_second l hl)
  have j2 := pay6_apply _ _ r _ _ v2 m2 (top_second l hl)
  rw [row_lane] at m1
  rw [row2_lane l _ (second_ne l)] at m2
  exact chosen_apply _ _ _ _ r o l m1 m2 j1 j2

end Cert.Kernel11Ideal.Route

end
-- ==== Proof.RouteValue.lean ====
/- The router's two arrays after the run: every row's modulated normal, and what the row's numbers against the router's weights choose. -/
module

public import proofs.«01_k».proof.Proof.RoutePay
public import proofs.«01_k».proof.Proof.NormValue
public import proofs.«01_k».proof.Proof.MergeValue
public import Idealize.ShloMosaic.Lib.Pipeline.ValueKit
public import Idealize.ShloMosaic.Lib.Claim

@[expose] public section

set_option maxRecDepth 16384
set_option Elab.async false

noncomputable section

namespace Cert.Route

open Idealize.ShloMosaic
open Cert.Ffn (nrm)

/-- The arrays that a call is given. -/
structure Args where
  x : (⟨3, ![4, 4096, 1024]⟩ : Shape).Idx → EReal
  g : (⟨1, ![1024]⟩ : Shape).Idx → EReal
  md : (⟨4, ![4, 2, 8, 1024]⟩ : Shape).Idx → EReal
  w : (⟨2, ![1024, 8]⟩ : Shape).Idx → EReal

/-- A row's batch entry and its place there. -/
abbrev ba (i : Fin 16384) : Fin 4 := ⟨i.val / 4096, by omega⟩
abbrev pl (i : Fin 16384) : Fin 4096 := ⟨i.val % 4096, by omega⟩

/-- Entry `o` of the modulated normal of row `i`, by the fourth and fifth rows of the batch entry's second set. -/
def normal (A : Args) (i : Fin 16384) (o : Fin 1024) : EReal :=
  nrm (fun k => A.x (ix3 (ba i) (pl i) k)) (fun k => A.g (ix1 k)) (fun k => A.md (ix4 (ba i) 1 3 k)) (fun k => A.md (ix4 (ba i) 1 4 k)) o

/-- The row's numbers for the experts. -/
def logit (A : Args) (i : Fin 16384) (n : Fin 8) : EReal := ∑ k : Fin 1024, normal A i k * A.w (ix2 k n)

/-- The two arrays. -/
def normals (A : Args) : (⟨2, ![16384, 1024]⟩ : Shape).Idx → EReal := fun i => normal A (i 0) (i 1)
def choices (A : Args) : (⟨2, ![16384, 128]⟩ : Shape).Idx → EReal := fun i => sel (logit A (i 0)) (i 1)

/-- Row `r` of the tile of rows `t`. -/
abbrev at_ (t : Fin 32) (r : Fin 512) : Fin 16384 := ⟨t.val * 512 + r.val, by omega⟩

/-- Where a tile's entry lies in the array of the batch entries' rows. -/
theorem tile_at (t : Fin 32) (e : (⟨3, ![1, 512, 1024]⟩ : Shape).Idx → (⟨3, ![4, 4096, 1024]⟩ : Shape).Idx) {p : Fin 3 → ℕ}
    (hp : p = ![t.val / 8, t.val % 8, 0]) (h : ∀ y a, (e y a).val = p a * (![1, 512, 1024] : Fin 3 → ℕ) a + (y a).val) (r : Fin 512) (k : Fin 1024) :
    e (ix3 0 r k) = ix3 (ba (at_ t r)) (pl (at_ t r)) k := by
  subst hp
  refine funext fun a => Fin.ext ((h _ a).trans ?_)
  fin_cases a
  · show t.val / 8 * 1 + 0 = (t.val * 512 + r.val) / 4096; omega
  · show t.val % 8 * 512 + r.val = (t.val * 512 + r.val) % 4096; omega
  · show 0 * 1024 + k.val = k.val; omega

/-- Where a tile's entry lies in an array of all rows. -/
theorem out_at (n : ℕ) (t : Fin 32) (e : (⟨2, ![512, n]⟩ : Shape).Idx → (⟨2, ![16384, n]⟩ : Shape).Idx) {p : Fin 2 → ℕ}
    (hp : p = ![t.val, 0]) (h : ∀ y a, (e y a).val = p a * (![512, n] : Fin 2 → ℕ) a + (y a).val) (r : Fin 512) (k : Fin n) :
    e (ix2 r k) = ix2 (at_ t r) k := by
  subst hp
  refine funext fun a => Fin.ext ((h _ a).trans ?_)
  fin_cases a
  · rfl
  · show 0 * n + k.val = k.val; omega

end Cert.Route

namespace Cert.Kernel11Ideal.Route

open Cert.Kernel11Ideal Cert.Kernel11Ideal.Gen Cert.Kernel11Ideal.Value Cert.Route
open Cert.Ffn (nrm)
open Idealize.ShloMosaic Idealize.ShloMosaic.TcCoe Idealize.ShloMosaic.Tactic

variable (m : (ℓ : Loc nD τ sig) → Buf (Elt Ideal) ℓ)

abbrev args (c : Dev nD) : Args :=
  ⟨m ((c : Thread nD τ).loc main_arg0), m ((c : Thread nD τ).loc main_arg1), m ((c : Thread nD τ).loc main_arg2), m ((c : Thread nD τ).loc main_arg3)⟩

theorem idx_rows : ∀ t : Fin cfg0.N, win0_0.index t = ![t.val / 8, t.val % 8, 0] ∧ win0_2.index t = ![t.val / 8, 1, 0, 0] :=
  (by decide +kernel : ∀ t : Fin grid0.N, win0_0.index t = ![t.val / 8, t.val % 8, 0] ∧ win0_2.index t = ![t.val / 8, 1, 0, 0])
theorem idx_tabs : ∀ t : Fin cfg0.N, win0_1.index t = ![0, 0] ∧ win0_3.index t = ![0, 0] :=
  (by decide +kernel : ∀ t : Fin grid0.N, win0_1.index t = ![0, 0] ∧ win0_3.index t = ![0, 0])
theorem idx_outs : ∀ t : Fin cfg0.N, win0_4.index t = ![t.val, 0] ∧ win0_5.index t = ![t.val, 0] :=
  (by decide +kernel : ∀ t : Fin grid0.N, win0_4.index t = ![t.val, 0] ∧ win0_5.index t = ![t.val, 0])

/-- A point's tile. -/
abbrev tl (t : Fin cfg0.N) : Fin 32 := ⟨t.val, t.isLt⟩

theorem x_blk (c : Dev nD) (t : Fin cfg0.N) (r : Fin 512) (k : Fin 1024) : iblk m c 0 t (ix3 0 r k) = (args m c).x (ix3 (ba (at_ (tl t) r)) (pl (at_ (tl t) r)) k) :=
  (congrFun (V_main_arg0 m c) _).trans (congrArg (args m c).x (tile_at (tl t) _ (idx_rows t).1 (fun y a => Pipeline.Window.rect_emb_val (cfg0.win 0) t y a rfl) r k))

theorem md_blk (c : Dev nD) (t : Fin cfg0.N) (r : Fin 512) (j : Fin 8) (k : Fin 1024) : iblk m c 2 t (ix4 0 0 j k) = (args m c).md (ix4 (ba (at_ (tl t) r)) 1 j k) :=
  (congrFun (V_main_arg2 m c) _).trans (congrArg (args m c).md (Cert.Norm.mods_at (ba (at_ (tl t) r)) 1 _
    ((idx_rows t).2.trans (by rw [show t.val / 8 = (ba (at_ (tl t) r)).val by show t.val / 8 = (t.val * 512 + r.val) / 4096; omega]; rfl))
    (fun y a => Pipeline.Window.rect_emb_val (cfg0.win 2) t y a rfl) j k))

/-- The norm's weights, laid out as one row by the call's caller, and the router's, with columns of zeros after them. -/
theorem g_arr (c : Dev nD) (k : Fin 1024) : V m c main_v2 (ix2 0 k) = (args m c).g (ix1 k) := by
  entry_read
  pointwise

theorem w_arr (c : Dev nD) (k : Fin 1024) (n : Fin 8) : V m c main_v1 (ix2 k (lane n)) = (args m c).w (ix2 k n) := by
  entry_read
  pointwise

theorem g_blk (c : Dev nD) (t : Fin cfg0.N) (k : Fin 1024) : iblk m c 1 t (ix2 0 k) = (args m c).g (ix1 k) :=
  (congrArg (V m c main_v2) (Cert.Merge.all_at _ (idx_tabs t).1 (fun y a => Pipeline.Window.rect_emb_val (cfg0.win 1) t y a rfl) (ix2 0 k))).trans (g_arr m c k)

theorem w_blk (c : Dev nD) (t : Fin cfg0.N) (k : Fin 1024) (n : Fin 8) : iblk m c 3 t (ix2 k (lane n)) = (args m c).w (ix2 k n) :=
  (congrArg (V m c main_v1) (Cert.Merge.all_at _ (idx_tabs t).2 (fun y a => Pipeline.Window.rect_emb_val (cfg0.win 3) t y a rfl) (ix2 k (lane n)))).trans (w_arr m c k n)

/-- A tile's modulated normals and numbers are the arrays' at the tile's place. -/
theorem hrow_eq (c : Dev nD) (t : Fin cfg0.N) (r : Fin 512) (o : Fin 1024) :
    hrow (iblk m c 0 t) (iblk m c 1 t) (iblk m c 2 t) r o = normal (args m c) (at_ (tl t) r) o := by
  have e := Cert.Norm.nrm_congr (o := o) (fun k => x_blk m c t r k) (fun k => g_blk m c t k) (fun k => md_blk m c t r 3 k) (fun k => md_blk m c t r 4 k)
  exact e

theorem out5_of (x : Vec Ideal S1x512x1024 .f32) (g : Vec Ideal S1x1024 .f32) (md : Vec Ideal S1x1x8x1024 .f32) (w : Vec Ideal S1024x128 .f32) (r : Fin 512) (o : Fin 128)
    (A : Args) (i : Fin 16384) (hh : ∀ o, hrow x g md r o = normal A i o) (hw : ∀ k n, w (ix2 k (lane n)) = A.w (ix2 k n)) (hl : ∀ n, ⊥ < logit A i n) :
    out0_5 (F := Ideal) x g md w (ix2 r o) = sel (logit A i) o := by
  have e : lrow x g md w r = logit A i := funext fun n => Finset.sum_congr rfl fun k _ => by rw [hh, hw]
  rw [out5_apply x g md w r o fun n => by rw [e]; exact hl n, e]

theorem arr4_eq (c : Dev nD) : (dats m 0 c).arrAt 4 cfg0.N = normals (args m c) := by
  refine (dats m 0 c).arrAt_eq_of_covers 4 _ (by decide +kernel) fun t hf y => ?_
  obtain ⟨r, o, rfl⟩ : ∃ (r : Fin 512) (o : Fin 1024), y = ix2 r o := ⟨y 0, y 1, eq_ix2 y⟩
  refine (congrFun (flushed4 m c t) (ix2 r o)).trans ((out4_apply (iblk m c 0 t) (iblk m c 1 t) (iblk m c 2 t) (iblk m c 3 t) r o).trans ((hrow_eq m c t r o).trans ?_))
  exact congrArg (normals (args m c)) (out_at 1024 (tl t) _ (idx_outs t).1 (fun y a => Pipeline.Window.rect_emb_val (cfg0.win 4) t y a rfl) r o).symm

theorem flushed5_eq (c : Dev nD) (hl : ∀ i n, ⊥ < logit (args m c) i n) (t : Fin cfg0.N) (r : Fin 512) (o : Fin 128) :
    (dats m 0 c).flushed 5 t (ix2 r o) = choices (args m c) (ix2 (at_ (tl t) r) o) :=
  (congrFun (flushed5 m c t) (ix2 r o)).trans (out5_of (iblk m c 0 t) (iblk m c 1 t) (iblk m c 2 t) (iblk m c 3 t) r o (args m c) (at_ (tl t) r)
    (fun k => hrow_eq m c t r k) (fun k n => w_blk m c t k n) fun n => hl _ n)

theorem arr5_eq (c : Dev nD) (hl : ∀ i n, ⊥ < logit (args m c) i n) : (dats m 0 c).arrAt 5 cfg0.N = choices (args m c) := by
  refine (dats m 0 c).arrAt_eq_of_covers 5 _ (by decide +kernel) fun t hf y => ?_
  obtain ⟨r, o, rfl⟩ : ∃ (r : Fin 512) (o : Fin 128), y = ix2 r o := ⟨y 0, y 1, eq_ix2 y⟩
  refine (flushed5_eq m c hl t r o).trans ?_
  exact congrArg (choices (args m c)) (out_at 128 (tl t) _ (idx_outs t).2 (fun y a => Pipeline.Window.rect_emb_val (cfg0.win 5) t y a rfl) r o).symm

end Cert.Kernel11Ideal.Route

end
-- ==== Proof.RouteClaim.lean ====
/- The router: its reference at an index, what its precondition says, and its claims. -/
module

public import proofs.«01_k».proof.Defs
public import proofs.«01_k».proof.Proof.RouteValue
public import proofs.«01_k».proof.Proof.MergeClaim
public import proofs.«01_k».proof.Proof.Gen.Kernel11.Frame
public import proofs.«01_k».proof.Proof.Gen.Reference11Ideal.Run
public import proofs.«01_k».proof.Proof.Gen.Reference11Ideal.Read
public import proofs.«01_k».proof.Proof.Gen.Pre_logits_finite
public import Idealize.ShloMosaic.Lib.ReduceAll

@[expose] public section

set_option maxRecDepth 16384
set_option Elab.async false

noncomputable section

namespace Cert.Route

open Cert.Reference11Ideal Cert.Reference11Ideal.Gen Cert.Reference11Ideal.Read
open Idealize.ShloMosaic Idealize.ShloMosaic.TcCoe Idealize.ShloMosaic.Tactic Idealize.SL.Sem
open Cert.Merge (IsReal)
open Cert.Kernel11Ideal.Route (neg_inf)

/-! ### The two foremost of a row -/

/-- Place `j` of a row's sort, from the greatest down. -/
abbrev place (x : FVec Ideal S16384x8 .f32) (i : Fin 16384) (j : Fin 8) : Fin 8 := sortedFrom (gt fun n => x (ix2 i n)) j

theorem along_eq (i : Fin 16384) (j k : Fin 8) : (ix2 i j : S16384x8.Idx).along 1 k = ix2 i k := by
  funext a
  fin_cases a <;> rfl

theorem sort_apply (x : FVec Ideal S16384x8 .f32) (y : IVec S16384x8 32) (i : Fin 16384) (j : Fin 8) :
    (Host.sort2 S16384x8 1 (fun l r => FloatOps.cmpfTotal (F := Ideal) .gt l.1 r.1) x y).1 (ix2 i j) = x (ix2 i (place x i j)) ∧
    (Host.sort2 S16384x8 1 (fun l r => FloatOps.cmpfTotal (F := Ideal) .gt l.1 r.1) x y).2 (ix2 i j) = y (ix2 i (place x i j)) := by
  have bef : (fun k k' : Fin 8 => FloatOps.cmpfTotal (F := Ideal) (φ := .f32) .gt (x ((ix2 i j : S16384x8.Idx).along 1 k)) (x ((ix2 i j : S16384x8.Idx).along 1 k')) == 1#1)
      = gt (fun n => x (ix2 i n)) := by
    funext k k'
    rw [along_eq, along_eq]
    show (BitVec.ofBool (decide (x (ix2 i k') < x (ix2 i k))) == 1#1) = decide (x (ix2 i k') < x (ix2 i k))
    cases decide (x (ix2 i k') < x (ix2 i k)) <;> rfl
  have e : (ix2 i j : S16384x8.Idx).along 1 (sortedFrom (fun k k' : Fin 8 => FloatOps.cmpfTotal (F := Ideal) (φ := .f32) .gt (x ((ix2 i j : S16384x8.Idx).along 1 k)) (x ((ix2 i j : S16384x8.Idx).along 1 k')) == 1#1) j)
      = ix2 i (place x i j) := by
    rw [bef]
    exact along_eq i j _
  exact ⟨congrArg x e, congrArg y e⟩

/-- The first two columns of an array of eight. -/
theorem slice_apply {α : Type} (x : S16384x8.Idx → α) (h : S16384x8.Slices (fun _ => 0) S16384x2) (i : Fin 16384) (j : Fin 2) :
    extractStridedSlice S16384x2 (fun _ => 0) x h (ix2 i j) = x (ix2 i ⟨j.val, by omega⟩) := by
  refine congrArg x (funext fun a => Fin.ext ?_)
  fin_cases a <;> exact Nat.zero_add _

theorem topK_apply (x : FVec Ideal S16384x8 .f32) (h : S16384x8.Slices (fun _ => 0) S16384x2) (i : Fin 16384) (j : Fin 2) :
    (Host.topK S16384x2 1 (FloatOps.cmpfTotal (F := Ideal) .gt) x h).1 (ix2 i j) = x (ix2 i (place x i ⟨j.val, by omega⟩)) ∧
    (Host.topK S16384x2 1 (FloatOps.cmpfTotal (F := Ideal) .gt) x h).2 (ix2 i j) = BitVec.ofNat 32 (place x i ⟨j.val, by omega⟩).val :=
  ⟨(slice_apply _ h i j).trans (sort_apply x (iotaInDim S16384x8 32 1) i _).1, (slice_apply _ h i j).trans (sort_apply x (iotaInDim S16384x8 32 1) i _).2⟩

/-! ### The reference at an index -/

variable (A : Args)

theorem ref_h (i : Fin 16384) (o : Fin 1024) : val_main_v25 (F := Ideal) A.x A.g A.md (ix2 i o) = normal A i o := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

theorem ref_normals : val_main_v25 (F := Ideal) A.x A.g A.md = normals A := by
  funext i
  obtain ⟨i, o, rfl⟩ : ∃ (a : Fin 16384) (o : Fin 1024), i = ix2 a o := ⟨i 0, i 1, eq_ix2 i⟩
  exact ref_h A i o

theorem ref_logit (i : Fin 16384) (n : Fin 8) : val_main_v26 (F := Ideal) A.x A.g A.md A.w (ix2 i n) = logit A i n := by
  have h := ref_h A i
  unfold val_main_v26
  generalize val_main_v25 (F := Ideal) A.x A.g A.md = y at *
  pointwise
  simp only [h]
  rfl

/-- The values of the two foremost, and their places. -/
theorem ref_top (i : Fin 16384) :
    val_main_values (F := Ideal) A.x A.g A.md A.w (ix2 i 0) = logit A i (first (logit A i)) ∧
    val_main_values (F := Ideal) A.x A.g A.md A.w (ix2 i 1) = logit A i (second (logit A i)) ∧
    val_main_indices (F := Ideal) A.x A.g A.md A.w (ix2 i 0) = BitVec.ofNat 32 (first (logit A i)).val ∧
    val_main_indices (F := Ideal) A.x A.g A.md A.w (ix2 i 1) = BitVec.ofNat 32 (second (logit A i)).val := by
  have l : (fun n => val_main_v26 (F := Ideal) A.x A.g A.md A.w (ix2 i n)) = logit A i := funext fun n => ref_logit A i n
  have t := topK_apply (val_main_v26 (F := Ideal) A.x A.g A.md A.w) sliceFits_S16384x8_S16384x2 i
  simp only [place, l, ref_logit] at t
  exact ⟨(t 0).1, (t 1).1, (t 0).2, (t 1).2⟩

/-- The probabilities of two real numbers, the greater first, by their quotient. -/
theorem soft {a b : EReal} (ha : IsReal a) (hb : IsReal b) :
    Ideal.div (Ideal.exp (a - a)) (Ideal.exp (a - a) + Ideal.exp (b - a)) = Ideal.div 1 (1 + Ideal.exp (b - a)) ∧
    Ideal.div (Ideal.exp (b - a)) (Ideal.exp (a - a) + Ideal.exp (b - a)) = Ideal.exp (b - a) * Ideal.div 1 (1 + Ideal.exp (b - a)) := by
  have one : Ideal.exp (a - a) = 1 := by rw [ha.sub_self, ← EReal.coe_zero, Ideal.exp_coe, Real.exp_zero, EReal.coe_one]
  obtain ⟨d, hd⟩ := hb.sub ha
  have pos : 1 + Ideal.exp (b - a) ≠ 0 := by
    rw [hd, Ideal.exp_coe, ← EReal.coe_one, ← EReal.coe_add, ← EReal.coe_zero]
    exact fun h => absurd (EReal.coe_eq_coe_iff.mp h) (by positivity)
  rw [one]
  refine ⟨rfl, ?_⟩
  rw [Ideal.div, Ideal.div, if_neg pos, if_neg pos, one_mul]

/-- The reference's second array. -/
theorem ref_sel (hr : ∀ i n, IsReal (logit A i n)) : val_main_v40 (F := Ideal) A.x A.g A.md A.w = choices A := by
  funext i
  obtain ⟨i, o, rfl⟩ : ∃ (a : Fin 16384) (o : Fin 128), i = ix2 a o := ⟨i 0, i 1, eq_ix2 i⟩
  show _ = sel (logit A i) o
  obtain ⟨t0, t1, t2, t3⟩ := ref_top A i
  have hl := hr i
  unfold val_main_v40 val_main_v39 val_main_v38 val_main_v37 val_main_v36 val_main_v35 val_main_v34 val_main_v33 val_main_v32 val_main_v31 val_main_v30 val_main_v29 val_main_v28 val_main_v27 val_main_cst_3 val_main_cst_4 val_main_cst_5 val_main_cst_6
  generalize val_main_values (F := Ideal) A.x A.g A.md A.w = v, val_main_indices (F := Ideal) A.x A.g A.md A.w = p at *
  pointwise
  generalize logit A i = l at *
  have M : max (Ideal.ofBits .f32 0xFF800000#32) ((Finset.univ : Finset (Fin 2)).fold max (Ideal.ofBits .f32 0xFF800000#32) (fun x => v (ix2 i x))) = l (first l) := by
    rw [neg_inf, fold_max (y := fun x => v (ix2 i x)) (p := 0) ⟨fun k => ?_, fun k hk => absurd hk (Nat.not_lt_zero _)⟩, t0]
    · exact bot_sup_eq _
    · fin_cases k
      · exact le_rfl
      · show v (ix2 i 1) ≤ v (ix2 i 0)
        rw [t0, t1]
        exact le_of_ahead (ahead_first l _ (second_ne l))
  have S : ∑ x : Fin 2, Ideal.exp (v (ix2 i x) - l (first l)) = Ideal.exp (l (first l) - l (first l)) + Ideal.exp (l (second l) - l (first l)) := by
    rw [Fin.sum_univ_two, t0, t1]
  obtain ⟨s0, s1⟩ := soft (hl (first l)) (hl (second l))
  rw [M, S]
  have c : o = 0 ∨ o = 1 ∨ o = 2 ∨ o = 3 ∨ 4 ≤ o.val := by
    simp only [Fin.ext_iff]
    show o.val = 0 ∨ o.val = 1 ∨ o.val = 2 ∨ o.val = 3 ∨ 4 ≤ o.val
    omega
  rcases c with rfl | rfl | rfl | rfl | h
  · exact congrArg (FloatOps.sitofp (F := Ideal) .f32) t2
  · exact congrArg (FloatOps.sitofp (F := Ideal) .f32) t3
  · exact (congrArg (fun a => Ideal.div (Ideal.exp (a - l (first l))) _) t0).trans s0
  · exact (congrArg (fun a => Ideal.div (Ideal.exp (a - l (first l))) _) t1).trans s1
  · rw [dif_neg (by omega), dif_neg (by omega), sel, if_neg (by omega), if_neg (by omega), if_neg (by omega), if_neg (by omega)]

/-! ### The precondition -/

instance : Subsingleton Cert.Pre_logits_finite.S_.Idx := ⟨fun a b => funext fun d => d.elim0⟩

/-- Its numbers are the reference's. -/
theorem fn_eq : Cert.Pre_logits_finite.fn (F := Ideal) A.x A.g A.md A.w
    = Host.reduce IntOp.andi (cmpf .olt (Host.absf (F := Ideal) (φ := .f32) (val_main_v26 (F := Ideal) A.x A.g A.md A.w))
        (broadcastInDim Cert.Pre_logits_finite.S16384x8 ![] Cert.Pre_logits_finite.Facts.bcast_S_S16384x8 (constant Cert.Pre_logits_finite.S_ .f32 0x7F800000#32)))
      (constantI Cert.Pre_logits_finite.S_ 1 1#1) Cert.Pre_logits_finite.Facts.reducesTo_S16384x8_S_d0_1 Cert.Pre_logits_finite.Facts.h_S_ := rfl

/-- Every number lies below infinity in absolute value, so every one is real. -/
theorem real_of_fn (h : Cert.Pre_logits_finite.fn (F := Ideal) A.x A.g A.md A.w = fun _ => 1#1) (i : Fin 16384) (n : Fin 8) : IsReal (logit A i n) := by
  have e := Host.reduce_andi_all _ _ _ _ _ (congrFun ((fn_eq A).symm.trans h) (fun d => d.elim0)) (ix2 i n)
  rw [← ref_logit]
  generalize val_main_v26 (F := Ideal) A.x A.g A.md A.w = y at *
  exact Cert.Merge.real_of_lt e

/-! ### The claims -/

theorem frame_k : Cert.quiescent_Kernel11 := fun m g _ => Cert.Kernel11.Gen.frame m g

theorem frame_ki : Cert.quiescent_Kernel11Ideal := fun m g _ => Cert.Kernel11Ideal.Gen.frame m g

theorem frame_ki_finite : Cert.quiescent_Kernel11Ideal_pre_logits_finite := fun m g _ => Cert.Kernel11Ideal.Gen.frame m g

theorem frame_ri : Cert.quiescent_Reference11Ideal := fun m g _ =>
  (θ_run Cert.Reference11Ideal.defs _ _).mono (fun r h => ⟨fun c => (h c).2.2, Idealize.ShloMosaic.sem_eq_zero_of_no_sems (by decide) r.2⟩)
    (Cert.Reference11Ideal.Value.run (F := Ideal) m g)

theorem frame_ri_finite : Cert.quiescent_Reference11Ideal_pre_logits_finite := fun m g _ => frame_ri m g trivial

open Cert.Kernel11Ideal.Route in
theorem algebraic : Cert.algebraic_Kernel11Ideal_Reference11Ideal_pre_logits_finite := by
  intro m g m' g' hpre hargs
  have hr : ∀ c i n, IsReal (logit (args m c) i n) := fun c i n => real_of_fn (args m c) (hpre c) i n
  refine ⟨fun c => normals (args m c), fun c => choices (args m c), ?_, ?_⟩
  · exact (θ_run _ _ _).mono (fun r h c => ⟨(h c).1.trans (arr4_eq m c), (h c).2.1.trans (arr5_eq m c fun i n => by obtain ⟨x, e⟩ := hr c i n; rw [e]; exact EReal.bot_lt_coe x), (h c).2.2⟩)
      (Cert.Kernel11Ideal.Value.run_blocks (F := Ideal) m g)
  · refine (θ_run _ _ _).mono (fun r h c => ⟨(h c).1.trans ((val_main_v25_eq (F := Ideal) _ _ _).trans ?_), (h c).2.1.trans ((val_main_v40_eq (F := Ideal) _ _).trans ?_), (h c).2.2⟩)
      (Cert.Reference11Ideal.Value.run (F := Ideal) m' g')
    · obtain ⟨h0, h1, h2, h3⟩ := hargs c
      rw [h0, h1, h2]
      exact ref_normals (args m c)
    · obtain ⟨h0, h1, h2, h3⟩ := hargs c
      rw [h0, h1, h2, h3]
      exact ref_sel (args m c) (hr c)

end Cert.Route

end
-- ==== Proof.ScanSpec.lean ====
/- An array that is written in pieces: what it holds once every piece agrees with one function. -/
module

public import proofs.«01_k».proof.Proof.FfnSpec
public import Idealize.ShloMosaic.Lib.Pipeline.ValueKit
public import Idealize.ShloMosaic.Lib.WholeRead

@[expose] public section

set_option maxRecDepth 16384
set_option Elab.async false

noncomputable section

namespace Cert.Scan

open Idealize.ShloMosaic

/-- A piece writes the function's values where it lies. -/
def Writes {S : Shape} {e : EltTy} (G : S.Idx → Elt Ideal e) (p : View.Piece (Elt Ideal) S e) : Prop := ∀ x, p.2 x = G (p.1.emb x)

/-- Pieces that cover the array and all write the same function leave that function. -/
theorem canon_of {S : Shape} {e : EltTy} (G : S.Idx → Elt Ideal e) (L : List (View.Piece (Elt Ideal) S e)) (hc : ∀ y, ∃ p ∈ L, y ∈ p.1.set)
    (h : ∀ p ∈ L, Writes G p) : View.canon L = G :=
  funext fun y => View.canon_eq_of_allAt L y (G y) (hc y) fun p hp x hx => (h p hp x).trans (congrArg G hx)

/-- A lane's row in the array of all heads' columns, for a key. -/
abbrev krow (k : Fin 64) (l : Fin 128) : Fin 4096 := ⟨l.val % 64 * 64 + k.val, by omega⟩

/-- A lane's row in the array of all heads' columns, for a value's index: the lanes past 64 take the second half of a head's columns. -/
abbrev vrow (v : Fin 32) (l : Fin 128) : Fin 4096 := ⟨l.val % 64 * 64 + (l.val / 64 * 32 + v.val), by omega⟩

/-- A row of the array of all heads' columns: its batch entry, and its column. -/
theorem rows (n w : ℕ) (hw : w < 64) : (n * 64 + w) / 1024 = n / 16 ∧ (n * 64 + w) % 1024 = n % 16 * 64 + w := by
  obtain ⟨q, s, hs, rfl⟩ : ∃ q s, s < 16 ∧ n = 16 * q + s := ⟨n / 16, n % 16, Nat.mod_lt _ (by omega), (Nat.div_add_mod n 16).symm⟩
  omega

/-- The values by time. -/
def values (x : (⟨3, ![4, 1024, 4352]⟩ : Shape).Idx → EReal) : (⟨3, ![4352, 32, 128]⟩ : Shape).Idx → EReal :=
  fun i => x (ix3 ⟨(vrow (i 1) (i 2)).val / 1024, by omega⟩ ⟨(vrow (i 1) (i 2)).val % 1024, by omega⟩ (i 0))

/-- The operands by key and time. -/
def operands (x : (⟨4, ![8, 4, 1024, 4352]⟩ : Shape).Idx → EReal) : (⟨4, ![8, 64, 4352, 128]⟩ : Shape).Idx → EReal :=
  fun i => x (ix4 (i 0) ⟨(krow (i 1) (i 3)).val / 1024, by omega⟩ ⟨(krow (i 1) (i 3)).val % 1024, by omega⟩ (i 2))

/-- The index by which a row of the array of all heads' columns stands in the layout by time, and its lane. -/
abbrev vidx (n : Fin 4096) : Fin 32 := ⟨n.val % 32, by omega⟩
abbrev vlane (n : Fin 4096) : Fin 128 := ⟨n.val % 64 / 32 * 64 + n.val / 64, by omega⟩

/-- A batch entry's column as a row of the array of all heads' columns. -/
abbrev crow (b : Fin 4) (o : Fin 1024) : Fin 4096 := ⟨b.val * 1024 + o.val, by omega⟩

/-- The sum of the two directions, for every batch entry, time and column. -/
def summed (x y : (⟨3, ![4352, 32, 128]⟩ : Shape).Idx → EReal) : (⟨3, ![4, 4352, 1024]⟩ : Shape).Idx → EReal :=
  fun i => x (ix3 (i 1) (vidx (crow (i 0) (i 2))) (vlane (crow (i 0) (i 2)))) + y (ix3 (i 1) (vidx (crow (i 0) (i 2))) (vlane (crow (i 0) (i 2))))

/-- Where two lists go along with each other, each entry of the second has one of the first. -/
theorem exists_of_along {α β : Type*} {R : α → β → Prop} {L : List α} {M : List β} (h : List.Forall₂ R L M) {b : β} (hb : b ∈ M) : ∃ a ∈ L, R a b := by
  induction h with
  | nil => exact absurd hb List.not_mem_nil
  | cons r _ ih =>
    rcases List.mem_cons.mp hb with rfl | hb
    · exact ⟨_, List.mem_cons_self, r⟩
    · obtain ⟨a, ha, hr⟩ := ih hb
      exact ⟨a, List.mem_cons_of_mem _ ha, hr⟩

theorem forall_of_along {α β : Type*} {R : α → β → Prop} {L : List α} {M : List β} (h : List.Forall₂ R L M) {a : α} (ha : a ∈ L) : ∃ b, R a b := by
  induction h with
  | nil => exact absurd ha List.not_mem_nil
  | cons r _ ih =>
    rcases List.mem_cons.mp ha with rfl | ha
    · exact ⟨_, r⟩
    · exact ih ha

end Cert.Scan

end
-- ==== Proof.ScanK.lean ====
/- The call that lays the operands out by key and time. -/
module

public import proofs.«01_k».proof.Defs
public import proofs.«01_k».proof.Proof.ScanSpec
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import Idealize.ShloMosaic.Lib.StableHlo.RunRead
public import Idealize.ShloMosaic.Lib.Claim

@[expose] public section

set_option maxRecDepth 16384
set_option Elab.async false

noncomputable section

namespace Cert.Kernel12Ideal.ScanK

open Cert.Kernel12Ideal Cert.Kernel12Ideal.Gen Cert.Scan
open Idealize.ShloMosaic Idealize.ShloMosaic.TcCoe Idealize.ShloMosaic.Tactic
open Idealize.SL Idealize.SL.RA Idealize.SL.Sem

/-- What a block of the operands becomes. -/
def laid (x0 : Vec Ideal S1x4096x128 .f32) : Vec Ideal S1x64x128x128 .f32 := fun y => x0 (ix3 0 (krow (y 1) (y 3)) (y 2))

/-- A column of every head, twice beside each other, by time. -/
def doubled (u : Vec Ideal S1x64x128 .f32) : Vec Ideal S1x1x128x128 .f32 :=
  shapeCast S1x1x128x128 (transpose S128x128 [1, 0] (concatenate S128x128 0
    [⟨S64x128, shapeCast S64x128 u shapeCasts_S1x64x128_S64x128⟩, ⟨S64x128, shapeCast S64x128 u shapeCasts_S1x64x128_S64x128⟩]
    concatenates_S64x128_S64x128_S128x128_d0) transposes_S128x128_p1_0_S128x128) shapeCasts_S128x128_S1x1x128x128

theorem doubled_apply (u : Vec Ideal S1x64x128 .f32) (w z : Fin 1) (r l : Fin 128) : doubled u (ix4 w z r l) = u (ix3 0 ⟨l.val % 64, by omega⟩ r) := by
  unfold doubled
  pointwise
  by_cases h : l.val < 64
  · rw [dif_pos h]
    exact congrArg (fun n => u (ix3 0 n r)) (Fin.ext (by show l.val = l.val % 64; omega))
  · rw [dif_neg h]
    exact congrArg (fun n => u (ix3 0 n r)) (Fin.ext (by show l.val - 64 = l.val % 64; omega))

/-- One store: the `k`-th column of every head. -/
theorem store (arg1 : Memref sig .tc .vmem S1x4096x128 .f32) (harg1 : arg1.IsWhole) (x0 : Vec Ideal S1x4096x128 .f32) (k : ℕ)
    (i1 : ∀ a, S1x64x128.size a = 0 ∨ (![0, k, 0] : Fin 3 → ℕ) a + (![1, 64, 1] : Fin 3 → ℕ) a * (S1x64x128.size a - 1) < S1x4096x128.size a)
    (i3 : ∀ a, (![0, k, 0, 0] : Fin 4 → ℕ) a + S1x1x128x128.size a ≤ S1x64x128x128.size a) :
    Writes (laid x0) ⟨Rect.unit (s := S1x64x128x128) ![0, k, 0, 0] S1x1x128x128.size i3,
      doubled (View.readAt (Elt Ideal) arg1.view ⟨![0, k, 0], S1x64x128.size, ![1, 64, 1], i1⟩ (harg1.unread x0))⟩ := by
  intro x
  obtain ⟨w, z, r, l, rfl⟩ : ∃ (w : Fin 1) (z : Fin 1) (r : Fin 128) (l : Fin 128), x = ix4 w z r l := ⟨x 0, x 1, x 2, x 3, eq_ix4 x⟩
  refine (doubled_apply _ w z r l).trans ((Memref.IsWhole.readAt_unread harg1 x0 _ _).trans (congrArg x0 (funext fun a => Fin.ext ?_)))
  fin_cases a
  · rfl
  · show k + 64 * (l.val % 64) = (0 + 1 * l.val) % 64 * 64 + (k + 1 * z.val); omega
  · show 0 + 1 * r.val = 0 + 1 * r.val; rfl

/-- A block of the operands, whole. -/
theorem out_eq (c : Dev nD) (i : grid0.Coords) (arg2 : Memref sig .tc .vmem S1x4096x128 .f32) (harg2 : arg2.IsWhole) (arg3 : Memref sig .tc .vmem S1x64x128x128 .f32) (harg3 : arg3.IsWhole)
    (x0 : Vec Ideal S1x4096x128 .f32) : out0_A_1 c i arg2 harg2 arg3 harg3 x0 = laid x0 := by
  unfold out0_A_1
  rw [View.read_writes_junk_eq_canon]
  refine canon_of _ _ (fun y => cover0_A_1 c i arg2 harg2 arg3 harg3 x0 y) ?_
  unfold kernelRun0_A
  dsimp only
  repeat' (first | exact List.forall_mem_nil _ | refine List.forall_mem_cons.mpr ⟨store arg2 harg2 x0 _ _ _, ?_⟩)

variable (m : (ℓ : Loc nD τ sig) → Buf (Elt Ideal) ℓ)

abbrev X (c : Dev nD) : (⟨4, ![8, 4, 1024, 4352]⟩ : Shape).Idx → EReal := m ((c : Thread nD τ).loc main_arg0)

/-- The columns of all batch entries one below the other. -/
theorem x_arr (c : Dev nD) (o : Fin 8) (n : Fin 4096) (t : Fin 4352) :
    @Eq EReal (V m c main_v0 (ix3 o n t)) (X m c (ix4 o ⟨n.val / 1024, by omega⟩ ⟨n.val % 1024, by omega⟩ t)) := by
  entry_read
  pointwise

theorem idx : ∀ t : Fin cfg0.N, win0_0.index t = ![t.val / 34, 0, t.val % 34] ∧ win0_1.index t = ![t.val / 34, 0, t.val % 34, 0] :=
  (by decide +kernel : ∀ t : Fin grid0.N, win0_0.index t = ![t.val / 34, 0, t.val % 34] ∧ win0_1.index t = ![t.val / 34, 0, t.val % 34, 0])

/-- The operand of a point, and the time of a row of its block. -/
abbrev op (t : Fin cfg0.N) : Fin 8 := ⟨t.val / 34, by have : t.val < 272 := t.isLt; omega⟩
abbrev tm (t : Fin cfg0.N) (r : Fin 128) : Fin 4352 := ⟨t.val % 34 * 128 + r.val, by omega⟩

theorem x_blk (c : Dev nD) (t : Fin cfg0.N) (n : Fin 4096) (r : Fin 128) : iblk m c 0 t (ix3 0 n r) = V m c main_v0 (ix3 (op t) n (tm t r)) := by
  refine congrArg (V m c main_v0) (funext fun a => Fin.ext ?_)
  refine (Pipeline.Window.rect_emb_val (cfg0.win 0) t (ix3 0 n r) a rfl).trans ?_
  rw [show (cfg0.win 0).index t = _ from (idx t).1]
  fin_cases a
  · show t.val / 34 * 1 + 0 = t.val / 34; omega
  · show 0 * 4096 + n.val = n.val; omega
  · rfl

/-- The array after the run. -/
theorem arr_eq (c : Dev nD) : (dats m 0 c).arrAt 1 cfg0.N = operands (X m c) := by
  refine (dats m 0 c).arrAt_eq_of_covers 1 _ (by decide +kernel) fun t hf y => ?_
  obtain ⟨w, k, r, l, rfl⟩ : ∃ (w : Fin 1) (k : Fin 64) (r : Fin 128) (l : Fin 128), y = ix4 w k r l := ⟨y 0, y 1, y 2, y 3, eq_ix4 y⟩
  refine (congrFun (Value.flushed1_A m c t) (ix4 w k r l)).trans ((congrFun (out_eq c (grid0.coords t) (ms0_0 t) (hs0_0 t) (ms0_1 t) (hs0_1 t) (iblk m c 0 t)) (ix4 w k r l)).trans ?_)
  refine ((x_blk m c t (krow k l) r).trans (x_arr m c _ _ _)).trans (Eq.trans (b := operands (X m c) (ix4 (op t) k (tm t r) l)) rfl ?_)
  refine congrArg (operands (X m c)) (funext fun a => Fin.ext ?_)
  refine Eq.symm ((Pipeline.Window.rect_emb_val (cfg0.win 1) t (ix4 w k r l) a rfl).trans ?_)
  rw [show (cfg0.win 1).index t = _ from (idx t).2]
  fin_cases a
  · show t.val / 34 * 1 + w.val = t.val / 34; omega
  · show 0 * 64 + k.val = k.val; omega
  · rfl
  · show 0 * 128 + l.val = l.val; omega

end Cert.Kernel12Ideal.ScanK

namespace Cert.ScanK

open Cert.Reference12Ideal Cert.Reference12Ideal.Read Cert.Scan
open Idealize.ShloMosaic Idealize.ShloMosaic.TcCoe Idealize.ShloMosaic.Tactic Idealize.SL.Sem

/-- The reference's array. -/
theorem ref_eq (x0 : (⟨S8x4x1024x4352, .f32⟩ : BufTy).Contents (Elt Ideal)) : val_main_v3 (F := Ideal) x0 = operands x0 := by
  funext i
  obtain ⟨o, k, t, l, rfl⟩ : ∃ (o : Fin 8) (k : Fin 64) (t : Fin 4352) (l : Fin 128), i = ix4 o k t l := ⟨i 0, i 1, i 2, i 3, eq_ix4 i⟩
  unfold val_main_v3 val_main_v2 val_main_v1 val_main_v0 operands
  pointwise
  by_cases h : l.val < 64
  · rw [dif_pos h]
    refine congrArg x0 (congrArg₂ (ix4 o · · t) (Fin.ext ?_) (Fin.ext ?_))
    · show l.val / 16 = (l.val % 64 * 64 + k.val) / 1024; omega
    · show l.val % 16 * 64 + k.val = (l.val % 64 * 64 + k.val) % 1024; omega
  · rw [dif_neg h]
    refine congrArg x0 (congrArg₂ (ix4 o · · t) (Fin.ext ?_) (Fin.ext ?_))
    · show (l.val - 64) / 16 = (l.val % 64 * 64 + k.val) / 1024; omega
    · show (l.val - 64) % 16 * 64 + k.val = (l.val % 64 * 64 + k.val) % 1024; omega

theorem frame_k : Cert.quiescent_Kernel12 := fun m g _ => Cert.Kernel12.Gen.frame m g

theorem frame_ki : Cert.quiescent_Kernel12Ideal := fun m g _ => Cert.Kernel12Ideal.Gen.frame m g

theorem frame_ri : Cert.quiescent_Reference12Ideal := fun m g _ =>
  (θ_run Cert.Reference12Ideal.defs _ _).mono (fun r h => ⟨fun c => (h c).2, Idealize.ShloMosaic.sem_eq_zero_of_no_sems (by decide) r.2⟩)
    (Cert.Reference12Ideal.Value.run (F := Ideal) m g)

open Cert.Kernel12Ideal.ScanK in
theorem algebraic : Cert.algebraic_Kernel12Ideal_Reference12Ideal := by
  intro m g m' g' _ hargs
  refine ⟨fun c => operands (X m c), ?_, ?_⟩
  · exact (θ_run _ _ _).mono (fun r h c => ⟨(h c).1.trans (arr_eq m c), (h c).2⟩) (Cert.Kernel12Ideal.Value.run_blocks (F := Ideal) m g)
  · have tie : ∀ c, val_main_v3 (F := Ideal) _ = operands (X m c) := fun c => (congrArg (val_main_v3 (F := Ideal)) (hargs c)).trans (ref_eq _)
    exact (θ_run _ _ _).mono (fun r h c => ⟨(h c).1.trans ((val_main_v3_eq (F := Ideal) _).trans (tie c)), (h c).2⟩) (Cert.Reference12Ideal.Value.run (F := Ideal) m' g')

end Cert.ScanK

end
-- ==== Proof.ScanV.lean ====
/- The call that lays the values out by time. -/
module

public import proofs.«01_k».proof.Defs
public import proofs.«01_k».proof.Proof.ScanSpec
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import Idealize.ShloMosaic.Lib.StableHlo.RunRead
public import Idealize.ShloMosaic.Lib.Claim

@[expose] public section

set_option maxRecDepth 16384
set_option Elab.async false

noncomputable section

namespace Cert.Kernel13Ideal.ScanV

open Cert.Kernel13Ideal Cert.Kernel13Ideal.Gen Cert.Scan
open Idealize.ShloMosaic Idealize.ShloMosaic.TcCoe Idealize.ShloMosaic.Tactic
open Idealize.SL Idealize.SL.RA Idealize.SL.Sem

/-- What a block of the values becomes. -/
def laid (x0 : Vec Ideal S4096x128 .f32) : Vec Ideal S128x32x128 .f32 := fun y => x0 (ix2 (vrow (y 1) (y 2)) (y 0))

/-- One store: the `k`-th and the `32 + k`-th column of every head, beside each other, by time. -/
theorem store (arg1 : Memref sig .tc .vmem S4096x128 .f32) (harg1 : arg1.IsWhole) (x0 : Vec Ideal S4096x128 .f32) (k : ℕ)
    (i1 : ∀ a, S64x128.size a = 0 ∨ (![k, 0] : Fin 2 → ℕ) a + (![64, 1] : Fin 2 → ℕ) a * (S64x128.size a - 1) < S4096x128.size a)
    (i2 : ∀ a, S64x128.size a = 0 ∨ (![32 + k, 0] : Fin 2 → ℕ) a + (![64, 1] : Fin 2 → ℕ) a * (S64x128.size a - 1) < S4096x128.size a)
    (i3 : ∀ a, (![0, k, 0] : Fin 3 → ℕ) a + S128x1x128.size a ≤ S128x32x128.size a) :
    Writes (laid x0) ⟨Rect.unit (s := S128x32x128) ![0, k, 0] S128x1x128.size i3,
      shapeCast S128x1x128 (transpose S128x128 [1, 0] (concatenate S128x128 0
        [⟨S64x128, shapeCast S64x128 (View.readAt (Elt Ideal) arg1.view ⟨![k, 0], S64x128.size, ![64, 1], i1⟩ (harg1.unread x0)) shapeCasts_S64x128_S64x128⟩,
          ⟨S64x128, shapeCast S64x128 (View.readAt (Elt Ideal) arg1.view ⟨![32 + k, 0], S64x128.size, ![64, 1], i2⟩ (harg1.unread x0)) shapeCasts_S64x128_S64x128⟩]
        concatenates_S64x128_S64x128_S128x128_d0) transposes_S128x128_p1_0_S128x128) shapeCasts_S128x128_S128x1x128⟩ := by
  intro x
  obtain ⟨r, z, l, rfl⟩ : ∃ (r : Fin 128) (z : Fin 1) (l : Fin 128), x = ix3 r z l := ⟨x 0, x 1, x 2, eq_ix3 x⟩
  have a1 := fun j => Memref.IsWhole.readAt_unread harg1 x0 ⟨![k, 0], S64x128.size, ![64, 1], i1⟩ j
  have a2 := fun j => Memref.IsWhole.readAt_unread harg1 x0 ⟨![32 + k, 0], S64x128.size, ![64, 1], i2⟩ j
  generalize View.readAt (Elt Ideal) arg1.view ⟨![k, 0], S64x128.size, ![64, 1], i1⟩ (harg1.unread x0) = u at *
  generalize View.readAt (Elt Ideal) arg1.view ⟨![32 + k, 0], S64x128.size, ![64, 1], i2⟩ (harg1.unread x0) = v at *
  dsimp only
  pointwise
  by_cases hl : l.val < 64
  · simp only [hl, dite_true]
    rw [a1]
    refine congrArg x0 (funext fun a => Fin.ext ?_)
    fin_cases a
    · show k + 64 * l.val = (0 + 1 * l.val) % 64 * 64 + ((0 + 1 * l.val) / 64 * 32 + (k + 1 * z.val)); omega
    · show 0 + 1 * r.val = 0 + 1 * r.val; rfl
  · simp only [hl, dite_false]
    rw [a2]
    refine congrArg x0 (funext fun a => Fin.ext ?_)
    fin_cases a
    · show 32 + k + 64 * (l.val - 64) = (0 + 1 * l.val) % 64 * 64 + ((0 + 1 * l.val) / 64 * 32 + (k + 1 * z.val)); omega
    · show 0 + 1 * r.val = 0 + 1 * r.val; rfl

/-- A block of the values, whole. -/
theorem out_eq (c : Dev nD) (i : grid0.Coords) (arg1 : Memref sig .tc .vmem S4096x128 .f32) (harg1 : arg1.IsWhole) (arg2 : Memref sig .tc .vmem S128x32x128 .f32) (harg2 : arg2.IsWhole)
    (x0 : Vec Ideal S4096x128 .f32) : out0_A_1 c i arg1 harg1 arg2 harg2 x0 = laid x0 := by
  unfold out0_A_1
  rw [View.read_writes_junk_eq_canon]
  refine canon_of _ _ (fun y => cover0_A_1 c i arg1 harg1 arg2 harg2 x0 y) ?_
  unfold kernelRun0_A
  dsimp only
  repeat' (first | exact List.forall_mem_nil _ | refine List.forall_mem_cons.mpr ⟨store arg1 harg1 x0 _ _ _ _, ?_⟩)

variable (m : (ℓ : Loc nD τ sig) → Buf (Elt Ideal) ℓ)

abbrev X (c : Dev nD) : (⟨3, ![4, 1024, 4352]⟩ : Shape).Idx → EReal := m ((c : Thread nD τ).loc main_arg0)

/-- The columns of all batch entries one below the other. -/
theorem x_arr (c : Dev nD) (n : Fin 4096) (t : Fin 4352) :
    @Eq EReal (V m c main_v0 (ix2 n t)) (X m c (ix3 ⟨n.val / 1024, by omega⟩ ⟨n.val % 1024, by omega⟩ t)) := by
  entry_read
  pointwise

theorem idx : ∀ t : Fin cfg0.N, win0_0.index t = ![0, t.val] ∧ win0_1.index t = ![t.val, 0, 0] :=
  (by decide +kernel : ∀ t : Fin grid0.N, win0_0.index t = ![0, t.val] ∧ win0_1.index t = ![t.val, 0, 0])

/-- The time of a row of a block. -/
abbrev tm (t : Fin cfg0.N) (r : Fin 128) : Fin 4352 := ⟨t.val * 128 + r.val, by have : t.val < 34 := t.isLt; omega⟩

theorem x_blk (c : Dev nD) (t : Fin cfg0.N) (n : Fin 4096) (r : Fin 128) : iblk m c 0 t (ix2 n r) = V m c main_v0 (ix2 n (tm t r)) := by
  refine congrArg (V m c main_v0) (funext fun a => Fin.ext ?_)
  refine (Pipeline.Window.rect_emb_val (cfg0.win 0) t (ix2 n r) a rfl).trans ?_
  rw [show (cfg0.win 0).index t = _ from (idx t).1]
  fin_cases a
  · show 0 * 4096 + n.val = n.val; omega
  · rfl

/-- The array after the run. -/
theorem arr_eq (c : Dev nD) : (dats m 0 c).arrAt 1 cfg0.N = values (X m c) := by
  refine (dats m 0 c).arrAt_eq_of_covers 1 _ (by decide +kernel) fun t hf y => ?_
  obtain ⟨r, v, l, rfl⟩ : ∃ (r : Fin 128) (v : Fin 32) (l : Fin 128), y = ix3 r v l := ⟨y 0, y 1, y 2, eq_ix3 y⟩
  refine (congrFun (Value.flushed1_A m c t) (ix3 r v l)).trans ((congrFun (out_eq c (grid0.coords t) (ms0_0 t) (hs0_0 t) (ms0_1 t) (hs0_1 t) (iblk m c 0 t)) (ix3 r v l)).trans ?_)
  refine ((x_blk m c t (vrow v l) r).trans (x_arr m c _ _)).trans (Eq.trans (b := values (X m c) (ix3 (tm t r) v l)) rfl ?_)
  refine congrArg (values (X m c)) (funext fun a => Fin.ext ?_)
  refine Eq.symm ((Pipeline.Window.rect_emb_val (cfg0.win 1) t (ix3 r v l) a rfl).trans ?_)
  rw [show (cfg0.win 1).index t = _ from (idx t).2]
  fin_cases a
  · rfl
  · show 0 * 32 + v.val = v.val; omega
  · show 0 * 128 + l.val = l.val; omega

end Cert.Kernel13Ideal.ScanV

namespace Cert.ScanV

open Cert.Reference13Ideal Cert.Reference13Ideal.Read Cert.Scan
open Idealize.ShloMosaic Idealize.ShloMosaic.TcCoe Idealize.ShloMosaic.Tactic Idealize.SL.Sem

/-- The reference's array. -/
theorem ref_eq (x0 : (⟨S4x1024x4352, .f32⟩ : BufTy).Contents (Elt Ideal)) : val_main_v5 (F := Ideal) x0 = values x0 := by
  funext i
  obtain ⟨t, v, l, rfl⟩ : ∃ (t : Fin 4352) (v : Fin 32) (l : Fin 128), i = ix3 t v l := ⟨i 0, i 1, i 2, eq_ix3 i⟩
  unfold val_main_v5 val_main_v4 val_main_v3 val_main_v2 val_main_v1 val_main_v0 values
  pointwise
  by_cases h : l.val < 64
  · rw [dif_pos h]
    obtain ⟨e, e'⟩ := rows l.val v.val (by omega)
    refine congrArg x0 (congrArg₂ (ix3 · · t) (Fin.ext ?_) (Fin.ext ?_))
    · show l.val / 16 = (l.val % 64 * 64 + (l.val / 64 * 32 + v.val)) / 1024
      rw [Nat.mod_eq_of_lt h, Nat.div_eq_of_lt h, Nat.zero_mul, Nat.zero_add, e]
    · show l.val % 16 * 64 + v.val = (l.val % 64 * 64 + (l.val / 64 * 32 + v.val)) % 1024
      rw [Nat.mod_eq_of_lt h, Nat.div_eq_of_lt h, Nat.zero_mul, Nat.zero_add, e']
  · rw [dif_neg h]
    obtain ⟨e, e'⟩ := rows (l.val - 64) (32 + v.val) (by omega)
    have hm : l.val % 64 = l.val - 64 := by omega
    have hd : l.val / 64 * 32 = 32 := by omega
    refine congrArg x0 (congrArg₂ (ix3 · · t) (Fin.ext ?_) (Fin.ext ?_))
    · show (l.val - 64) / 16 = (l.val % 64 * 64 + (l.val / 64 * 32 + v.val)) / 1024
      rw [hm, hd, e]
    · show (l.val - 64) % 16 * 64 + (32 + v.val) = (l.val % 64 * 64 + (l.val / 64 * 32 + v.val)) % 1024
      rw [hm, hd, e']

theorem frame_k : Cert.quiescent_Kernel13 := fun m g _ => Cert.Kernel13.Gen.frame m g

theorem frame_ki : Cert.quiescent_Kernel13Ideal := fun m g _ => Cert.Kernel13Ideal.Gen.frame m g

theorem frame_ri : Cert.quiescent_Reference13Ideal := fun m g _ =>
  (θ_run Cert.Reference13Ideal.defs _ _).mono (fun r h => ⟨fun c => (h c).2, Idealize.ShloMosaic.sem_eq_zero_of_no_sems (by decide) r.2⟩)
    (Cert.Reference13Ideal.Value.run (F := Ideal) m g)

open Cert.Kernel13Ideal.ScanV in
theorem algebraic : Cert.algebraic_Kernel13Ideal_Reference13Ideal := by
  intro m g m' g' _ hargs
  refine ⟨fun c => values (X m c), ?_, ?_⟩
  · exact (θ_run _ _ _).mono (fun r h c => ⟨(h c).1.trans (arr_eq m c), (h c).2⟩) (Cert.Kernel13Ideal.Value.run_blocks (F := Ideal) m g)
  · have tie : ∀ c, val_main_v5 (F := Ideal) _ = values (X m c) := fun c => (congrArg (val_main_v5 (F := Ideal)) (hargs c)).trans (ref_eq _)
    exact (θ_run _ _ _).mono (fun r h c => ⟨(h c).1.trans ((val_main_v5_eq (F := Ideal) _).trans (tie c)), (h c).2⟩) (Cert.Reference13Ideal.Value.run (F := Ideal) m' g')

end Cert.ScanV

end
-- ==== Proof.ScanOut.lean ====
/- The call that sums the two directions and lays the sum out by batch entry, time and column. -/
module

public import proofs.«01_k».proof.Defs
public import proofs.«01_k».proof.Proof.ScanSpec
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import Idealize.ShloMosaic.Lib.StableHlo.RunRead
public import Idealize.ShloMosaic.Lib.Claim

@[expose] public section

set_option maxRecDepth 16384
set_option Elab.async false

noncomputable section

namespace Cert.Kernel14Ideal.ScanOut

open Cert.Kernel14Ideal Cert.Kernel14Ideal.Gen Cert.Scan
open Idealize.ShloMosaic Idealize.ShloMosaic.TcCoe Idealize.ShloMosaic.Tactic
open Idealize.SL Idealize.SL.RA Idealize.SL.Sem

/-- What the scratch holds of two blocks: their sum, a row to a head's column. -/
def held (x0 x1 : Vec Ideal S128x32x128 .f32) : Vec Ideal S4096x128 .f32 :=
  fun y => x0 (ix3 (y 1) (vidx (y 0)) (vlane (y 0))) + x1 (ix3 (y 1) (vidx (y 0)) (vlane (y 0)))

/-- What a block of the result is. -/
def laid (x0 x1 : Vec Ideal S128x32x128 .f32) : Vec Ideal S4x128x1024 .f32 := fun y => held x0 x1 (ix2 (crow (y 0) (y 2)) (y 1))

/-- The sum of two columns, by time below; its first and its second half. -/
def lower (u v : Vec Ideal S128x1x128 .f32) : Vec Ideal S64x128 .f32 :=
  shapeCast S64x128 (extractStridedSlice S64x128 ![0, 0] (transpose S128x128 [1, 0] (addf (shapeCast S128x128 u shapeCasts_S128x1x128_S128x128 : FVec Ideal S128x128 .f32)
    (shapeCast S128x128 v shapeCasts_S128x1x128_S128x128 : FVec Ideal S128x128 .f32) : FVec Ideal S128x128 .f32) transposes_S128x128_p1_0_S128x128) slices_S128x128_o0_0_S64x128) shapeCasts_S64x128_S64x128

def upper (u v : Vec Ideal S128x1x128 .f32) : Vec Ideal S64x128 .f32 :=
  shapeCast S64x128 (extractStridedSlice S64x128 ![64, 0] (transpose S128x128 [1, 0] (addf (shapeCast S128x128 u shapeCasts_S128x1x128_S128x128 : FVec Ideal S128x128 .f32)
    (shapeCast S128x128 v shapeCasts_S128x1x128_S128x128 : FVec Ideal S128x128 .f32) : FVec Ideal S128x128 .f32) transposes_S128x128_p1_0_S128x128) slices_S128x128_o64_0_S64x128) shapeCasts_S64x128_S64x128

theorem lower_apply (u v : Vec Ideal S128x1x128 .f32) (l : Fin 64) (r : Fin 128) :
    lower u v (ix2 l r) = @HAdd.hAdd EReal EReal EReal _ (u (ix3 r 0 ⟨l.val, by omega⟩)) (v (ix3 r 0 ⟨l.val, by omega⟩)) := by
  unfold lower
  pointwise

theorem upper_apply (u v : Vec Ideal S128x1x128 .f32) (l : Fin 64) (r : Fin 128) :
    upper u v (ix2 l r) = @HAdd.hAdd EReal EReal EReal _ (u (ix3 r 0 ⟨64 + l.val, by omega⟩)) (v (ix3 r 0 ⟨64 + l.val, by omega⟩)) := by
  unfold upper
  pointwise

/-- The rows that one store writes: every head's `k`-th. -/
def rows (k : Fin 64) : Rect S4096x128 where
  off := ![k.val, 0]
  size := S64x128.size
  stride := ![64, 1]
  inb := fun a => by
    fin_cases a
    · exact Or.inr (show k.val + 64 * 63 < 4096 by omega)
    · exact Or.inr (show 0 + 1 * 127 < 128 by omega)
  stride_pos := spos_64_1

theorem mem_rows (n : Fin 4096) (r : Fin 128) : ix2 n r ∈ (rows ⟨n.val % 64, by omega⟩).set := by
  refine (LoadRect.mem_set _).mpr fun a => ?_
  fin_cases a
  · exact ⟨n.val / 64, (by omega : n.val / 64 < 64), (by omega : n.val = n.val % 64 + 64 * (n.val / 64))⟩
  · exact ⟨r.val, r.isLt, (by omega : r.val = 0 + 1 * r.val)⟩

theorem col {k : ℕ} (hk : k + 1 ≤ 32) : ∀ a, (![0, k, 0] : Fin 3 → ℕ) a + S128x1x128.size a ≤ S128x32x128.size a := by
  intro a
  fin_cases a
  · exact (by omega : 0 + 128 ≤ 128)
  · exact hk
  · exact (by omega : 0 + 128 ≤ 128)

theorem lower_store (arg1 : Memref sig .tc .vmem S128x32x128 .f32) (harg1 : arg1.IsWhole) (arg2 : Memref sig .tc .vmem S128x32x128 .f32) (harg2 : arg2.IsWhole)
    (x0 x1 : Vec Ideal S128x32x128 .f32) (k : ℕ) (hk : k + 1 ≤ 32)
    (i3 : ∀ a, S64x128.size a = 0 ∨ (![k, 0] : Fin 2 → ℕ) a + (![64, 1] : Fin 2 → ℕ) a * (S64x128.size a - 1) < S4096x128.size a)
    (p : Vec Ideal S64x128 .f32) (hp : p = lower (View.readAt (Elt Ideal) arg1.view (Rect.unit (s := S128x32x128) ![0, k, 0] S128x1x128.size (col hk)).toLoadRect (harg1.unread x0))
      (View.readAt (Elt Ideal) arg2.view (Rect.unit (s := S128x32x128) ![0, k, 0] S128x1x128.size (col hk)).toLoadRect (harg2.unread x1))) :
    Writes (held x0 x1) ⟨{ off := ![k, 0], size := S64x128.size, stride := ![64, 1], inb := i3, stride_pos := spos_64_1 }, p⟩ := by
  subst hp
  intro x
  obtain ⟨l, r, rfl⟩ : ∃ (l : Fin 64) (r : Fin 128), x = ix2 l r := ⟨x 0, x 1, eq_ix2 x⟩
  refine (lower_apply _ _ l r).trans (congrArg₂ _ ((Memref.IsWhole.readAt_unread harg1 x0 _ _).trans (congrArg x0 (funext fun a => Fin.ext ?_)))
    ((Memref.IsWhole.readAt_unread harg2 x1 _ _).trans (congrArg x1 (funext fun a => Fin.ext ?_)))) <;>
  fin_cases a
  · rfl
  · show k + 1 * 0 = (k + 64 * l.val) % 32; omega
  · show 0 + 1 * l.val = (k + 64 * l.val) % 64 / 32 * 64 + (k + 64 * l.val) / 64; omega
  · rfl
  · show k + 1 * 0 = (k + 64 * l.val) % 32; omega
  · show 0 + 1 * l.val = (k + 64 * l.val) % 64 / 32 * 64 + (k + 64 * l.val) / 64; omega

theorem upper_store (arg1 : Memref sig .tc .vmem S128x32x128 .f32) (harg1 : arg1.IsWhole) (arg2 : Memref sig .tc .vmem S128x32x128 .f32) (harg2 : arg2.IsWhole)
    (x0 x1 : Vec Ideal S128x32x128 .f32) (k : ℕ) (hk : k + 1 ≤ 32)
    (i3 : ∀ a, S64x128.size a = 0 ∨ (![k + 32, 0] : Fin 2 → ℕ) a + (![64, 1] : Fin 2 → ℕ) a * (S64x128.size a - 1) < S4096x128.size a)
    (p : Vec Ideal S64x128 .f32) (hp : p = upper (View.readAt (Elt Ideal) arg1.view (Rect.unit (s := S128x32x128) ![0, k, 0] S128x1x128.size (col hk)).toLoadRect (harg1.unread x0))
      (View.readAt (Elt Ideal) arg2.view (Rect.unit (s := S128x32x128) ![0, k, 0] S128x1x128.size (col hk)).toLoadRect (harg2.unread x1))) :
    Writes (held x0 x1) ⟨{ off := ![k + 32, 0], size := S64x128.size, stride := ![64, 1], inb := i3, stride_pos := spos_64_1 }, p⟩ := by
  subst hp
  intro x
  obtain ⟨l, r, rfl⟩ : ∃ (l : Fin 64) (r : Fin 128), x = ix2 l r := ⟨x 0, x 1, eq_ix2 x⟩
  refine (upper_apply _ _ l r).trans (congrArg₂ _ ((Memref.IsWhole.readAt_unread harg1 x0 _ _).trans (congrArg x0 (funext fun a => Fin.ext ?_)))
    ((Memref.IsWhole.readAt_unread harg2 x1 _ _).trans (congrArg x1 (funext fun a => Fin.ext ?_)))) <;>
  fin_cases a
  · rfl
  · show k + 1 * 0 = (k + 32 + 64 * l.val) % 32; omega
  · show 0 + 1 * (64 + l.val) = (k + 32 + 64 * l.val) % 64 / 32 * 64 + (k + 32 + 64 * l.val) / 64; omega
  · rfl
  · show k + 1 * 0 = (k + 32 + 64 * l.val) % 32; omega
  · show 0 + 1 * (64 + l.val) = (k + 32 + 64 * l.val) % 64 / 32 * 64 + (k + 32 + 64 * l.val) / 64; omega

/-- The columns in the order in which the scratch's stores stand, the last first. -/
def order : List (Fin 64) := [63, 31, 62, 30, 61, 29, 60, 28, 59, 27, 58, 26, 57, 25, 56, 24, 55, 23, 54, 22, 53, 21, 52, 20, 51, 19, 50, 18, 49, 17, 48, 16, 47, 15, 46, 14, 45, 13, 44, 12, 43, 11, 42, 10, 41, 9, 40, 8, 39, 7, 38, 6, 37, 5, 36, 4, 35, 3, 34, 2, 33, 1, 32, 0]

theorem mem_order : ∀ k, k ∈ order := by decide +kernel

/-- The stores into the scratch, each with its column. -/
theorem stores (c : Dev nD) (arg1 : Memref sig .tc .vmem S128x32x128 .f32) (harg1 : arg1.IsWhole) (arg2 : Memref sig .tc .vmem S128x32x128 .f32) (harg2 : arg2.IsWhole)
    (x0 x1 : Vec Ideal S128x32x128 .f32) : List.Forall₂ (fun p k => p.1 = rows k ∧ Writes (held x0 x1) p) (kernelRun0_A.sl.HS0_64 (F := Ideal) c arg1 harg1 arg2 harg2 x0 x1) order := by
  delta kernelRun0_A.sl.HS0_64
  unfold order
  dsimp only
  repeat' (first | exact List.Forall₂.nil | refine List.Forall₂.cons ⟨rfl, upper_store arg1 harg1 arg2 harg2 x0 x1 _ (by decide) _ _ (by rfl)⟩ (List.Forall₂.cons ⟨rfl, lower_store arg1 harg1 arg2 harg2 x0 x1 _ (by decide) _ _ (by rfl)⟩ ?_))

/-- The scratch, read back. -/
theorem back_eq (c : Dev nD) (arg1 : Memref sig .tc .vmem S128x32x128 .f32) (harg1 : arg1.IsWhole) (arg2 : Memref sig .tc .vmem S128x32x128 .f32) (harg2 : arg2.IsWhole)
    (arg4 : Memref sig .tc .vmem S4096x128 .f32) (x0 x1 : Vec Ideal S128x32x128 .f32) (B : LoadRect S4096x128) :
    arg4.view.readCov (kernelRun0_A.sl.HS0_64 (F := Ideal) c arg1 harg1 arg2 harg2 x0 x1) B = fun j => held x0 x1 (B.idx j) := by
  rw [View.readCov_eq_canon']
  refine funext fun j => congrFun (canon_of _ _ (fun y => ?_) fun p hp => (forall_of_along (stores c arg1 harg1 arg2 harg2 x0 x1) hp).choose_spec.2) (B.idx j)
  obtain ⟨n, r, rfl⟩ : ∃ (n : Fin 4096) (r : Fin 128), y = ix2 n r := ⟨y 0, y 1, eq_ix2 y⟩
  obtain ⟨p, hp, e, -⟩ := exists_of_along (stores c arg1 harg1 arg2 harg2 x0 x1) (mem_order ⟨n.val % 64, by omega⟩)
  exact ⟨p, hp, e ▸ mem_rows n r⟩

/-- A square of the scratch, by time. -/
def turned (u : Vec Ideal S128x128 .f32) : Vec Ideal S1x128x128 .f32 :=
  shapeCast S1x128x128 (transpose S128x128 [1, 0] u transposes_S128x128_p1_0_S128x128) shapeCasts_S128x128_S1x128x128

theorem turned_apply (u : Vec Ideal S128x128 .f32) (z : Fin 1) (r o : Fin 128) : turned u (ix3 z r o) = u (ix2 o r) := by
  unfold turned
  pointwise

/-- One store of the result. -/
theorem store (c : Dev nD) (arg1 : Memref sig .tc .vmem S128x32x128 .f32) (harg1 : arg1.IsWhole) (arg2 : Memref sig .tc .vmem S128x32x128 .f32) (harg2 : arg2.IsWhole)
    (arg4 : Memref sig .tc .vmem S4096x128 .f32) (x0 x1 : Vec Ideal S128x32x128 .f32) (b o q : ℕ)
    (i1 : ∀ a, (![q, 0] : Fin 2 → ℕ) a + S128x128.size a ≤ S4096x128.size a) (i3 : ∀ a, (![b, 0, o] : Fin 3 → ℕ) a + S1x128x128.size a ≤ S4x128x1024.size a)
    (hq : q = b * 1024 + o) :
    Writes (laid x0 x1) ⟨Rect.unit (s := S4x128x1024) ![b, 0, o] S1x128x128.size i3,
      turned (arg4.view.readCov (kernelRun0_A.sl.HS0_64 (F := Ideal) c arg1 harg1 arg2 harg2 x0 x1) (Rect.unit (s := S4096x128) ![q, 0] S128x128.size i1).toLoadRect)⟩ := by
  intro x
  obtain ⟨z, r, l, rfl⟩ : ∃ (z : Fin 1) (r : Fin 128) (l : Fin 128), x = ix3 z r l := ⟨x 0, x 1, x 2, eq_ix3 x⟩
  refine (turned_apply (arg4.view.readCov (kernelRun0_A.sl.HS0_64 (F := Ideal) c arg1 harg1 arg2 harg2 x0 x1) (Rect.unit (s := S4096x128) ![q, 0] S128x128.size i1).toLoadRect) z r l).trans ?_
  refine (congrFun (back_eq c arg1 harg1 arg2 harg2 arg4 x0 x1 _) _).trans ?_
  refine congrArg (held x0 x1) (funext fun a => Fin.ext ?_)
  fin_cases a
  · show q + 1 * l.val = (b + 1 * z.val) * 1024 + (o + 1 * l.val); omega
  · rfl

/-- A block of the result, whole. -/
theorem out_eq (c : Dev nD) (i : grid0.Coords) (arg1 : Memref sig .tc .vmem S128x32x128 .f32) (harg1 : arg1.IsWhole) (arg2 : Memref sig .tc .vmem S128x32x128 .f32) (harg2 : arg2.IsWhole)
    (arg3 : Memref sig .tc .vmem S4x128x1024 .f32) (harg3 : arg3.IsWhole) (arg4 : Memref sig .tc .vmem S4096x128 .f32) (harg4 : arg4.IsWhole)
    (x0 x1 : Vec Ideal S128x32x128 .f32) : out0_A_2 c i arg1 harg1 arg2 harg2 arg3 harg3 arg4 harg4 x0 x1 = laid x0 x1 := by
  unfold out0_A_2
  rw [View.read_writes_junk_eq_canon]
  refine canon_of _ _ (fun y => cover0_A_2 c i arg1 harg1 arg2 harg2 arg3 harg3 arg4 harg4 x0 x1 y) ?_
  unfold kernelRun0_A
  dsimp only
  repeat' (first | exact List.forall_mem_nil _ | refine List.forall_mem_cons.mpr ⟨store c arg1 harg1 arg2 harg2 arg4 x0 x1 _ _ _ _ _ (by rfl), ?_⟩)

variable (m : (ℓ : Loc nD τ sig) → Buf (Elt Ideal) ℓ)

abbrev X (c : Dev nD) : (⟨3, ![4352, 32, 128]⟩ : Shape).Idx → EReal := m ((c : Thread nD τ).loc main_arg0)
abbrev Y (c : Dev nD) : (⟨3, ![4352, 32, 128]⟩ : Shape).Idx → EReal := m ((c : Thread nD τ).loc main_arg1)

theorem idx : ∀ t : Fin cfg0.N, win0_0.index t = ![t.val, 0, 0] ∧ win0_1.index t = ![t.val, 0, 0] ∧ win0_2.index t = ![0, t.val, 0] :=
  (by decide +kernel : ∀ t : Fin grid0.N, win0_0.index t = ![t.val, 0, 0] ∧ win0_1.index t = ![t.val, 0, 0] ∧ win0_2.index t = ![0, t.val, 0])

/-- The time of a row of a block. -/
abbrev tm (t : Fin cfg0.N) (r : Fin 128) : Fin 4352 := ⟨t.val * 128 + r.val, by have : t.val < 34 := t.isLt; omega⟩

/-- Where an entry of a direction's block lies. -/
theorem place (t : Fin cfg0.N) (e : (⟨3, ![128, 32, 128]⟩ : Shape).Idx → (⟨3, ![4352, 32, 128]⟩ : Shape).Idx) {p : Fin 3 → ℕ}
    (hp : p = ![t.val, 0, 0]) (h : ∀ y a, (e y a).val = p a * (![128, 32, 128] : Fin 3 → ℕ) a + (y a).val) (r : Fin 128) (v : Fin 32) (l : Fin 128) :
    e (ix3 r v l) = ix3 (tm t r) v l := by
  subst hp
  refine funext fun a => Fin.ext ((h _ a).trans ?_)
  fin_cases a
  · rfl
  · show 0 * 32 + v.val = v.val; omega
  · show 0 * 128 + l.val = l.val; omega

theorem x_blk (c : Dev nD) (t : Fin cfg0.N) (r : Fin 128) (v : Fin 32) (l : Fin 128) : iblk m c 0 t (ix3 r v l) = X m c (ix3 (tm t r) v l) :=
  (congrFun (V_main_arg0 m c) _).trans (congrArg (X m c) (place t _ (idx t).1 (fun y a => Pipeline.Window.rect_emb_val (cfg0.win 0) t y a rfl) r v l))

theorem y_blk (c : Dev nD) (t : Fin cfg0.N) (r : Fin 128) (v : Fin 32) (l : Fin 128) : iblk m c 1 t (ix3 r v l) = Y m c (ix3 (tm t r) v l) :=
  (congrFun (V_main_arg1 m c) _).trans (congrArg (Y m c) (place t _ (idx t).2.1 (fun y a => Pipeline.Window.rect_emb_val (cfg0.win 1) t y a rfl) r v l))

/-- The array after the run. -/
theorem arr_eq (c : Dev nD) : (dats m 0 c).arrAt 2 cfg0.N = summed (X m c) (Y m c) := by
  refine (dats m 0 c).arrAt_eq_of_covers 2 _ (by decide +kernel) fun t hf y => ?_
  obtain ⟨b, r, o, rfl⟩ : ∃ (b : Fin 4) (r : Fin 128) (o : Fin 1024), y = ix3 b r o := ⟨y 0, y 1, y 2, eq_ix3 y⟩
  refine (congrFun (Value.flushed2_A m c t) (ix3 b r o)).trans ((congrFun (out_eq c (grid0.coords t) (ms0_0 t) (hs0_0 t) (ms0_1 t) (hs0_1 t) (ms0_2 t) (hs0_2 t) scM0_0 (Memref.isWhole_whole _) (iblk m c 0 t) (iblk m c 1 t)) (ix3 b r o)).trans ?_)
  refine (congrArg₂ (fun x y : EReal => x + y) (x_blk m c t r (vidx (crow b o)) (vlane (crow b o))) (y_blk m c t r (vidx (crow b o)) (vlane (crow b o)))).trans
    (Eq.trans (b := summed (X m c) (Y m c) (ix3 b (tm t r) o)) rfl ?_)
  refine congrArg (summed (X m c) (Y m c)) (funext fun a => Fin.ext ?_)
  refine Eq.symm ((Pipeline.Window.rect_emb_val (cfg0.win 2) t (ix3 b r o) a rfl).trans ?_)
  rw [show (cfg0.win 2).index t = _ from (idx t).2.2]
  fin_cases a
  · show 0 * 4 + b.val = b.val; omega
  · rfl
  · show 0 * 1024 + o.val = o.val; omega

end Cert.Kernel14Ideal.ScanOut

namespace Cert.ScanOut

open Cert.Reference14Ideal Cert.Reference14Ideal.Read Cert.Scan
open Idealize.ShloMosaic Idealize.ShloMosaic.TcCoe Idealize.ShloMosaic.Tactic Idealize.SL.Sem

/-- The reference's array. -/
theorem ref_eq (x0 x1 : (⟨S4352x32x128, .f32⟩ : BufTy).Contents (Elt Ideal)) : val_main_v6 (F := Ideal) x0 x1 = summed x0 x1 := by
  funext i
  obtain ⟨b, t, o, rfl⟩ : ∃ (b : Fin 4) (t : Fin 4352) (o : Fin 1024), i = ix3 b t o := ⟨i 0, i 1, i 2, eq_ix3 i⟩
  unfold val_main_v6 val_main_v5 val_main_v4 val_main_v3 val_main_v2 val_main_v1 val_main_v0 summed
  pointwise
  have e : ∀ n n' : Fin 32, ∀ l l' : Fin 128, n = n' → l = l' → x0 (ix3 t n l) + x1 (ix3 t n l) = x0 (ix3 t n' l') + x1 (ix3 t n' l') := fun n n' l l' hn hl => by rw [hn, hl]
  have hc : (b.val * 1024 + o.val) % 64 = o.val % 64 := by omega
  have hr : (b.val * 1024 + o.val) / 64 = b.val * 16 + o.val / 64 := by omega
  have hv : (b.val * 1024 + o.val) % 32 = o.val % 64 % 32 := by omega
  by_cases h : o.val % 64 < 32
  · rw [dif_pos h]
    refine e _ _ _ _ (Fin.ext ?_) (Fin.ext ?_)
    · show o.val % 64 = (b.val * 1024 + o.val) % 32
      rw [hv, Nat.mod_eq_of_lt h]
    · show b.val * 16 + o.val / 64 = (b.val * 1024 + o.val) % 64 / 32 * 64 + (b.val * 1024 + o.val) / 64
      rw [hc, hr, Nat.div_eq_of_lt h, Nat.zero_mul, Nat.zero_add]
  · rw [dif_neg h]
    have hd : o.val % 64 / 32 * 64 = 64 := by omega
    refine e _ _ _ _ (Fin.ext ?_) (Fin.ext ?_)
    · show o.val % 64 - 32 = (b.val * 1024 + o.val) % 32
      rw [hv]; omega
    · show 64 + (b.val * 16 + o.val / 64) = (b.val * 1024 + o.val) % 64 / 32 * 64 + (b.val * 1024 + o.val) / 64
      rw [hc, hr, hd]

theorem frame_k : Cert.quiescent_Kernel14 := fun m g _ => Cert.Kernel14.Gen.frame m g

theorem frame_ki : Cert.quiescent_Kernel14Ideal := fun m g _ => Cert.Kernel14Ideal.Gen.frame m g

theorem frame_ri : Cert.quiescent_Reference14Ideal := fun m g _ =>
  (θ_run Cert.Reference14Ideal.defs _ _).mono (fun r h => ⟨fun c => (h c).2, Idealize.ShloMosaic.sem_eq_zero_of_no_sems (by decide) r.2⟩)
    (Cert.Reference14Ideal.Value.run (F := Ideal) m g)

open Cert.Kernel14Ideal.ScanOut in
theorem algebraic : Cert.algebraic_Kernel14Ideal_Reference14Ideal := by
  intro m g m' g' _ hargs
  refine ⟨fun c => summed (X m c) (Y m c), ?_, ?_⟩
  · exact (θ_run _ _ _).mono (fun r h c => ⟨(h c).1.trans (arr_eq m c), (h c).2⟩) (Cert.Kernel14Ideal.Value.run_blocks (F := Ideal) m g)
  · have tie : ∀ c, val_main_v6 (F := Ideal) _ _ = summed (X m c) (Y m c) := fun c => (congrArg₂ (val_main_v6 (F := Ideal)) (hargs c).1 (hargs c).2).trans (ref_eq _ _)
    exact (θ_run _ _ _).mono (fun r h c => ⟨(h c).1.trans ((val_main_v6_eq (F := Ideal) _ _).trans (tie c)), (h c).2⟩) (Cert.Reference14Ideal.Value.run (F := Ideal) m' g')

end Cert.ScanOut

end
-- ==== Proof.lean ====
/- The certificate's claims, put together: of each call both frames, its reference's frame, and the equality of the two
   programs' results over the extended reals. The experts' call (`Kernel2`, Proof/MoeClaim.lean) asks that the tables be in
   range, the end of the mixer (`Kernel10`, Proof/MergeClaim.lean) that the entries it sums be finite, and the routing
   (`Kernel11`, Proof/RouteClaim.lean) that the router's logits be finite; nothing is asked of the others' arguments: the dense feed-forward part (`Kernel3`, Proof/FfnClaim.lean), the four
   input projections (`Kernel4` to `Kernel7`, Proof/ProjQkvo.lean, ProjRwkv.lean, ProjMerge.lean, ProjGates.lean), the
   normal and modulation (`Kernel8`, Proof/NormClaim.lean), the modulation table (`Kernel9`, Proof/AdaClaim.lean), and the
   three layouts around the recurrence (`Kernel12` to `Kernel14`, Proof/ScanK.lean, ScanV.lean, ScanOut.lean). -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite
public import proofs.«01_k».proof.Proof.Gen.Pre_logits_finite
public import proofs.«01_k».proof.Proof.Gen.Pre_in_range
public import proofs.«01_k».proof.Proof.MoeClaim
public import proofs.«01_k».proof.Proof.FfnClaim
public import proofs.«01_k».proof.Proof.ProjQkvo
public import proofs.«01_k».proof.Proof.ProjRwkv
public import proofs.«01_k».proof.Proof.ProjMerge
public import proofs.«01_k».proof.Proof.ProjGates
public import proofs.«01_k».proof.Proof.NormClaim
public import proofs.«01_k».proof.Proof.AdaClaim
public import proofs.«01_k».proof.Proof.MergeClaim
public import proofs.«01_k».proof.Proof.RouteClaim
public import proofs.«01_k».proof.Proof.ScanK
public import proofs.«01_k».proof.Proof.ScanV
public import proofs.«01_k».proof.Proof.ScanOut
public import Idealize.ShloMosaic.Adequacy
public import Idealize.ShloMosaic.Init

@[expose] public section

noncomputable section

namespace Cert.Proof

/-- Every claim of the certificate. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_in_range.Gen.facts, Cert.Pre_finite.Gen.facts, Cert.Pre_logits_finite.Gen.facts,
    Cert.Moe.frame_k, Cert.Moe.frame_ki, Cert.Moe.frame_ri,
    Cert.Ffn.frame_k, Cert.Ffn.frame_ki, Cert.Ffn.frame_ri,
    Cert.Proj4.frame_k, Cert.Proj4.frame_ki, Cert.Proj4.frame_ri,
    Cert.Proj5.frame_k, Cert.Proj5.frame_ki, Cert.Proj5.frame_ri,
    Cert.Proj6.frame_k, Cert.Proj6.frame_ki, Cert.Proj6.frame_ri,
    Cert.Proj7.frame_k, Cert.Proj7.frame_ki, Cert.Proj7.frame_ri,
    Cert.Norm.frame_k, Cert.Norm.frame_ki, Cert.Norm.frame_ri,
    Cert.Ada.frame_k, Cert.Ada.frame_ki, Cert.Ada.frame_ri,
    Cert.Merge.frame_k, Cert.Merge.frame_ki, Cert.Merge.frame_ki_finite, Cert.Merge.frame_ri, Cert.Merge.frame_ri_finite,
    Cert.Route.frame_k, Cert.Route.frame_ki, Cert.Route.frame_ki_finite, Cert.Route.frame_ri, Cert.Route.frame_ri_finite,
    Cert.ScanK.frame_k, Cert.ScanK.frame_ki, Cert.ScanK.frame_ri,
    Cert.ScanV.frame_k, Cert.ScanV.frame_ki, Cert.ScanV.frame_ri,
    Cert.ScanOut.frame_k, Cert.ScanOut.frame_ki, Cert.ScanOut.frame_ri,
    trivial, Cert.Moe.algebraic,
    trivial, Cert.Ffn.algebraic,
    trivial, Cert.Proj4.algebraic,
    trivial, Cert.Proj5.algebraic,
    trivial, Cert.Proj6.algebraic,
    trivial, Cert.Proj7.algebraic,
    trivial, Cert.Norm.algebraic,
    trivial, Cert.Ada.algebraic,
    trivial, Cert.Merge.algebraic,
    trivial, Cert.Route.algebraic,
    trivial, Cert.ScanK.algebraic,
    trivial, Cert.ScanV.algebraic,
    trivial, Cert.ScanOut.algebraic⟩

end Cert.Proof

end
